-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S1 : Shape := ⟨1, ![1]⟩
abbrev S2x128x4096 : Shape := ⟨3, ![2, 128, 4096]⟩
abbrev S3x2x128x4096 : Shape := ⟨4, ![3, 2, 128, 4096]⟩
abbrev S7x2x128x4096 : Shape := ⟨4, ![7, 2, 128, 4096]⟩
abbrev S7x128x4096 : Shape := ⟨3, ![7, 128, 4096]⟩
abbrev S3 : Shape := ⟨1, ![3]⟩
abbrev S7 : Shape := ⟨1, ![7]⟩
abbrev S_ : Shape := ⟨0, ![]⟩
abbrev S128x4096 : Shape := ⟨2, ![128, 4096]⟩
abbrev S1x128x4096 : Shape := ⟨3, ![1, 128, 4096]⟩
abbrev S1x2x128x4096 : Shape := ⟨4, ![1, 2, 128, 4096]⟩
abbrev S128x512 : Shape := ⟨2, ![128, 512]⟩
abbrev S1x1x128x4096 : Shape := ⟨4, ![1, 1, 128, 4096]⟩

abbrev nBuf : Space → Nat
  | .hbm => 5
  | .vmem => 11
  | .smem => 2
  | _ => 0

abbrev bufTy : (tb : Table) → Fin (tcTables nBuf tb) → BufTy
  | .hbm, ⟨0, _⟩ => ⟨S256x4096, .fp8e5m2⟩
  | .hbm, ⟨1, _⟩ => ⟨S4096x512, .fp8e5m2⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .fp8e5m2⟩
  | .local _ .vmem, ⟨1, _⟩ => ⟨S4096x512, .fp8e5m2⟩
  | .local _ .vmem, ⟨2, _⟩ => ⟨S4096x512, .f32⟩
  | .local _ .vmem, ⟨3, _⟩ => ⟨S2x128x4096, .fp8e5m2⟩
  | .local _ .vmem, ⟨4, _⟩ => ⟨S4096x512, .fp8e5m2⟩
  | .local _ .vmem, ⟨5, _⟩ => ⟨S3x2x128x4096, .fp8e5m2⟩
  | .local _ .vmem, ⟨6, _⟩ => ⟨S3x2x128x4096, .fp8e5m2⟩
  | .local _ .vmem, ⟨7, _⟩ => ⟨S7x2x128x4096, .fp8e5m2⟩
  | .local _ .vmem, ⟨8, _⟩ => ⟨S7x2x128x4096, .fp8e5m2⟩
  | .local _ .vmem, ⟨9, _⟩ => ⟨S7x128x4096, .fp8e5m2⟩
  | .local _ .vmem, ⟨10, _⟩ => ⟨S7x128x4096, .fp8e5m2⟩
  | .local _ .smem, ⟨0, _⟩ => ⟨S1, .f32⟩
  | .local _ .smem, ⟨1, _⟩ => ⟨S1, .f32⟩
  | _, _ => ⟨S256x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_7 : BitVec 32 := 1#32
  let v18 : BitVec 32 := Scalar.muli v12 c1_i32_7
  let v19 : BitVec 32 := Scalar.addi c0_i32_8 v18
  v19.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_10 : BitVec 32 := 1#32
  let v20 : BitVec 32 := Scalar.muli v8 c1_i32_10
  let v21 : BitVec 32 := Scalar.addi c0_i32_11 v20
  v21.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32 : BitVec 32 := 2#32
  let v22 : BitVec 1 := Scalar.cmpi .sle v4 c2_i32
  let v23 : BitVec 32 := Scalar.extui v22
  let c0_i32_12 : BitVec 32 := 0#32
  let v24 : BitVec 1 := Scalar.cmpi .ne v23 c0_i32_12
  v24

def k0_dev3 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_4 : BitVec 32 := 4#32
  let v13 : BitVec 32 := Scalar.addi v2 c4_i32_4
  let c15_i32 : BitVec 32 := 15#32
  let v14 : BitVec 32 := Scalar.minsi v13 c15_i32
  let c1_i32_748 : BitVec 32 := 1#32
  let v428 : BitVec 32 := Scalar.muli v14 c1_i32_748
  let v429 : BitVec 32 := Scalar.addi c0_i32_749 v428
  v429.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_13 : BitVec 32 := 1#32
  let v25 : BitVec 1 := Scalar.cmpi .sge v4 c1_i32_13
  let v26 : BitVec 32 := Scalar.extui v25
  let c0_i32_14 : BitVec 32 := 0#32
  let v27 : BitVec 1 := Scalar.cmpi .ne v26 c0_i32_14
  v27

def k0_dev4 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v15 : BitVec 32 := Scalar.subi v2 c4_i32_5
  let c0_i32 : BitVec 32 := 0#32
  let v16 : BitVec 32 := Scalar.maxsi v15 c0_i32
  let c1_i32_748 : BitVec 32 := 1#32
  let v428 : BitVec 32 := Scalar.muli v16 c1_i32_748
  let v429 : BitVec 32 := Scalar.addi c0_i32_749 v428
  v429.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_27 : BitVec 32 := 2#32
  let v44 : BitVec 1 := Scalar.cmpi .sle v4 c2_i32_27
  let v45 : BitVec 32 := Scalar.extui v44
  let c0_i32_31 : BitVec 32 := 0#32
  let v46 : BitVec 1 := Scalar.cmpi .ne v45 c0_i32_31
  v46

def k0_dev5 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_4 : BitVec 32 := 4#32
  let v13 : BitVec 32 := Scalar.addi v2 c4_i32_4
  let c15_i32 : BitVec 32 := 15#32
  let v14 : BitVec 32 := Scalar.minsi v13 c15_i32
  let c1_i32_747 : BitVec 32 := 1#32
  let v428 : BitVec 32 := Scalar.muli v14 c1_i32_747
  let v429 : BitVec 32 := Scalar.addi c0_i32_748 v428
  v429.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_32 : BitVec 32 := 1#32
  let v47 : BitVec 1 := Scalar.cmpi .sge v4 c1_i32_32
  let v48 : BitVec 32 := Scalar.extui v47
  let c0_i32_36 : BitVec 32 := 0#32
  let v49 : BitVec 1 := Scalar.cmpi .ne v48 c0_i32_36
  v49

def k0_dev6 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v15 : BitVec 32 := Scalar.subi v2 c4_i32_5
  let c0_i32 : BitVec 32 := 0#32
  let v16 : BitVec 32 := Scalar.maxsi v15 c0_i32
  let c1_i32_747 : BitVec 32 := 1#32
  let v428 : BitVec 32 := Scalar.muli v16 c1_i32_747
  let v429 : BitVec 32 := Scalar.addi c0_i32_748 v428
  v429.toNat
def k0_dev7 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_40 : BitVec 32 := 1#32
  let v50 : BitVec 32 := Scalar.muli v8 c1_i32_40
  let v51 : BitVec 32 := Scalar.addi c0_i32_41 v50
  v51.toNat
def k0_dev8 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_48 : BitVec 32 := 1#32
  let v58 : BitVec 32 := Scalar.muli v12 c1_i32_48
  let v59 : BitVec 32 := Scalar.addi c0_i32_49 v58
  v59.toNat
def k0_off1 (d0 : Dev nD) : Fin 2 → Nat :=
  let c4_i32_59 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v74 : BitVec 32 := Scalar.muli c4_i32_59 v4
  let c4_i32 : BitVec 32 := 4#32
  let v3 : BitVec 32 := Scalar.remsi v2 c4_i32
  let v75 : BitVec 32 := Scalar.addi v74 v3
  let c256_i32 : BitVec 32 := 256#32
  let v78 : BitVec 32 := Scalar.muli v75 c256_i32
  let v85 : Index := Scalar.indexCast v78
  let c0_66 : Index := 0#32
  ![v85.toNat, 0]
def k0_off2 (d0 : Dev nD) : Fin 2 → Nat :=
  let c4_i32_59 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v74 : BitVec 32 := Scalar.muli c4_i32_59 v4
  let c4_i32 : BitVec 32 := 4#32
  let v3 : BitVec 32 := Scalar.remsi v2 c4_i32
  let v75 : BitVec 32 := Scalar.addi v74 v3
  let c256_i32_70 : BitVec 32 := 256#32
  let v89 : BitVec 32 := Scalar.muli v75 c256_i32_70
  let c128_i32 : BitVec 32 := 128#32
  let v90 : BitVec 32 := Scalar.addi v89 c128_i32
  let v97 : Index := Scalar.indexCast v90
  let c0_75 : Index := 0#32
  ![v97.toNat, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_82 : BitVec 32 := 1#32
  let v105 : BitVec 1 := Scalar.cmpi .sge v4 c1_i32_82
  let v106 : BitVec 32 := Scalar.extui v105
  let c0_i32_98 : BitVec 32 := 0#32
  let v107 : BitVec 1 := Scalar.cmpi .ne v106 c0_i32_98
  v107

def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_752 : BitVec 32 := 2#32
  let v434 : BitVec 1 := Scalar.cmpi .sle v4 c2_i32_752
  let v435 : BitVec 32 := Scalar.extui v434
  let c0_i32_753 : BitVec 32 := 0#32
  let v436 : BitVec 1 := Scalar.cmpi .ne v435 c0_i32_753
  v436

def k0_dev9 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_4 : BitVec 32 := 4#32
  let v13 : BitVec 32 := Scalar.addi v2 c4_i32_4
  let c15_i32 : BitVec 32 := 15#32
  let v14 : BitVec 32 := Scalar.minsi v13 c15_i32
  let c1_i32_800 : BitVec 32 := 1#32
  let v488 : BitVec 32 := Scalar.muli v14 c1_i32_800
  let v489 : BitVec 32 := Scalar.addi c0_i32_801 v488
  v489.toNat
def k0_dev10 (d0 : Dev nD) : Nat :=
  let c0_i32_755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_754 : BitVec 32 := 1#32
  let v437 : BitVec 32 := Scalar.muli v8 c1_i32_754
  let v438 : BitVec 32 := Scalar.addi c0_i32_755 v437
  v438.toNat
def k0_dev11 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_762 : BitVec 32 := 1#32
  let v447 : BitVec 32 := Scalar.muli v12 c1_i32_762
  let v448 : BitVec 32 := Scalar.addi c0_i32_763 v447
  v448.toNat
def k0_off3 (d0 : Dev nD) : Fin 2 → Nat :=
  let c4_i32_772 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_770 : BitVec 32 := 1#32
  let v457 : BitVec 32 := Scalar.subi v4 c1_i32_770
  let c0_i32_771 : BitVec 32 := 0#32
  let v458 : BitVec 32 := Scalar.subi v457 c0_i32_771
  let v459 : BitVec 32 := Scalar.muli c4_i32_772 v458
  let c4_i32 : BitVec 32 := 4#32
  let v3 : BitVec 32 := Scalar.remsi v2 c4_i32
  let v460 : BitVec 32 := Scalar.addi v459 v3
  let c256_i32_780 : BitVec 32 := 256#32
  let v465 : BitVec 32 := Scalar.muli v460 c256_i32_780
  let v472 : Index := Scalar.indexCast v465
  let c0_785 : Index := 0#32
  ![v472.toNat, 0]
def k0_off4 (d0 : Dev nD) : Fin 2 → Nat :=
  let c4_i32_772 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_770 : BitVec 32 := 1#32
  let v457 : BitVec 32 := Scalar.subi v4 c1_i32_770
  let c0_i32_771 : BitVec 32 := 0#32
  let v458 : BitVec 32 := Scalar.subi v457 c0_i32_771
  let v459 : BitVec 32 := Scalar.muli c4_i32_772 v458
  let c4_i32 : BitVec 32 := 4#32
  let v3 : BitVec 32 := Scalar.remsi v2 c4_i32
  let v460 : BitVec 32 := Scalar.addi v459 v3
  let c256_i32_793 : BitVec 32 := 256#32
  let v478 : BitVec 32 := Scalar.muli v460 c256_i32_793
  let c128_i32_794 : BitVec 32 := 128#32
  let v479 : BitVec 32 := Scalar.addi v478 c128_i32_794
  let v486 : Index := Scalar.indexCast v479
  let c0_799 : Index := 0#32
  ![v486.toNat, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_99 : BitVec 32 := 2#32
  let v108 : BitVec 1 := Scalar.cmpi .sle v4 c2_i32_99
  let v109 : BitVec 32 := Scalar.extui v108
  let c0_i32_115 : BitVec 32 := 0#32
  let v110 : BitVec 1 := Scalar.cmpi .ne v109 c0_i32_115
  v110

def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_752 : BitVec 32 := 1#32
  let v434 : BitVec 1 := Scalar.cmpi .sge v4 c1_i32_752
  let v435 : BitVec 32 := Scalar.extui v434
  let c0_i32_753 : BitVec 32 := 0#32
  let v436 : BitVec 1 := Scalar.cmpi .ne v435 c0_i32_753
  v436

def k0_dev12 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v15 : BitVec 32 := Scalar.subi v2 c4_i32_5
  let c0_i32 : BitVec 32 := 0#32
  let v16 : BitVec 32 := Scalar.maxsi v15 c0_i32
  let c1_i32_800 : BitVec 32 := 1#32
  let v488 : BitVec 32 := Scalar.muli v16 c1_i32_800
  let v489 : BitVec 32 := Scalar.addi c0_i32_801 v488
  v489.toNat
def k0_dev13 (d0 : Dev nD) : Nat :=
  let c0_i32_755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_754 : BitVec 32 := 1#32
  let v437 : BitVec 32 := Scalar.muli v8 c1_i32_754
  let v438 : BitVec 32 := Scalar.addi c0_i32_755 v437
  v438.toNat
def k0_dev14 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_762 : BitVec 32 := 1#32
  let v447 : BitVec 32 := Scalar.muli v12 c1_i32_762
  let v448 : BitVec 32 := Scalar.addi c0_i32_763 v447
  v448.toNat
def k0_off5 (d0 : Dev nD) : Fin 2 → Nat :=
  let c4_i32_772 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_770 : BitVec 32 := 1#32
  let v457 : BitVec 32 := Scalar.addi v4 c1_i32_770
  let c0_i32_771 : BitVec 32 := 0#32
  let v458 : BitVec 32 := Scalar.addi v457 c0_i32_771
  let v459 : BitVec 32 := Scalar.muli c4_i32_772 v458
  let c4_i32 : BitVec 32 := 4#32
  let v3 : BitVec 32 := Scalar.remsi v2 c4_i32
  let v460 : BitVec 32 := Scalar.addi v459 v3
  let c256_i32_780 : BitVec 32 := 256#32
  let v465 : BitVec 32 := Scalar.muli v460 c256_i32_780
  let v472 : Index := Scalar.indexCast v465
  let c0_785 : Index := 0#32
  ![v472.toNat, 0]
def k0_off6 (d0 : Dev nD) : Fin 2 → Nat :=
  let c4_i32_772 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_770 : BitVec 32 := 1#32
  let v457 : BitVec 32 := Scalar.addi v4 c1_i32_770
  let c0_i32_771 : BitVec 32 := 0#32
  let v458 : BitVec 32 := Scalar.addi v457 c0_i32_771
  let v459 : BitVec 32 := Scalar.muli c4_i32_772 v458
  let c4_i32 : BitVec 32 := 4#32
  let v3 : BitVec 32 := Scalar.remsi v2 c4_i32
  let v460 : BitVec 32 := Scalar.addi v459 v3
  let c256_i32_793 : BitVec 32 := 256#32
  let v478 : BitVec 32 := Scalar.muli v460 c256_i32_793
  let c128_i32_794 : BitVec 32 := 128#32
  let v479 : BitVec 32 := Scalar.addi v478 c128_i32_794
  let v486 : Index := Scalar.indexCast v479
  let c0_799 : Index := 0#32
  ![v486.toNat, 0]
def k0_dev15 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_129 : BitVec 32 := 1#32
  let v117 : BitVec 32 := Scalar.muli v8 c1_i32_129
  let v118 : BitVec 32 := Scalar.addi c0_i32_130 v117
  v118.toNat
def k0_off7 (d0 : Dev nD) (c3_i32_76 : BitVec 32) : Fin 2 → Nat :=
  let c4_i32_135 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v127 : BitVec 32 := Scalar.muli c4_i32_135 v4
  let c4_i32 : BitVec 32 := 4#32
  let v3 : BitVec 32 := Scalar.remsi v2 c4_i32
  let v99 : BitVec 32 := Scalar.addi v3 c3_i32_76
  let c4_i32_77 : BitVec 32 := 4#32
  let v100 : BitVec 32 := Scalar.remsi v99 c4_i32_77
  let v128 : BitVec 32 := Scalar.addi v127 v100
  let c256_i32_143 : BitVec 32 := 256#32
  let v133 : BitVec 32 := Scalar.muli v128 c256_i32_143
  let v140 : Index := Scalar.indexCast v133
  let c0_148 : Index := 0#32
  ![v140.toNat, 0]
def k0_off8 (d0 : Dev nD) (c3_i32_76 : BitVec 32) : Fin 2 → Nat :=
  let c4_i32_135 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v127 : BitVec 32 := Scalar.muli c4_i32_135 v4
  let c4_i32 : BitVec 32 := 4#32
  let v3 : BitVec 32 := Scalar.remsi v2 c4_i32
  let v99 : BitVec 32 := Scalar.addi v3 c3_i32_76
  let c4_i32_77 : BitVec 32 := 4#32
  let v100 : BitVec 32 := Scalar.remsi v99 c4_i32_77
  let v128 : BitVec 32 := Scalar.addi v127 v100
  let c256_i32_156 : BitVec 32 := 256#32
  let v146 : BitVec 32 := Scalar.muli v128 c256_i32_156
  let c128_i32_157 : BitVec 32 := 128#32
  let v147 : BitVec 32 := Scalar.addi v146 c128_i32_157
  let v154 : Index := Scalar.indexCast v147
  let c0_162 : Index := 0#32
  ![v154.toNat, 0]
def k0_dev16 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_176 : BitVec 32 := 1#32
  let v162 : BitVec 32 := Scalar.muli v12 c1_i32_176
  let v163 : BitVec 32 := Scalar.addi c0_i32_177 v162
  v163.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_210 : BitVec 32 := 2#32
  let v201 : BitVec 1 := Scalar.cmpi .sge v4 c2_i32_210
  let v202 : BitVec 32 := Scalar.extui v201
  let c0_i32_227 : BitVec 32 := 0#32
  let v203 : BitVec 1 := Scalar.cmpi .ne v202 c0_i32_227
  v203

def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_755 : BitVec 32 := 2#32
  let v436 : BitVec 1 := Scalar.cmpi .sle v4 c2_i32_755
  let v437 : BitVec 32 := Scalar.extui v436
  let c0_i32_756 : BitVec 32 := 0#32
  let v438 : BitVec 1 := Scalar.cmpi .ne v437 c0_i32_756
  v438

def k0_dev17 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_4 : BitVec 32 := 4#32
  let v13 : BitVec 32 := Scalar.addi v2 c4_i32_4
  let c15_i32 : BitVec 32 := 15#32
  let v14 : BitVec 32 := Scalar.minsi v13 c15_i32
  let c1_i32_803 : BitVec 32 := 1#32
  let v490 : BitVec 32 := Scalar.muli v14 c1_i32_803
  let v491 : BitVec 32 := Scalar.addi c0_i32_804 v490
  v491.toNat
def k0_dev18 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_757 : BitVec 32 := 1#32
  let v439 : BitVec 32 := Scalar.muli v8 c1_i32_757
  let v440 : BitVec 32 := Scalar.addi c0_i32_758 v439
  v440.toNat
def k0_dev19 (d0 : Dev nD) : Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_765 : BitVec 32 := 1#32
  let v449 : BitVec 32 := Scalar.muli v12 c1_i32_765
  let v450 : BitVec 32 := Scalar.addi c0_i32_766 v449
  v450.toNat
def k0_off9 (d0 : Dev nD) : Fin 2 → Nat :=
  let c4_i32_775 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_773 : BitVec 32 := 1#32
  let v459 : BitVec 32 := Scalar.subi v4 c1_i32_773
  let c1_i32_774 : BitVec 32 := 1#32
  let v460 : BitVec 32 := Scalar.subi v459 c1_i32_774
  let v461 : BitVec 32 := Scalar.muli c4_i32_775 v460
  let c4_i32 : BitVec 32 := 4#32
  let v3 : BitVec 32 := Scalar.remsi v2 c4_i32
  let v462 : BitVec 32 := Scalar.addi v461 v3
  let c256_i32_783 : BitVec 32 := 256#32
  let v467 : BitVec 32 := Scalar.muli v462 c256_i32_783
  let v474 : Index := Scalar.indexCast v467
  let c0_788 : Index := 0#32
  ![v474.toNat, 0]
def k0_off10 (d0 : Dev nD) : Fin 2 → Nat :=
  let c4_i32_775 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_773 : BitVec 32 := 1#32
  let v459 : BitVec 32 := Scalar.subi v4 c1_i32_773
  let c1_i32_774 : BitVec 32 := 1#32
  let v460 : BitVec 32 := Scalar.subi v459 c1_i32_774
  let v461 : BitVec 32 := Scalar.muli c4_i32_775 v460
  let c4_i32 : BitVec 32 := 4#32
  let v3 : BitVec 32 := Scalar.remsi v2 c4_i32
  let v462 : BitVec 32 := Scalar.addi v461 v3
  let c256_i32_796 : BitVec 32 := 256#32
  let v480 : BitVec 32 := Scalar.muli v462 c256_i32_796
  let c128_i32_797 : BitVec 32 := 128#32
  let v481 : BitVec 32 := Scalar.addi v480 c128_i32_797
  let v488 : Index := Scalar.indexCast v481
  let c0_802 : Index := 0#32
  ![v488.toNat, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_228 : BitVec 32 := 1#32
  let v204 : BitVec 1 := Scalar.cmpi .sle v4 c1_i32_228
  let v205 : BitVec 32 := Scalar.extui v204
  let c0_i32_244 : BitVec 32 := 0#32
  let v206 : BitVec 1 := Scalar.cmpi .ne v205 c0_i32_244
  v206

def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_755 : BitVec 32 := 1#32
  let v436 : BitVec 1 := Scalar.cmpi .sge v4 c1_i32_755
  let v437 : BitVec 32 := Scalar.extui v436
  let c0_i32_756 : BitVec 32 := 0#32
  let v438 : BitVec 1 := Scalar.cmpi .ne v437 c0_i32_756
  v438

def k0_dev20 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v15 : BitVec 32 := Scalar.subi v2 c4_i32_5
  let c0_i32 : BitVec 32 := 0#32
  let v16 : BitVec 32 := Scalar.maxsi v15 c0_i32
  let c1_i32_803 : BitVec 32 := 1#32
  let v490 : BitVec 32 := Scalar.muli v16 c1_i32_803
  let v491 : BitVec 32 := Scalar.addi c0_i32_804 v490
  v491.toNat
def k0_dev21 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_757 : BitVec 32 := 1#32
  let v439 : BitVec 32 := Scalar.muli v8 c1_i32_757
  let v440 : BitVec 32 := Scalar.addi c0_i32_758 v439
  v440.toNat
def k0_dev22 (d0 : Dev nD) : Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_765 : BitVec 32 := 1#32
  let v449 : BitVec 32 := Scalar.muli v12 c1_i32_765
  let v450 : BitVec 32 := Scalar.addi c0_i32_766 v449
  v450.toNat
def k0_off11 (d0 : Dev nD) : Fin 2 → Nat :=
  let c4_i32_775 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_773 : BitVec 32 := 1#32
  let v459 : BitVec 32 := Scalar.addi v4 c1_i32_773
  let c1_i32_774 : BitVec 32 := 1#32
  let v460 : BitVec 32 := Scalar.addi v459 c1_i32_774
  let v461 : BitVec 32 := Scalar.muli c4_i32_775 v460
  let c4_i32 : BitVec 32 := 4#32
  let v3 : BitVec 32 := Scalar.remsi v2 c4_i32
  let v462 : BitVec 32 := Scalar.addi v461 v3
  let c256_i32_783 : BitVec 32 := 256#32
  let v467 : BitVec 32 := Scalar.muli v462 c256_i32_783
  let v474 : Index := Scalar.indexCast v467
  let c0_788 : Index := 0#32
  ![v474.toNat, 0]
def k0_off12 (d0 : Dev nD) : Fin 2 → Nat :=
  let c4_i32_775 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_773 : BitVec 32 := 1#32
  let v459 : BitVec 32 := Scalar.addi v4 c1_i32_773
  let c1_i32_774 : BitVec 32 := 1#32
  let v460 : BitVec 32 := Scalar.addi v459 c1_i32_774
  let v461 : BitVec 32 := Scalar.muli c4_i32_775 v460
  let c4_i32 : BitVec 32 := 4#32
  let v3 : BitVec 32 := Scalar.remsi v2 c4_i32
  let v462 : BitVec 32 := Scalar.addi v461 v3
  let c256_i32_796 : BitVec 32 := 256#32
  let v480 : BitVec 32 := Scalar.muli v462 c256_i32_796
  let c128_i32_797 : BitVec 32 := 128#32
  let v481 : BitVec 32 := Scalar.addi v480 c128_i32_797
  let v488 : Index := Scalar.indexCast v481
  let c0_802 : Index := 0#32
  ![v488.toNat, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_245 : BitVec 32 := 1#32
  let v207 : BitVec 1 := Scalar.cmpi .sge v4 c1_i32_245
  let v208 : BitVec 32 := Scalar.extui v207
  let c0_i32_255 : BitVec 32 := 0#32
  let v209 : BitVec 1 := Scalar.cmpi .ne v208 c0_i32_255
  v209

def k0_dev23 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_755 : BitVec 32 := 1#32
  let v436 : BitVec 32 := Scalar.muli v8 c1_i32_755
  let v437 : BitVec 32 := Scalar.addi c0_i32_756 v436
  v437.toNat
def k0_off13 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c0_i32_762 : BitVec 32 := 0#32
  let v447 : BitVec 32 := Scalar.subi v446 c0_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_771 : BitVec 32 := 256#32
  let v454 : BitVec 32 := Scalar.muli v449 c256_i32_771
  let v461 : Index := Scalar.indexCast v454
  let c0_776 : Index := 0#32
  ![v461.toNat, 0]
def k0_off14 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c0_i32_762 : BitVec 32 := 0#32
  let v447 : BitVec 32 := Scalar.subi v446 c0_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_256 : BitVec 32 := 1#32
  let v210 : BitVec 1 := Scalar.cmpi .sge v4 c1_i32_256
  let v211 : BitVec 32 := Scalar.extui v210
  let c0_i32_266 : BitVec 32 := 0#32
  let v212 : BitVec 1 := Scalar.cmpi .ne v211 c0_i32_266
  v212

def k0_dev24 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_755 : BitVec 32 := 1#32
  let v436 : BitVec 32 := Scalar.muli v12 c1_i32_755
  let v437 : BitVec 32 := Scalar.addi c0_i32_756 v436
  v437.toNat
def k0_off15 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c0_i32_762 : BitVec 32 := 0#32
  let v447 : BitVec 32 := Scalar.subi v446 c0_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_771 : BitVec 32 := 256#32
  let v454 : BitVec 32 := Scalar.muli v449 c256_i32_771
  let v461 : Index := Scalar.indexCast v454
  let c0_776 : Index := 0#32
  ![v461.toNat, 0]
def k0_off16 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c0_i32_762 : BitVec 32 := 0#32
  let v447 : BitVec 32 := Scalar.subi v446 c0_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_267 : BitVec 32 := 2#32
  let v213 : BitVec 1 := Scalar.cmpi .sle v4 c2_i32_267
  let v214 : BitVec 32 := Scalar.extui v213
  let c0_i32_277 : BitVec 32 := 0#32
  let v215 : BitVec 1 := Scalar.cmpi .ne v214 c0_i32_277
  v215

def k0_dev25 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_755 : BitVec 32 := 1#32
  let v436 : BitVec 32 := Scalar.muli v8 c1_i32_755
  let v437 : BitVec 32 := Scalar.addi c0_i32_756 v436
  v437.toNat
def k0_off17 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c0_i32_762 : BitVec 32 := 0#32
  let v447 : BitVec 32 := Scalar.addi v446 c0_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_771 : BitVec 32 := 256#32
  let v454 : BitVec 32 := Scalar.muli v449 c256_i32_771
  let v461 : Index := Scalar.indexCast v454
  let c0_776 : Index := 0#32
  ![v461.toNat, 0]
def k0_off18 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c0_i32_762 : BitVec 32 := 0#32
  let v447 : BitVec 32 := Scalar.addi v446 c0_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_278 : BitVec 32 := 2#32
  let v216 : BitVec 1 := Scalar.cmpi .sle v4 c2_i32_278
  let v217 : BitVec 32 := Scalar.extui v216
  let c0_i32_288 : BitVec 32 := 0#32
  let v218 : BitVec 1 := Scalar.cmpi .ne v217 c0_i32_288
  v218

def k0_dev26 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_755 : BitVec 32 := 1#32
  let v436 : BitVec 32 := Scalar.muli v12 c1_i32_755
  let v437 : BitVec 32 := Scalar.addi c0_i32_756 v436
  v437.toNat
def k0_off19 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c0_i32_762 : BitVec 32 := 0#32
  let v447 : BitVec 32 := Scalar.addi v446 c0_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_771 : BitVec 32 := 256#32
  let v454 : BitVec 32 := Scalar.muli v449 c256_i32_771
  let v461 : Index := Scalar.indexCast v454
  let c0_776 : Index := 0#32
  ![v461.toNat, 0]
def k0_off20 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c0_i32_762 : BitVec 32 := 0#32
  let v447 : BitVec 32 := Scalar.addi v446 c0_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_289 : BitVec 32 := 3#32
  let v219 : BitVec 1 := Scalar.cmpi .sge v4 c3_i32_289
  let v220 : BitVec 32 := Scalar.extui v219
  let c0_i32_302 : BitVec 32 := 0#32
  let v221 : BitVec 1 := Scalar.cmpi .ne v220 c0_i32_302
  v221

def k0_dev27 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_755 : BitVec 32 := 1#32
  let v436 : BitVec 32 := Scalar.muli v8 c1_i32_755
  let v437 : BitVec 32 := Scalar.addi c0_i32_756 v436
  v437.toNat
def k0_dev28 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_763 : BitVec 32 := 1#32
  let v446 : BitVec 32 := Scalar.muli v12 c1_i32_763
  let v447 : BitVec 32 := Scalar.addi c0_i32_764 v446
  v447.toNat
def k0_off21 (d0 : Dev nD) : Fin 2 → Nat :=
  let c4_i32_773 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_771 : BitVec 32 := 1#32
  let v456 : BitVec 32 := Scalar.subi v4 c1_i32_771
  let c2_i32_772 : BitVec 32 := 2#32
  let v457 : BitVec 32 := Scalar.subi v456 c2_i32_772
  let v458 : BitVec 32 := Scalar.muli c4_i32_773 v457
  let c4_i32 : BitVec 32 := 4#32
  let v3 : BitVec 32 := Scalar.remsi v2 c4_i32
  let v459 : BitVec 32 := Scalar.addi v458 v3
  let c256_i32_781 : BitVec 32 := 256#32
  let v464 : BitVec 32 := Scalar.muli v459 c256_i32_781
  let v471 : Index := Scalar.indexCast v464
  let c0_786 : Index := 0#32
  ![v471.toNat, 0]
def k0_off22 (d0 : Dev nD) : Fin 2 → Nat :=
  let c4_i32_773 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_771 : BitVec 32 := 1#32
  let v456 : BitVec 32 := Scalar.subi v4 c1_i32_771
  let c2_i32_772 : BitVec 32 := 2#32
  let v457 : BitVec 32 := Scalar.subi v456 c2_i32_772
  let v458 : BitVec 32 := Scalar.muli c4_i32_773 v457
  let c4_i32 : BitVec 32 := 4#32
  let v3 : BitVec 32 := Scalar.remsi v2 c4_i32
  let v459 : BitVec 32 := Scalar.addi v458 v3
  let c256_i32_794 : BitVec 32 := 256#32
  let v477 : BitVec 32 := Scalar.muli v459 c256_i32_794
  let c128_i32_795 : BitVec 32 := 128#32
  let v478 : BitVec 32 := Scalar.addi v477 c128_i32_795
  let v485 : Index := Scalar.indexCast v478
  let c0_800 : Index := 0#32
  ![v485.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c0_i32_303 : BitVec 32 := 0#32
  let v222 : BitVec 1 := Scalar.cmpi .sle v4 c0_i32_303
  let v223 : BitVec 32 := Scalar.extui v222
  let c0_i32_315 : BitVec 32 := 0#32
  let v224 : BitVec 1 := Scalar.cmpi .ne v223 c0_i32_315
  v224

def k0_dev29 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_755 : BitVec 32 := 1#32
  let v436 : BitVec 32 := Scalar.muli v8 c1_i32_755
  let v437 : BitVec 32 := Scalar.addi c0_i32_756 v436
  v437.toNat
def k0_dev30 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_763 : BitVec 32 := 1#32
  let v446 : BitVec 32 := Scalar.muli v12 c1_i32_763
  let v447 : BitVec 32 := Scalar.addi c0_i32_764 v446
  v447.toNat
def k0_off23 (d0 : Dev nD) : Fin 2 → Nat :=
  let c4_i32_773 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_771 : BitVec 32 := 1#32
  let v456 : BitVec 32 := Scalar.addi v4 c1_i32_771
  let c2_i32_772 : BitVec 32 := 2#32
  let v457 : BitVec 32 := Scalar.addi v456 c2_i32_772
  let v458 : BitVec 32 := Scalar.muli c4_i32_773 v457
  let c4_i32 : BitVec 32 := 4#32
  let v3 : BitVec 32 := Scalar.remsi v2 c4_i32
  let v459 : BitVec 32 := Scalar.addi v458 v3
  let c256_i32_781 : BitVec 32 := 256#32
  let v464 : BitVec 32 := Scalar.muli v459 c256_i32_781
  let v471 : Index := Scalar.indexCast v464
  let c0_786 : Index := 0#32
  ![v471.toNat, 0]
def k0_off24 (d0 : Dev nD) : Fin 2 → Nat :=
  let c4_i32_773 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_771 : BitVec 32 := 1#32
  let v456 : BitVec 32 := Scalar.addi v4 c1_i32_771
  let c2_i32_772 : BitVec 32 := 2#32
  let v457 : BitVec 32 := Scalar.addi v456 c2_i32_772
  let v458 : BitVec 32 := Scalar.muli c4_i32_773 v457
  let c4_i32 : BitVec 32 := 4#32
  let v3 : BitVec 32 := Scalar.remsi v2 c4_i32
  let v459 : BitVec 32 := Scalar.addi v458 v3
  let c256_i32_794 : BitVec 32 := 256#32
  let v477 : BitVec 32 := Scalar.muli v459 c256_i32_794
  let c128_i32_795 : BitVec 32 := 128#32
  let v478 : BitVec 32 := Scalar.addi v477 c128_i32_795
  let v485 : Index := Scalar.indexCast v478
  let c0_800 : Index := 0#32
  ![v485.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_316 : BitVec 32 := 2#32
  let v225 : BitVec 1 := Scalar.cmpi .sge v4 c2_i32_316
  let v226 : BitVec 32 := Scalar.extui v225
  let c0_i32_326 : BitVec 32 := 0#32
  let v227 : BitVec 1 := Scalar.cmpi .ne v226 c0_i32_326
  v227

def k0_dev31 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_755 : BitVec 32 := 1#32
  let v436 : BitVec 32 := Scalar.muli v8 c1_i32_755
  let v437 : BitVec 32 := Scalar.addi c0_i32_756 v436
  v437.toNat
def k0_off25 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c1_i32_762 : BitVec 32 := 1#32
  let v447 : BitVec 32 := Scalar.subi v446 c1_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_771 : BitVec 32 := 256#32
  let v454 : BitVec 32 := Scalar.muli v449 c256_i32_771
  let v461 : Index := Scalar.indexCast v454
  let c0_776 : Index := 0#32
  ![v461.toNat, 0]
def k0_off26 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c1_i32_762 : BitVec 32 := 1#32
  let v447 : BitVec 32 := Scalar.subi v446 c1_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_327 : BitVec 32 := 2#32
  let v228 : BitVec 1 := Scalar.cmpi .sge v4 c2_i32_327
  let v229 : BitVec 32 := Scalar.extui v228
  let c0_i32_337 : BitVec 32 := 0#32
  let v230 : BitVec 1 := Scalar.cmpi .ne v229 c0_i32_337
  v230

def k0_dev32 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_755 : BitVec 32 := 1#32
  let v436 : BitVec 32 := Scalar.muli v12 c1_i32_755
  let v437 : BitVec 32 := Scalar.addi c0_i32_756 v436
  v437.toNat
def k0_off27 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c1_i32_762 : BitVec 32 := 1#32
  let v447 : BitVec 32 := Scalar.subi v446 c1_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_771 : BitVec 32 := 256#32
  let v454 : BitVec 32 := Scalar.muli v449 c256_i32_771
  let v461 : Index := Scalar.indexCast v454
  let c0_776 : Index := 0#32
  ![v461.toNat, 0]
def k0_off28 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c1_i32_762 : BitVec 32 := 1#32
  let v447 : BitVec 32 := Scalar.subi v446 c1_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_338 : BitVec 32 := 1#32
  let v231 : BitVec 1 := Scalar.cmpi .sle v4 c1_i32_338
  let v232 : BitVec 32 := Scalar.extui v231
  let c0_i32_348 : BitVec 32 := 0#32
  let v233 : BitVec 1 := Scalar.cmpi .ne v232 c0_i32_348
  v233

def k0_dev33 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_755 : BitVec 32 := 1#32
  let v436 : BitVec 32 := Scalar.muli v8 c1_i32_755
  let v437 : BitVec 32 := Scalar.addi c0_i32_756 v436
  v437.toNat
def k0_off29 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c1_i32_762 : BitVec 32 := 1#32
  let v447 : BitVec 32 := Scalar.addi v446 c1_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_771 : BitVec 32 := 256#32
  let v454 : BitVec 32 := Scalar.muli v449 c256_i32_771
  let v461 : Index := Scalar.indexCast v454
  let c0_776 : Index := 0#32
  ![v461.toNat, 0]
def k0_off30 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c1_i32_762 : BitVec 32 := 1#32
  let v447 : BitVec 32 := Scalar.addi v446 c1_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_349 : BitVec 32 := 1#32
  let v234 : BitVec 1 := Scalar.cmpi .sle v4 c1_i32_349
  let v235 : BitVec 32 := Scalar.extui v234
  let c0_i32_359 : BitVec 32 := 0#32
  let v236 : BitVec 1 := Scalar.cmpi .ne v235 c0_i32_359
  v236

def k0_dev34 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_755 : BitVec 32 := 1#32
  let v436 : BitVec 32 := Scalar.muli v12 c1_i32_755
  let v437 : BitVec 32 := Scalar.addi c0_i32_756 v436
  v437.toNat
def k0_off31 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c1_i32_762 : BitVec 32 := 1#32
  let v447 : BitVec 32 := Scalar.addi v446 c1_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_771 : BitVec 32 := 256#32
  let v454 : BitVec 32 := Scalar.muli v449 c256_i32_771
  let v461 : Index := Scalar.indexCast v454
  let c0_776 : Index := 0#32
  ![v461.toNat, 0]
def k0_off32 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c1_i32_762 : BitVec 32 := 1#32
  let v447 : BitVec 32 := Scalar.addi v446 c1_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_360 : BitVec 32 := 3#32
  let v237 : BitVec 1 := Scalar.cmpi .sge v4 c3_i32_360
  let v238 : BitVec 32 := Scalar.extui v237
  let c0_i32_370 : BitVec 32 := 0#32
  let v239 : BitVec 1 := Scalar.cmpi .ne v238 c0_i32_370
  v239

def k0_dev35 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_755 : BitVec 32 := 1#32
  let v436 : BitVec 32 := Scalar.muli v8 c1_i32_755
  let v437 : BitVec 32 := Scalar.addi c0_i32_756 v436
  v437.toNat
def k0_off33 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c2_i32_762 : BitVec 32 := 2#32
  let v447 : BitVec 32 := Scalar.subi v446 c2_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_771 : BitVec 32 := 256#32
  let v454 : BitVec 32 := Scalar.muli v449 c256_i32_771
  let v461 : Index := Scalar.indexCast v454
  let c0_776 : Index := 0#32
  ![v461.toNat, 0]
def k0_off34 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c2_i32_762 : BitVec 32 := 2#32
  let v447 : BitVec 32 := Scalar.subi v446 c2_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_371 : BitVec 32 := 3#32
  let v240 : BitVec 1 := Scalar.cmpi .sge v4 c3_i32_371
  let v241 : BitVec 32 := Scalar.extui v240
  let c0_i32_381 : BitVec 32 := 0#32
  let v242 : BitVec 1 := Scalar.cmpi .ne v241 c0_i32_381
  v242

def k0_dev36 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_755 : BitVec 32 := 1#32
  let v436 : BitVec 32 := Scalar.muli v12 c1_i32_755
  let v437 : BitVec 32 := Scalar.addi c0_i32_756 v436
  v437.toNat
def k0_off35 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c2_i32_762 : BitVec 32 := 2#32
  let v447 : BitVec 32 := Scalar.subi v446 c2_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_771 : BitVec 32 := 256#32
  let v454 : BitVec 32 := Scalar.muli v449 c256_i32_771
  let v461 : Index := Scalar.indexCast v454
  let c0_776 : Index := 0#32
  ![v461.toNat, 0]
def k0_off36 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.subi v4 c1_i32_761
  let c2_i32_762 : BitVec 32 := 2#32
  let v447 : BitVec 32 := Scalar.subi v446 c2_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c0_i32_382 : BitVec 32 := 0#32
  let v243 : BitVec 1 := Scalar.cmpi .sle v4 c0_i32_382
  let v244 : BitVec 32 := Scalar.extui v243
  let c0_i32_392 : BitVec 32 := 0#32
  let v245 : BitVec 1 := Scalar.cmpi .ne v244 c0_i32_392
  v245

def k0_dev37 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v5 : BitVec 32 := Scalar.subi v2 v3
  let c1_i32_1 : BitVec 32 := 1#32
  let v6 : BitVec 32 := Scalar.addi v3 c1_i32_1
  let c4_i32_2 : BitVec 32 := 4#32
  let v7 : BitVec 32 := Scalar.remsi v6 c4_i32_2
  let v8 : BitVec 32 := Scalar.addi v5 v7
  let c1_i32_755 : BitVec 32 := 1#32
  let v436 : BitVec 32 := Scalar.muli v8 c1_i32_755
  let v437 : BitVec 32 := Scalar.addi c0_i32_756 v436
  v437.toNat
def k0_off37 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c2_i32_762 : BitVec 32 := 2#32
  let v447 : BitVec 32 := Scalar.addi v446 c2_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_771 : BitVec 32 := 256#32
  let v454 : BitVec 32 := Scalar.muli v449 c256_i32_771
  let v461 : Index := Scalar.indexCast v454
  let c0_776 : Index := 0#32
  ![v461.toNat, 0]
def k0_off38 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c2_i32_762 : BitVec 32 := 2#32
  let v447 : BitVec 32 := Scalar.addi v446 c2_i32_762
  let v448 : BitVec 32 := Scalar.muli c4_i32_763 v447
  let c4_i32 : BitVec 32 := 4#32
  let v3 : BitVec 32 := Scalar.remsi v2 c4_i32
  let c3_i32_76 : BitVec 32 := 3#32
  let v99 : BitVec 32 := Scalar.addi v3 c3_i32_76
  let c4_i32_77 : BitVec 32 := 4#32
  let v100 : BitVec 32 := Scalar.remsi v99 c4_i32_77
  let v449 : BitVec 32 := Scalar.addi v448 v100
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c0_i32_393 : BitVec 32 := 0#32
  let v246 : BitVec 1 := Scalar.cmpi .sle v4 c0_i32_393
  let v247 : BitVec 32 := Scalar.extui v246
  let c0_i32_403 : BitVec 32 := 0#32
  let v248 : BitVec 1 := Scalar.cmpi .ne v247 c0_i32_403
  v248

def k0_dev38 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v9 : BitVec 32 := Scalar.subi v2 v3
  let c3_i32 : BitVec 32 := 3#32
  let v10 : BitVec 32 := Scalar.addi v3 c3_i32
  let c4_i32_3 : BitVec 32 := 4#32
  let v11 : BitVec 32 := Scalar.remsi v10 c4_i32_3
  let v12 : BitVec 32 := Scalar.addi v9 v11
  let c1_i32_755 : BitVec 32 := 1#32
  let v436 : BitVec 32 := Scalar.muli v12 c1_i32_755
  let v437 : BitVec 32 := Scalar.addi c0_i32_756 v436
  v437.toNat
def k0_off39 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c2_i32_762 : BitVec 32 := 2#32
  let v447 : BitVec 32 := Scalar.addi v446 c2_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_771 : BitVec 32 := 256#32
  let v454 : BitVec 32 := Scalar.muli v449 c256_i32_771
  let v461 : Index := Scalar.indexCast v454
  let c0_776 : Index := 0#32
  ![v461.toNat, 0]
def k0_off40 (d0 : Dev nD) : Fin 2 → Nat :=
  let c4_i32_763 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_761 : BitVec 32 := 1#32
  let v446 : BitVec 32 := Scalar.addi v4 c1_i32_761
  let c2_i32_762 : BitVec 32 := 2#32
  let v447 : BitVec 32 := Scalar.addi v446 c2_i32_762
  let v448 : BitVec 32 := Scalar.muli c4_i32_763 v447
  let c4_i32 : BitVec 32 := 4#32
  let v3 : BitVec 32 := Scalar.remsi v2 c4_i32
  let c1_i32_78 : BitVec 32 := 1#32
  let v101 : BitVec 32 := Scalar.addi v3 c1_i32_78
  let c4_i32_79 : BitVec 32 := 4#32
  let v102 : BitVec 32 := Scalar.remsi v101 c4_i32_79
  let v449 : BitVec 32 := Scalar.addi v448 v102
  let c256_i32_784 : BitVec 32 := 256#32
  let v467 : BitVec 32 := Scalar.muli v449 c256_i32_784
  let c128_i32_785 : BitVec 32 := 128#32
  let v468 : BitVec 32 := Scalar.addi v467 c128_i32_785
  let v475 : Index := Scalar.indexCast v468
  let c0_790 : Index := 0#32
  ![v475.toNat, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_447 : BitVec 32 := 1#32
  let v292 : BitVec 1 := Scalar.cmpi .sge v4 c1_i32_447
  let v293 : BitVec 32 := Scalar.extui v292
  let c0_i32_458 : BitVec 32 := 0#32
  let v294 : BitVec 1 := Scalar.cmpi .ne v293 c0_i32_458
  v294

def k0_off41 (d0 : Dev nD) : Fin 2 → Nat :=
  let c4_i32_758 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_756 : BitVec 32 := 1#32
  let v438 : BitVec 32 := Scalar.subi v4 c1_i32_756
  let c0_i32_757 : BitVec 32 := 0#32
  let v439 : BitVec 32 := Scalar.subi v438 c0_i32_757
  let v440 : BitVec 32 := Scalar.muli c4_i32_758 v439
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v441 : BitVec 32 := Scalar.addi v440 v104
  let c256_i32_759 : BitVec 32 := 256#32
  let v442 : BitVec 32 := Scalar.muli v441 c256_i32_759
  let v449 : Index := Scalar.indexCast v442
  let c0_764 : Index := 0#32
  ![v449.toNat, 0]
def k0_off42 (d0 : Dev nD) : Fin 2 → Nat :=
  let c4_i32_776 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_774 : BitVec 32 := 1#32
  let v461 : BitVec 32 := Scalar.subi v4 c1_i32_774
  let c0_i32_775 : BitVec 32 := 0#32
  let v462 : BitVec 32 := Scalar.subi v461 c0_i32_775
  let v463 : BitVec 32 := Scalar.muli c4_i32_776 v462
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v464 : BitVec 32 := Scalar.addi v463 v104
  let c256_i32_777 : BitVec 32 := 256#32
  let v465 : BitVec 32 := Scalar.muli v464 c256_i32_777
  let c128_i32_778 : BitVec 32 := 128#32
  let v466 : BitVec 32 := Scalar.addi v465 c128_i32_778
  let v473 : Index := Scalar.indexCast v466
  let c0_783 : Index := 0#32
  ![v473.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_459 : BitVec 32 := 2#32
  let v295 : BitVec 1 := Scalar.cmpi .sge v4 c2_i32_459
  let v296 : BitVec 32 := Scalar.extui v295
  let c0_i32_470 : BitVec 32 := 0#32
  let v297 : BitVec 1 := Scalar.cmpi .ne v296 c0_i32_470
  v297

def k0_off43 (d0 : Dev nD) : Fin 2 → Nat :=
  let c4_i32_757 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_755 : BitVec 32 := 1#32
  let v438 : BitVec 32 := Scalar.subi v4 c1_i32_755
  let c1_i32_756 : BitVec 32 := 1#32
  let v439 : BitVec 32 := Scalar.subi v438 c1_i32_756
  let v440 : BitVec 32 := Scalar.muli c4_i32_757 v439
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v441 : BitVec 32 := Scalar.addi v440 v104
  let c256_i32_758 : BitVec 32 := 256#32
  let v442 : BitVec 32 := Scalar.muli v441 c256_i32_758
  let v449 : Index := Scalar.indexCast v442
  let c0_763 : Index := 0#32
  ![v449.toNat, 0]
def k0_off44 (d0 : Dev nD) : Fin 2 → Nat :=
  let c4_i32_775 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_773 : BitVec 32 := 1#32
  let v461 : BitVec 32 := Scalar.subi v4 c1_i32_773
  let c1_i32_774 : BitVec 32 := 1#32
  let v462 : BitVec 32 := Scalar.subi v461 c1_i32_774
  let v463 : BitVec 32 := Scalar.muli c4_i32_775 v462
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v464 : BitVec 32 := Scalar.addi v463 v104
  let c256_i32_776 : BitVec 32 := 256#32
  let v465 : BitVec 32 := Scalar.muli v464 c256_i32_776
  let c128_i32_777 : BitVec 32 := 128#32
  let v466 : BitVec 32 := Scalar.addi v465 c128_i32_777
  let v473 : Index := Scalar.indexCast v466
  let c0_782 : Index := 0#32
  ![v473.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_471 : BitVec 32 := 3#32
  let v298 : BitVec 1 := Scalar.cmpi .sge v4 c3_i32_471
  let v299 : BitVec 32 := Scalar.extui v298
  let c0_i32_482 : BitVec 32 := 0#32
  let v300 : BitVec 1 := Scalar.cmpi .ne v299 c0_i32_482
  v300

def k0_off45 (d0 : Dev nD) : Fin 2 → Nat :=
  let c4_i32_757 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_755 : BitVec 32 := 1#32
  let v438 : BitVec 32 := Scalar.subi v4 c1_i32_755
  let c2_i32_756 : BitVec 32 := 2#32
  let v439 : BitVec 32 := Scalar.subi v438 c2_i32_756
  let v440 : BitVec 32 := Scalar.muli c4_i32_757 v439
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v441 : BitVec 32 := Scalar.addi v440 v104
  let c256_i32_758 : BitVec 32 := 256#32
  let v442 : BitVec 32 := Scalar.muli v441 c256_i32_758
  let v449 : Index := Scalar.indexCast v442
  let c0_763 : Index := 0#32
  ![v449.toNat, 0]
def k0_off46 (d0 : Dev nD) : Fin 2 → Nat :=
  let c4_i32_775 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_773 : BitVec 32 := 1#32
  let v461 : BitVec 32 := Scalar.subi v4 c1_i32_773
  let c2_i32_774 : BitVec 32 := 2#32
  let v462 : BitVec 32 := Scalar.subi v461 c2_i32_774
  let v463 : BitVec 32 := Scalar.muli c4_i32_775 v462
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v464 : BitVec 32 := Scalar.addi v463 v104
  let c256_i32_776 : BitVec 32 := 256#32
  let v465 : BitVec 32 := Scalar.muli v464 c256_i32_776
  let c128_i32_777 : BitVec 32 := 128#32
  let v466 : BitVec 32 := Scalar.addi v465 c128_i32_777
  let v473 : Index := Scalar.indexCast v466
  let c0_782 : Index := 0#32
  ![v473.toNat, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_483 : BitVec 32 := 2#32
  let v301 : BitVec 1 := Scalar.cmpi .sle v4 c2_i32_483
  let v302 : BitVec 32 := Scalar.extui v301
  let c0_i32_494 : BitVec 32 := 0#32
  let v303 : BitVec 1 := Scalar.cmpi .ne v302 c0_i32_494
  v303

def k0_off47 (d0 : Dev nD) : Fin 2 → Nat :=
  let c4_i32_757 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_755 : BitVec 32 := 1#32
  let v438 : BitVec 32 := Scalar.addi v4 c1_i32_755
  let c0_i32_756 : BitVec 32 := 0#32
  let v439 : BitVec 32 := Scalar.addi v438 c0_i32_756
  let v440 : BitVec 32 := Scalar.muli c4_i32_757 v439
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v441 : BitVec 32 := Scalar.addi v440 v104
  let c256_i32_758 : BitVec 32 := 256#32
  let v442 : BitVec 32 := Scalar.muli v441 c256_i32_758
  let v449 : Index := Scalar.indexCast v442
  let c0_763 : Index := 0#32
  ![v449.toNat, 0]
def k0_off48 (d0 : Dev nD) : Fin 2 → Nat :=
  let c4_i32_775 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_773 : BitVec 32 := 1#32
  let v461 : BitVec 32 := Scalar.addi v4 c1_i32_773
  let c0_i32_774 : BitVec 32 := 0#32
  let v462 : BitVec 32 := Scalar.addi v461 c0_i32_774
  let v463 : BitVec 32 := Scalar.muli c4_i32_775 v462
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v464 : BitVec 32 := Scalar.addi v463 v104
  let c256_i32_776 : BitVec 32 := 256#32
  let v465 : BitVec 32 := Scalar.muli v464 c256_i32_776
  let c128_i32_777 : BitVec 32 := 128#32
  let v466 : BitVec 32 := Scalar.addi v465 c128_i32_777
  let v473 : Index := Scalar.indexCast v466
  let c0_782 : Index := 0#32
  ![v473.toNat, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_495 : BitVec 32 := 1#32
  let v304 : BitVec 1 := Scalar.cmpi .sle v4 c1_i32_495
  let v305 : BitVec 32 := Scalar.extui v304
  let c0_i32_506 : BitVec 32 := 0#32
  let v306 : BitVec 1 := Scalar.cmpi .ne v305 c0_i32_506
  v306

def k0_off49 (d0 : Dev nD) : Fin 2 → Nat :=
  let c4_i32_757 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_755 : BitVec 32 := 1#32
  let v438 : BitVec 32 := Scalar.addi v4 c1_i32_755
  let c1_i32_756 : BitVec 32 := 1#32
  let v439 : BitVec 32 := Scalar.addi v438 c1_i32_756
  let v440 : BitVec 32 := Scalar.muli c4_i32_757 v439
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v441 : BitVec 32 := Scalar.addi v440 v104
  let c256_i32_758 : BitVec 32 := 256#32
  let v442 : BitVec 32 := Scalar.muli v441 c256_i32_758
  let v449 : Index := Scalar.indexCast v442
  let c0_763 : Index := 0#32
  ![v449.toNat, 0]
def k0_off50 (d0 : Dev nD) : Fin 2 → Nat :=
  let c4_i32_775 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_773 : BitVec 32 := 1#32
  let v461 : BitVec 32 := Scalar.addi v4 c1_i32_773
  let c1_i32_774 : BitVec 32 := 1#32
  let v462 : BitVec 32 := Scalar.addi v461 c1_i32_774
  let v463 : BitVec 32 := Scalar.muli c4_i32_775 v462
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v464 : BitVec 32 := Scalar.addi v463 v104
  let c256_i32_776 : BitVec 32 := 256#32
  let v465 : BitVec 32 := Scalar.muli v464 c256_i32_776
  let c128_i32_777 : BitVec 32 := 128#32
  let v466 : BitVec 32 := Scalar.addi v465 c128_i32_777
  let v473 : Index := Scalar.indexCast v466
  let c0_782 : Index := 0#32
  ![v473.toNat, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c0_i32_507 : BitVec 32 := 0#32
  let v307 : BitVec 1 := Scalar.cmpi .sle v4 c0_i32_507
  let v308 : BitVec 32 := Scalar.extui v307
  let c0_i32_518 : BitVec 32 := 0#32
  let v309 : BitVec 1 := Scalar.cmpi .ne v308 c0_i32_518
  v309

def k0_off51 (d0 : Dev nD) : Fin 2 → Nat :=
  let c4_i32_757 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_755 : BitVec 32 := 1#32
  let v438 : BitVec 32 := Scalar.addi v4 c1_i32_755
  let c2_i32_756 : BitVec 32 := 2#32
  let v439 : BitVec 32 := Scalar.addi v438 c2_i32_756
  let v440 : BitVec 32 := Scalar.muli c4_i32_757 v439
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v441 : BitVec 32 := Scalar.addi v440 v104
  let c256_i32_758 : BitVec 32 := 256#32
  let v442 : BitVec 32 := Scalar.muli v441 c256_i32_758
  let v449 : Index := Scalar.indexCast v442
  let c0_763 : Index := 0#32
  ![v449.toNat, 0]
def k0_off52 (d0 : Dev nD) : Fin 2 → Nat :=
  let c4_i32_775 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_773 : BitVec 32 := 1#32
  let v461 : BitVec 32 := Scalar.addi v4 c1_i32_773
  let c2_i32_774 : BitVec 32 := 2#32
  let v462 : BitVec 32 := Scalar.addi v461 c2_i32_774
  let v463 : BitVec 32 := Scalar.muli c4_i32_775 v462
  let c4_i32 : BitVec 32 := 4#32
  let v3 : BitVec 32 := Scalar.remsi v2 c4_i32
  let c2_i32_80 : BitVec 32 := 2#32
  let v103 : BitVec 32 := Scalar.addi v3 c2_i32_80
  let c4_i32_81 : BitVec 32 := 4#32
  let v104 : BitVec 32 := Scalar.remsi v103 c4_i32_81
  let v464 : BitVec 32 := Scalar.addi v463 v104
  let c256_i32_776 : BitVec 32 := 256#32
  let v465 : BitVec 32 := Scalar.muli v464 c256_i32_776
  let c128_i32_777 : BitVec 32 := 128#32
  let v466 : BitVec 32 := Scalar.addi v465 c128_i32_777
  let v473 : Index := Scalar.indexCast v466
  let c0_782 : Index := 0#32
  ![v473.toNat, 0]
abbrev stage0_0 : Fin 1 → Memref sig .tc .vmem S256x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Plan.lean ====
/-
# The exchange, as tables

Sixteen devices stand on four planes of four: device `c` is at place `c % 4` of plane `c / 4`. Every device
ends up reading every device's block of `x`. The blocks travel in seven *events* per plane: event 0 is the
plane's own block, events 1, 2, 3 are the blocks that climb from the planes below, events 4, 5, 6 the blocks that
descend from the planes above. Within a plane an event's block goes whole to the right and to the left
neighbour, and one half of what came from the left goes on to the right, one half of what came from the right goes
on to the left, so that the opposite device has both halves.

This file lists the 34 remote copies, who sends and who receives, whose block each carries, the place of every
send, receive and product in the program's order, and the levels that show no wait is circular. Everything here is
finite and decided.
-/
module

public import Idealize.ShloMosaic.Lib.Tactic

@[expose] public section

namespace Cert.Plan

open Idealize.ShloMosaic

/-- The remote copies: `z e` carries event `e + 1`'s block between planes; `r1 e`, `l1 e` carry event `e`'s whole
    block to the right and to the left; `r2 e`, `l2 e` pass one half of what came on, to the right and to the left. -/
inductive J where
  | z (e : Fin 6) | r1 (e : Fin 7) | l1 (e : Fin 7) | r2 (e : Fin 7) | l2 (e : Fin 7)
  deriving DecidableEq

namespace J

/-- The copies, numbered. -/
def ofFin (i : Fin 34) : J :=
  if h : i.val < 6 then z ⟨i.val, h⟩
  else if h : i.val < 13 then r1 ⟨i.val - 6, by omega⟩
  else if h : i.val < 20 then l1 ⟨i.val - 13, by omega⟩
  else if h : i.val < 27 then r2 ⟨i.val - 20, by omega⟩
  else l2 ⟨i.val - 27, by omega⟩

/-- A copy's number. -/
def toFin : J → Fin 34
  | z e => ⟨e.val, by omega⟩
  | r1 e => ⟨e.val + 6, by omega⟩
  | l1 e => ⟨e.val + 13, by omega⟩
  | r2 e => ⟨e.val + 20, by omega⟩
  | l2 e => ⟨e.val + 27, by omega⟩

theorem ofFin_toFin (j : J) : ofFin (toFin j) = j := by
  cases j with
  | z e => fin_cases e <;> rfl
  | r1 e => fin_cases e <;> rfl
  | l1 e => fin_cases e <;> rfl
  | r2 e => fin_cases e <;> rfl
  | l2 e => fin_cases e <;> rfl

theorem toFin_ofFin (i : Fin 34) : toFin (ofFin i) = i := by revert i; decide

/-- The copies and their numbers correspond. -/
def equiv : Fin 34 ≃ J := ⟨ofFin, toFin, toFin_ofFin, ofFin_toFin⟩

instance : Fintype J := Fintype.ofEquiv _ equiv

end J

/-- What holds of every numbered copy holds of every copy. -/
theorem forallJ {P : J → Prop} (h : ∀ i, P (J.ofFin i)) (j : J) : P j := by
  have := h j.toFin; rwa [J.ofFin_toFin] at this

/-- The device to the right on the plane, to the left, and the devices above and below (around the four planes). -/
def right (c : Fin 16) : Fin 16 := ⟨4 * (c.val / 4) + (c.val % 4 + 1) % 4, by omega⟩
def left (c : Fin 16) : Fin 16 := ⟨4 * (c.val / 4) + (c.val % 4 + 3) % 4, by omega⟩
def up (c : Fin 16) : Fin 16 := ⟨(c.val + 4) % 16, by omega⟩
def down (c : Fin 16) : Fin 16 := ⟨(c.val + 12) % 16, by omega⟩

theorem left_right (c : Fin 16) : left (right c) = c := by revert c; decide
theorem right_left (c : Fin 16) : right (left c) = c := by revert c; decide
theorem down_up (c : Fin 16) : down (up c) = c := by revert c; decide
theorem up_down (c : Fin 16) : up (down c) = c := by revert c; decide

/-- Event `e` takes place on the plane of device `c`. -/
def act (e : Fin 7) (c : Fin 16) : Bool :=
  e.val == 0 || (decide (1 ≤ e.val) && decide (e.val ≤ 3) && decide (e.val ≤ c.val / 4))
    || (decide (4 ≤ e.val) && decide (c.val / 4 + e.val ≤ 6))

/-- The four directions a copy can go: right, left, up, down. -/
def dir : J → Fin 4
  | .z e => if e.val < 3 then 2 else 3
  | .r1 _ => 0
  | .l1 _ => 1
  | .r2 _ => 0
  | .l2 _ => 1

/-- The neighbour in a direction, and the one in the direction's opposite. -/
def nb (d : Fin 4) (c : Fin 16) : Fin 16 := match d with | 0 => right c | 1 => left c | 2 => up c | 3 => down c
def bn (d : Fin 4) (c : Fin 16) : Fin 16 := match d with | 0 => left c | 1 => right c | 2 => down c | 3 => up c

theorem bn_nb (d : Fin 4) (c : Fin 16) : bn d (nb d c) = c := by revert d c; decide
theorem nb_bn (d : Fin 4) (c : Fin 16) : nb d (bn d c) = c := by revert d c; decide

/-- Where device `c`'s copy `j` goes; where the one it receives comes from. -/
def tgt (j : J) (c : Fin 16) : Fin 16 := nb (dir j) c
def frm (j : J) (c : Fin 16) : Fin 16 := bn (dir j) c

theorem frm_tgt (j : J) (c : Fin 16) : frm j (tgt j c) = c := bn_nb _ _
theorem tgt_frm (j : J) (c : Fin 16) : tgt j (frm j c) = c := nb_bn _ _

/-- The event a copy belongs to. -/
def ev : J → Fin 7
  | .z e => ⟨e.val + 1, by omega⟩
  | .r1 e => e
  | .l1 e => e
  | .r2 e => e
  | .l2 e => e

/-- Device `c` receives copy `j`; it sends copy `j`. -/
def ract (j : J) (c : Fin 16) : Bool := act (ev j) c
def sact (j : J) (c : Fin 16) : Bool := ract j (tgt j c)

/-- The event whose block is the source of event `e + 1`'s climb or descent. -/
def zpred (e : Fin 6) : Fin 7 := if e.val = 3 then 0 else ⟨e.val, by omega⟩

/-- The copy that brought event `e`'s block to the device (none for its own block). -/
def srcOf (e : Fin 7) : Option J := if h : e.val = 0 then none else some (.z ⟨e.val - 1, by omega⟩)

/-- The copy whose arrival a copy waits for before it can leave (none: it carries the device's own block). -/
def par : J → Option J
  | .z e => srcOf (zpred e)
  | .r1 e => srcOf e
  | .l1 e => srcOf e
  | .r2 e => some (.r1 e)
  | .l2 e => some (.l1 e)

/-- The device's place in the plane is kept and the plane is moved by `k` (around). -/
def plane (k : ℕ) (c : Fin 16) : Fin 16 := ⟨4 * ((c.val / 4 + k) % 4) + c.val % 4, by omega⟩

/-- Whose block event `e` brings to device `c` (at its own place of another plane). -/
def org (e : Fin 7) (c : Fin 16) : Fin 16 := plane (![0, 3, 2, 1, 1, 2, 3] e) c

/-- Whose block copy `j` brings to device `c`. -/
def oR (j : J) (c : Fin 16) : Fin 16 := match j with
  | .z e => org (ev (.z e)) c
  | .r1 e => left (org e c)
  | .l1 e => right (org e c)
  | .r2 e => right (right (org e c))
  | .l2 e => right (right (org e c))

/-- Whose block device `c` sends with copy `j`. -/
def oS (j : J) (c : Fin 16) : Fin 16 := match j with
  | .z e => org (zpred e) c
  | .r1 e => org e c
  | .l1 e => org e c
  | .r2 e => left (org e c)
  | .l2 e => right (org e c)

theorem oR_tgt (j : J) (c : Fin 16) : oR j (tgt j c) = oS j c := by
  revert j; exact forallJ (by revert c; decide)

/-- The source's block is the one its own arrival brought. -/
theorem oR_par (j p : J) (h : par j = some p) (c : Fin 16) : oR p c = oS j c := by
  have : ∀ (i i' : Fin 34), par (J.ofFin i) = some (J.ofFin i') → ∀ c, oR (J.ofFin i') c = oS (J.ofFin i) c := by decide +kernel
  have := this j.toFin p.toFin
  rw [J.ofFin_toFin, J.ofFin_toFin] at this; exact this h c
theorem oS_root (j : J) (h : par j = none) (c : Fin 16) : oS j c = c := by
  revert h; revert j; exact forallJ (by revert c; decide)

/-- What a device sends on it has received. -/
theorem sact_par (j p : J) (h : par j = some p) (c : Fin 16) (hs : sact j c = true) : ract p c = true := by
  have : ∀ (i i' : Fin 34), par (J.ofFin i) = some (J.ofFin i') → ∀ c, sact (J.ofFin i) c = true → ract (J.ofFin i') c = true := by
    decide +kernel
  have := this j.toFin p.toFin
  rw [J.ofFin_toFin, J.ofFin_toFin] at this; exact this h c hs

/-! ## Program order

Every send, receive-wait, send-wait and product of the program has a position. -/

/-- The position of the send of copy `j`. -/
def tS : J → ℕ
  | .z e => (![0, 7, 27, 1, 13, 33] : Fin 6 → ℕ) e
  | .r1 e => (![2, 8, 28, 55, 14, 34, 60] : Fin 7 → ℕ) e
  | .l1 e => (![3, 9, 29, 56, 15, 35, 61] : Fin 7 → ℕ) e
  | .r2 e => (![19, 39, 65, 81, 47, 73, 89] : Fin 7 → ℕ) e
  | .l2 e => (![23, 43, 69, 85, 51, 77, 93] : Fin 7 → ℕ) e
/-- The position of the wait for copy `j`'s arrival. -/
def tR : J → ℕ
  | .z e => (![6, 26, 54, 12, 32, 59] : Fin 6 → ℕ) e
  | .r1 e => (![18, 38, 64, 80, 46, 72, 88] : Fin 7 → ℕ) e
  | .l1 e => (![22, 42, 68, 84, 50, 76, 92] : Fin 7 → ℕ) e
  | .r2 e => (![96, 100, 104, 108, 112, 116, 120] : Fin 7 → ℕ) e
  | .l2 e => (![98, 102, 106, 110, 114, 118, 122] : Fin 7 → ℕ) e
/-- The position of the wait for copy `j`'s departure. -/
def tW : J → ℕ
  | .z e => (![124, 126, 128, 125, 127, 129] : Fin 6 → ℕ) e
  | .r1 e => (![130, 134, 138, 142, 146, 150, 154] : Fin 7 → ℕ) e
  | .l1 e => (![131, 135, 139, 143, 147, 151, 155] : Fin 7 → ℕ) e
  | .r2 e => (![132, 136, 140, 144, 148, 152, 156] : Fin 7 → ℕ) e
  | .l2 e => (![133, 137, 141, 145, 149, 153, 157] : Fin 7 → ℕ) e

/-- The products: event, region (source, from the left, from the right, opposite), half. -/
abbrev G : Type := Fin 7 × Fin 4 × Fin 2

/-- The position of a product's store. -/
def tG (g : G) : ℕ :=
  (![![![4, 5], ![20, 21], ![24, 25], ![97, 99]], ![![10, 11], ![40, 41], ![44, 45], ![101, 103]],
    ![![30, 31], ![66, 67], ![70, 71], ![105, 107]], ![![57, 58], ![82, 83], ![86, 87], ![109, 111]],
    ![![16, 17], ![48, 49], ![52, 53], ![113, 115]], ![![36, 37], ![74, 75], ![78, 79], ![117, 119]],
    ![![62, 63], ![90, 91], ![94, 95], ![121, 123]]] : Fin 7 → Fin 4 → Fin 2 → ℕ) g.1 g.2.1 g.2.2

/-- Whose block a product reads. -/
def gdev (g : G) (c : Fin 16) : Fin 16 := match g.2.1 with
  | 0 => org g.1 c
  | 1 => left (org g.1 c)
  | 2 => right (org g.1 c)
  | 3 => right (right (org g.1 c))

/-- No two operations have one position. -/
theorem tS_inj (j j' : J) (h : tS j = tS j') : j = j' := by
  have : ∀ i i' : Fin 34, tS (J.ofFin i) = tS (J.ofFin i') → i = i' := by decide +kernel
  have := this j.toFin j'.toFin; rw [J.ofFin_toFin, J.ofFin_toFin] at this
  exact J.equiv.symm.injective (this h)
theorem tR_inj (j j' : J) (h : tR j = tR j') : j = j' := by
  have : ∀ i i' : Fin 34, tR (J.ofFin i) = tR (J.ofFin i') → i = i' := by decide +kernel
  have := this j.toFin j'.toFin; rw [J.ofFin_toFin, J.ofFin_toFin] at this
  exact J.equiv.symm.injective (this h)
theorem tW_inj (j j' : J) (h : tW j = tW j') : j = j' := by
  have : ∀ i i' : Fin 34, tW (J.ofFin i) = tW (J.ofFin i') → i = i' := by decide +kernel
  have := this j.toFin j'.toFin; rw [J.ofFin_toFin, J.ofFin_toFin] at this
  exact J.equiv.symm.injective (this h)
theorem tS_ne_tR (j j' : J) : tS j ≠ tR j' := by
  have : ∀ i i' : Fin 34, tS (J.ofFin i) ≠ tR (J.ofFin i') := by decide +kernel
  have := this j.toFin j'.toFin; rwa [J.ofFin_toFin, J.ofFin_toFin] at this
theorem tS_ne_tW (j j' : J) : tS j ≠ tW j' := by
  have : ∀ i i' : Fin 34, tS (J.ofFin i) ≠ tW (J.ofFin i') := by decide +kernel
  have := this j.toFin j'.toFin; rwa [J.ofFin_toFin, J.ofFin_toFin] at this
theorem tR_ne_tW (j j' : J) : tR j ≠ tW j' := by
  have : ∀ i i' : Fin 34, tR (J.ofFin i) ≠ tW (J.ofFin i') := by decide +kernel
  have := this j.toFin j'.toFin; rwa [J.ofFin_toFin, J.ofFin_toFin] at this
theorem tG_ne_tS (g : G) (j : J) : tG g ≠ tS j := by
  have : ∀ (g : G) (i : Fin 34), tG g ≠ tS (J.ofFin i) := by decide +kernel
  have := this g j.toFin; rwa [J.ofFin_toFin] at this
theorem tG_ne_tR (g : G) (j : J) : tG g ≠ tR j := by
  have : ∀ (g : G) (i : Fin 34), tG g ≠ tR (J.ofFin i) := by decide +kernel
  have := this g j.toFin; rwa [J.ofFin_toFin] at this
theorem tG_ne_tW (g : G) (j : J) : tG g ≠ tW j := by
  have : ∀ (g : G) (i : Fin 34), tG g ≠ tW (J.ofFin i) := by decide +kernel
  have := this g j.toFin; rwa [J.ofFin_toFin] at this
theorem tG_inj (g g' : G) (h : tG g = tG g') : g = g' := by
  have : ∀ g g' : G, tG g = tG g' → g = g' := by decide +kernel
  exact this g g' h

/-- A copy leaves before its departure is waited for. -/
theorem tS_lt_tW (j : J) : tS j < tW j := by revert j; exact forallJ (by decide)
/-- A copy leaves after its source has arrived, and the source's arrival is waited for before its departure is. -/
theorem par_lt (j p : J) (h : par j = some p) : tR p < tS j := by
  have : ∀ (i i' : Fin 34), par (J.ofFin i) = some (J.ofFin i') → tR (J.ofFin i') < tS (J.ofFin i) := by decide +kernel
  have := this j.toFin p.toFin
  rw [J.ofFin_toFin, J.ofFin_toFin] at this; exact this h
/-- Every send and every arrival precedes position 124; everything precedes 158. -/
theorem tS_lt (j : J) : tS j < 124 := by revert j; exact forallJ (by decide)
theorem tR_lt (j : J) : tR j < 124 := by revert j; exact forallJ (by decide)
theorem tW_lt (j : J) : tW j < 158 := by revert j; exact forallJ (by decide)
theorem tG_lt (g : G) : tG g < 158 := by
  have : ∀ g : G, tG g < 158 := by decide +kernel
  exact this g

/-! ## Levels -/

/-- The level of copy `j`'s arrival. -/
def lvJ : J → ℕ
  | .z e => (![2, 5, 8, 2, 5, 8] : Fin 6 → ℕ) e
  | .r1 e => (![3, 4, 7, 10, 4, 7, 10] : Fin 7 → ℕ) e
  | .l1 e => (![3, 4, 7, 10, 4, 7, 10] : Fin 7 → ℕ) e
  | .r2 _ => 20
  | .l2 _ => 20

/-- Whatever is still to be sent when an arrival is waited for lies above it. -/
theorem lv_lt (j j' : J) (h : tR j ≤ tS j') : lvJ j < lvJ j' := by
  have : ∀ i i' : Fin 34, tR (J.ofFin i) ≤ tS (J.ofFin i') → lvJ (J.ofFin i) < lvJ (J.ofFin i') := by decide +kernel
  have := this j.toFin j'.toFin; rw [J.ofFin_toFin, J.ofFin_toFin] at this; exact this h
theorem two_le_lv (j : J) : 2 ≤ lvJ j := by revert j; exact forallJ (by decide)

/-! ## The products cover the result -/

/-- Every device's every half is the subject of a product that takes place. -/
theorem covered (c d : Fin 16) (h : Fin 2) : ∃ g : G, act g.1 c = true ∧ gdev g c = d ∧ g.2.2 = h := by
  revert c d h; decide +kernel

end Cert.Plan
-- ==== Proof.KernelIdeal.Proto.lean ====
/-
# The exchange's protocol over the kernel's buffers and semaphores

Each of the 34 copies of `Cert.Plan` as the memrefs and semaphores the program names, the schedule of the
semaphore cells (who pays a cell, how much, and what memory the payment hands over), what a device owes at each
position of the program, and the levels.
-/
module

public import proofs.«01_k».proof.Proof.Plan
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen Cert.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

abbrev UB : Type := URounds (GSem nD τ sig) (Fin 4)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-! ## Buffers -/

abbrev xM : Memref sig .tc .vmem S256x4096 .fp8e5m2 := Memref.whole cc0_stg0_0
abbrev wM : Memref sig .tc .vmem S4096x512 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x512 .f32 := Memref.whole cc0_stg4_0
abbrev x8 : Memref sig .tc .vmem S2x128x4096 .fp8e5m2 := Memref.whole cc0_scratch0
abbrev w8 : Memref sig .tc .vmem S4096x512 .fp8e5m2 := Memref.whole cc0_scratch1
abbrev zb : Memref sig .tc .vmem S3x2x128x4096 .fp8e5m2 := Memref.whole cc0_scratch2
abbrev za : Memref sig .tc .vmem S3x2x128x4096 .fp8e5m2 := Memref.whole cc0_scratch3
abbrev bl1 : Memref sig .tc .vmem S7x2x128x4096 .fp8e5m2 := Memref.whole cc0_scratch4
abbrev br1 : Memref sig .tc .vmem S7x2x128x4096 .fp8e5m2 := Memref.whole cc0_scratch5
abbrev bl2 : Memref sig .tc .vmem S7x128x4096 .fp8e5m2 := Memref.whole cc0_scratch6
abbrev br2 : Memref sig .tc .vmem S7x128x4096 .fp8e5m2 := Memref.whole cc0_scratch7

theorem inb3 (e : Fin 3) : ∀ a, (![e.val, 0, 0, 0] : Fin 4 → ℕ) a + S1x2x128x4096.size a ≤ S3x2x128x4096.size a := by
  revert e; decide
theorem inb7 (e : Fin 7) : ∀ a, (![e.val, 0, 0, 0] : Fin 4 → ℕ) a + S1x2x128x4096.size a ≤ S7x2x128x4096.size a := by
  revert e; decide
theorem inb7h (e : Fin 7) (h : Fin 2) : ∀ a, (![e.val, h.val, 0, 0] : Fin 4 → ℕ) a + S1x1x128x4096.size a ≤ S7x2x128x4096.size a := by
  revert e h; decide
theorem inb7s (e : Fin 7) : ∀ a, (![e.val, 0, 0] : Fin 3 → ℕ) a + S1x128x4096.size a ≤ S7x128x4096.size a := by
  revert e; decide
theorem inb2 (h : Fin 2) : ∀ a, (![h.val, 0, 0] : Fin 3 → ℕ) a + S1x128x4096.size a ≤ S2x128x4096.size a := by
  revert h; decide

/-- Slot `e` of one of the plane-to-plane buffers, -/
abbrev slot3 (m : Memref sig .tc .vmem S3x2x128x4096 .fp8e5m2) (e : Fin 3) : Memref sig .tc .vmem S2x128x4096 .fp8e5m2 :=
  (m.slice (Rect.unit (s := S3x2x128x4096) ![e.val, 0, 0, 0] S1x2x128x4096.size (inb3 e)) (fun _ => rfl)).squeeze S2x128x4096 squeezes_S1x2x128x4096_S2x128x4096
/-- slot `e` of a buffer of whole blocks, -/
abbrev slot7 (m : Memref sig .tc .vmem S7x2x128x4096 .fp8e5m2) (e : Fin 7) : Memref sig .tc .vmem S2x128x4096 .fp8e5m2 :=
  (m.slice (Rect.unit (s := S7x2x128x4096) ![e.val, 0, 0, 0] S1x2x128x4096.size (inb7 e)) (fun _ => rfl)).squeeze S2x128x4096 squeezes_S1x2x128x4096_S2x128x4096
/-- half `h` of slot `e` of such a buffer, -/
abbrev slot7h (m : Memref sig .tc .vmem S7x2x128x4096 .fp8e5m2) (e : Fin 7) (h : Fin 2) : Memref sig .tc .vmem S128x4096 .fp8e5m2 :=
  (m.slice (Rect.unit (s := S7x2x128x4096) ![e.val, h.val, 0, 0] S1x1x128x4096.size (inb7h e h)) (fun _ => rfl)).squeeze S128x4096 squeezes_S1x1x128x4096_S128x4096
/-- slot `e` of a buffer of half blocks. -/
abbrev slot7s (m : Memref sig .tc .vmem S7x128x4096 .fp8e5m2) (e : Fin 7) : Memref sig .tc .vmem S128x4096 .fp8e5m2 :=
  (m.slice (Rect.unit (s := S7x128x4096) ![e.val, 0, 0] S1x128x4096.size (inb7s e)) (fun _ => rfl)).squeeze S128x4096 squeezes_S1x128x4096_S128x4096

/-! ## The copies -/

/-- A remote copy: its shape, source and destination, the semaphore its departure credits on the sender and the one
    its arrival credits on the receiver. -/
structure Xfer where
  sh : Shape
  src : Memref sig .tc .vmem sh .fp8e5m2
  dst : Memref sig .tc .vmem sh .fp8e5m2
  ssem : DmaSem sig
  rsem : DmaSem sig

/-- Where event `e`'s block stands at a device: the device's own block, or a slot of a plane-to-plane buffer. -/
def srcM (e : Fin 7) : Memref sig .tc .vmem S2x128x4096 .fp8e5m2 := match e with
  | 0 => x8
  | 1 => slot3 zb 0
  | 2 => slot3 zb 1
  | 3 => slot3 zb 2
  | 4 => slot3 za 0
  | 5 => slot3 za 1
  | 6 => slot3 za 2

/-- The number of the semaphore of copy `j`'s departure and of its arrival. -/
def sNum : J → Fin 73
  | .z e => if e.val < 3 then ⟨5 + e.val, by omega⟩ else ⟨8 + e.val, by omega⟩
  | .r1 e => ⟨17 + e.val, by omega⟩
  | .l1 e => ⟨31 + e.val, by omega⟩
  | .r2 e => ⟨45 + e.val, by omega⟩
  | .l2 e => ⟨59 + e.val, by omega⟩
def rNum : J → Fin 73
  | .z e => if e.val < 3 then ⟨8 + e.val, by omega⟩ else ⟨11 + e.val, by omega⟩
  | .r1 e => ⟨24 + e.val, by omega⟩
  | .l1 e => ⟨38 + e.val, by omega⟩
  | .r2 e => ⟨52 + e.val, by omega⟩
  | .l2 e => ⟨66 + e.val, by omega⟩

/-- Copy `j` as the program names it. -/
def X (j : J) : Xfer := match j with
  | .z e => ⟨S2x128x4096, srcM (zpred e), srcM (ev (.z e)), sNum (.z e), rNum (.z e)⟩
  | .r1 e => ⟨S2x128x4096, srcM e, slot7 bl1 e, sNum (.r1 e), rNum (.r1 e)⟩
  | .l1 e => ⟨S2x128x4096, srcM e, slot7 br1 e, sNum (.l1 e), rNum (.l1 e)⟩
  | .r2 e => ⟨S128x4096, slot7h bl1 e 0, slot7s bl2 e, sNum (.r2 e), rNum (.r2 e)⟩
  | .l2 e => ⟨S128x4096, slot7h br1 e 1, slot7s br2 e, sNum (.l2 e), rNum (.l2 e)⟩

/-- The copy and the end (departure `false`, arrival `true`) a semaphore number serves. -/
def own (q : Fin 73) : Option (J × Bool) :=
  if q.val < 5 then none
  else if h : q.val < 8 then some (.z ⟨q.val - 5, by omega⟩, false)
  else if h : q.val < 11 then some (.z ⟨q.val - 8, by omega⟩, true)
  else if h : q.val < 14 then some (.z ⟨q.val - 8, by omega⟩, false)
  else if h : q.val < 17 then some (.z ⟨q.val - 11, by omega⟩, true)
  else if h : q.val < 24 then some (.r1 ⟨q.val - 17, by omega⟩, false)
  else if h : q.val < 31 then some (.r1 ⟨q.val - 24, by omega⟩, true)
  else if h : q.val < 38 then some (.l1 ⟨q.val - 31, by omega⟩, false)
  else if h : q.val < 45 then some (.l1 ⟨q.val - 38, by omega⟩, true)
  else if h : q.val < 52 then some (.r2 ⟨q.val - 45, by omega⟩, false)
  else if h : q.val < 59 then some (.r2 ⟨q.val - 52, by omega⟩, true)
  else if h : q.val < 66 then some (.l2 ⟨q.val - 59, by omega⟩, false)
  else some (.l2 ⟨q.val - 66, by omega⟩, true)

theorem own_sNum (j : J) : own (sNum j) = some (j, false) := by revert j; exact forallJ (by decide)
theorem own_rNum (j : J) : own (rNum j) = some (j, true) := by revert j; exact forallJ (by decide)
theorem X_ssem (j : J) : (X j).ssem = sNum j := by cases j <;> rfl
theorem X_rsem (j : J) : (X j).rsem = rNum j := by cases j <;> rfl
theorem own_ssem (j : J) : own (X j).ssem = some (j, false) := by rw [X_ssem, own_sNum]
theorem own_rsem (j : J) : own (X j).rsem = some (j, true) := by rw [X_rsem, own_rNum]

/-- What copy `j` credits at either end. -/
abbrev amt (j : J) : ℕ := (X j).dst.view.dmaCredit
theorem sh_pos (j : J) : 0 < (X j).sh.numel := by
  cases j
  · exact (by decide : 0 < S2x128x4096.numel)
  · exact (by decide : 0 < S2x128x4096.numel)
  · exact (by decide : 0 < S2x128x4096.numel)
  · exact (by decide : 0 < S128x4096.numel)
  · exact (by decide : 0 < S128x4096.numel)
theorem amt_pos (j : J) : 0 < amt j := View.dmaCredit_pos _ (sh_pos j)

/-! ## Cells -/

/-- The runtime's barrier semaphore. -/
abbrev barS : Sem sig := (SemArray.scalar (sig.barrier 0 rfl) : Sems sig S_).sem
abbrev barCell (c : Dev nD) : GSem nD τ sig := ((c : Thread nD τ), .reg barS)
/-- The cell of copy `j`'s departure on device `c`, and of its arrival. -/
abbrev sCell (j : J) (c : Dev nD) : GSem nD τ sig := ((c : Thread nD τ), .dma (X j).ssem)
abbrev rCell (j : J) (c : Dev nD) : GSem nD τ sig := ((c : Thread nD τ), .dma (X j).rsem)

/-! ## Contents

`xv d` is device `d`'s block of `x`, as two halves of 128 rows. -/

variable (xv : Dev nD → S2x128x4096.Idx → Elt F .fp8e5m2)

theorem numel_half : S128x4096.numel = S1x128x4096.numel := by decide
/-- Half `h`'s place in a block. -/
def half (h : Fin 2) (i : S128x4096.Idx) : S2x128x4096.Idx :=
  (Rect.unit (s := S2x128x4096) ![h.val, 0, 0] S1x128x4096.size (inb2 h)).emb (Shape.reshapeEquiv numel_half i)

/-- What copy `j` carries of device `d`'s block. -/
def cont (j : J) (d : Dev nD) : (X j).sh.Idx → Elt F .fp8e5m2 := match j with
  | .z _ => xv d
  | .r1 _ => xv d
  | .l1 _ => xv d
  | .r2 _ => fun i => xv d (half 0 i)
  | .l2 _ => fun i => xv d (half 1 i)

/-! ## Shares

A block in a buffer is read by the products under one share, and by each copy that leaves from it under a share of
its own, so that a copy in flight never excludes the products. -/

abbrev R1 : PosShare TreeShare := fullShare.right
abbrev R2 : PosShare TreeShare := R1.right
abbrev R3 : PosShare TreeShare := R2.right

/-- The share of its source a copy takes. -/
def shr : J → PosShare TreeShare
  | .z e => if e.val = 0 then R3.left else if e.val = 3 then R3.right else R3
  | .r1 _ => R1.left
  | .l1 _ => R2.left
  | .r2 _ => R1
  | .l2 _ => R1

/-- The source of copy `j` under its share, holding what the copy carries. -/
def sp (j : J) (c : Dev nD) : sProp 𝕄 := owns (c : Thread nD τ) (X j).src (shr j) (cont xv j (oS j c))
/-- The destination of copy `j` on device `c` after the arrival, whole; the share the products read it under; the
    rest no copy takes. -/
def landed (j : J) (c : Dev nD) : sProp 𝕄 := owns (c : Thread nD τ) (X j).dst fullShare (cont xv j (oR j c))
def rd (j : J) (c : Dev nD) : sProp 𝕄 := owns (c : Thread nD τ) (X j).dst fullShare.left (cont xv j (oR j c))
def rest (j : J) (c : Dev nD) : sProp 𝕄 := match j with
  | .z e => if e.val = 2 ∨ e.val = 5 then owns (c : Thread nD τ) (srcM (ev (.z e))) R3 (xv (oR (.z e) c)) else iprop(emp)
  | .r1 e => owns (c : Thread nD τ) (slot7h bl1 e 1) R1 (fun i => xv (oR (.r1 e) c) (half 1 i))
  | .l1 e => owns (c : Thread nD τ) (slot7h br1 e 0) R1 (fun i => xv (oR (.l1 e) c) (half 0 i))
  | .r2 e => owns (c : Thread nD τ) (slot7s bl2 e) R1 (cont xv (.r2 e) (oR (.r2 e) c))
  | .l2 e => owns (c : Thread nD τ) (slot7s br2 e) R1 (cont xv (.l2 e) (oR (.l2 e) c))
/-- The destination at any contents. -/
def raw (j : J) (c : Dev nD) : sProp 𝕄 := iprop(∃ V, owns (c : Thread nD τ) (X j).dst fullShare V)

omit [FloatOps F] in
instance sp_storable (j : J) (c : Dev nD) : BI.Storable (upEmb : UEmb _ 𝕄) (sp xv j c) := by unfold sp; infer_instance
omit [FloatOps F] in
instance landed_storable (j : J) (c : Dev nD) : BI.Storable (upEmb : UEmb _ 𝕄) (landed xv j c) := by unfold landed; infer_instance
omit [FloatOps F] in
instance raw_storable (j : J) (c : Dev nD) : BI.Storable (upEmb : UEmb _ 𝕄) (raw (F := F) j c) := by unfold raw; infer_instance

/-! ## The schedule -/

/-- Device `c` has a neighbour in direction `d`. -/
def bact (d : Fin 4) (c : Fin 16) : Bool := match d with
  | 0 => true
  | 1 => true
  | 2 => decide (c.val / 4 ≤ 2)
  | 3 => decide (1 ≤ c.val / 4)
/-- The opposite direction. -/
def opp (d : Fin 4) : Fin 4 := match d with | 0 => 1 | 1 => 0 | 2 => 3 | 3 => 2

theorem nb_opp (d : Fin 4) (c : Fin 16) : nb (opp d) (nb d c) = c := by revert d c; decide
theorem bact_opp (d : Fin 4) (c : Fin 16) (h : bact d c = true) : bact (opp d) (nb d c) = true := by revert d c; decide
theorem bact_of_sact (j : J) (c : Fin 16) (h : sact j c = true) : bact (dir j) c = true := by
  revert h; revert j; exact forallJ (by revert c; decide)

/-- What the neighbour in direction `d` hands device `c` with its signal: every destination there that a copy of `c`
    in that direction will fill. -/
def grant (d : Fin 4) (c : Dev nD) : sProp 𝕄 :=
  bigSep Finset.univ fun j : J => if dir j = d ∧ sact j c = true then raw j (tgt j c) else iprop(emp)

omit [FloatOps F] in
instance grant_storable (d : Fin 4) (c : Dev nD) : BI.Storable (upEmb : UEmb _ 𝕄) (grant (F := F) d c) := by
  unfold grant
  have : ∀ j : J, BI.Storable (upEmb : UEmb _ 𝕄) (if dir j = d ∧ sact j c = true then raw (F := F) j (tgt j c) else iprop(emp)) := by
    intro j; split <;> infer_instance
  infer_instance

/-- One round. A barrier cell has a duty of one unit per neighbour; a copy's two cells have the duty `0` of the copy's
    credit where the copy takes place. -/
def Rd : Rounds.Schedule (GSem nD τ sig) (Fin 4) 𝕄 where
  duties g r := if r = 0 then (match g.2 with
    | .reg _ => Finset.univ.filter fun d => bact d g.1.1 = true
    | .dma q => match own q with
      | none => ∅
      | some (j, false) => if sact j g.1.1 = true then {0} else ∅
      | some (j, true) => if ract j g.1.1 = true then {0} else ∅) else ∅
  unitless _ := False
  amount g _ _ := match g.2 with
    | .reg _ => 1
    | .dma q => match own q with
      | none => 1
      | some (j, _) => amt j
  payload g _ d := match g.2 with
    | .reg _ => grant d g.1.1
    | .dma q => match own q with
      | none => iprop(emp)
      | some (j, false) => sp xv j g.1.1
      | some (j, true) => landed xv j g.1.1
  amount_pos g _ _ _ := by
    rcases g with ⟨t, sm⟩
    cases sm with
    | reg _ => exact Nat.one_pos
    | dma q =>
      dsimp only
      cases own q with
      | none => exact Nat.one_pos
      | some jb => exact amt_pos _

omit [FloatOps F] in
instance Rd_payload_storable (g : GSem nD τ sig) (r : ℕ) (d : Fin 4) :
    BI.Storable (upEmb : UEmb _ 𝕄) ((Rd (F := F) xv).payload g r d) := by
  rcases g with ⟨t, sm⟩
  cases sm with
  | reg _ => exact grant_storable d t.1
  | dma q =>
    show BI.Storable upEmb (match own q with
      | none => iprop(emp)
      | some (j, false) => sp xv j t.1
      | some (j, true) => landed xv j t.1)
    split <;> infer_instance

section Sched
variable (j : J) (c : Dev nD)

omit [FloatOps F] in
theorem duties_bar : (Rd xv).duties (barCell c) 0 = Finset.univ.filter fun d => bact d c = true := rfl
omit [FloatOps F] in
theorem duties_s : (Rd xv).duties (sCell j c) 0 = if sact j c = true then {0} else ∅ := by
  show (if (0 : ℕ) = 0 then (match own (X j).ssem with
      | none => ∅
      | some (j, false) => if sact j c = true then {0} else ∅
      | some (j, true) => if ract j c = true then {0} else ∅) else ∅ : Finset (Fin 4)) = _
  rw [if_pos rfl, own_ssem]
omit [FloatOps F] in
theorem duties_r : (Rd xv).duties (rCell j c) 0 = if ract j c = true then {0} else ∅ := by
  show (if (0 : ℕ) = 0 then (match own (X j).rsem with
      | none => ∅
      | some (j, false) => if sact j c = true then {0} else ∅
      | some (j, true) => if ract j c = true then {0} else ∅) else ∅ : Finset (Fin 4)) = _
  rw [if_pos rfl, own_rsem]
omit [FloatOps F] in
theorem duties_later (g : GSem nD τ sig) (r : ℕ) (hr : 1 ≤ r) : (Rd xv).duties g r = ∅ := by
  dsimp only [Rd]; rw [if_neg (by omega)]
omit [FloatOps F] in
theorem amount_bar (d : Fin 4) : (Rd xv).amount (barCell c) 0 d = 1 := rfl
omit [FloatOps F] in
theorem amount_s (d : Fin 4) : (Rd xv).amount (sCell j c) 0 d = amt j := by
  show (match own (X j).ssem with | none => 1 | some (j, _) => amt j) = _
  rw [own_ssem]
omit [FloatOps F] in
theorem amount_r (d : Fin 4) : (Rd xv).amount (rCell j c) 0 d = amt j := by
  show (match own (X j).rsem with | none => 1 | some (j, _) => amt j) = _
  rw [own_rsem]
omit [FloatOps F] in
theorem payload_bar (d : Fin 4) : (Rd xv).payload (barCell c) 0 d = grant d c := rfl
omit [FloatOps F] in
theorem payload_s (d : Fin 4) : (Rd xv).payload (sCell j c) 0 d = sp xv j c := by
  show (match own (X j).ssem with
      | none => iprop(emp)
      | some (j, false) => sp xv j c
      | some (j, true) => landed xv j c) = _
  rw [own_ssem]
omit [FloatOps F] in
theorem payload_r (d : Fin 4) : (Rd xv).payload (rCell j c) 0 d = landed xv j c := by
  show (match own (X j).rsem with
      | none => iprop(emp)
      | some (j, false) => sp xv j c
      | some (j, true) => landed xv j c) = _
  rw [own_rsem]

omit [FloatOps F] in
theorem expect_s (h : sact j c = true) : (Rd xv).expect (sCell j c) 0 = amt j := by
  unfold Schedule.expect Schedule.amountOf; rw [duties_s, if_pos h, Finset.sum_singleton, amount_s]
omit [FloatOps F] in
theorem expect_r (h : ract j c = true) : (Rd xv).expect (rCell j c) 0 = amt j := by
  unfold Schedule.expect Schedule.amountOf; rw [duties_r, if_pos h, Finset.sum_singleton, amount_r]
omit [FloatOps F] in
theorem rest_s (h : sact j c = true) :
    bigSep ((Rd xv).duties (sCell j c) 0 \ ∅) (fun d => (Rd xv).payload (sCell j c) 0 d) = sp xv j c := by
  rw [Finset.sdiff_empty, duties_s, if_pos h, bigSep_singleton, payload_s]
omit [FloatOps F] in
theorem rest_r (h : ract j c = true) :
    bigSep ((Rd xv).duties (rCell j c) 0 \ ∅) (fun d => (Rd xv).payload (rCell j c) 0 d) = landed xv j c := by
  rw [Finset.sdiff_empty, duties_r, if_pos h, bigSep_singleton, payload_r]

end Sched

/-! ## What is owed; the levels -/

/-- What device `c` owes before position `k`: the arrivals of the copies still to be sent. -/
def O (k : ℕ) (c : Dev nD) : CellTallies nD τ sig Unit :=
  ∑ j : J, if k ≤ tS j ∧ sact j c = true then tallyAt (rCell j (tgt j c)) () (amt j) else 0

def L (g : GSem nD τ sig) : Finset Unit := if g.1.2 = .tc then {()} else ∅
/-- Departures and staging at 0, the barrier at 1, arrivals above (`Plan.lvJ`). -/
def lv (g : GSem nD τ sig) (_ : Unit) : ℕ := match g.2 with
  | .reg _ => 1
  | .dma q => match own q with
    | some (j, true) => lvJ j
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_r (j : J) (c : Dev nD) : lv (rCell j c) () = lvJ j := by
  show (match own (X j).rsem with | some (j, true) => lvJ j | _ => 0) = _
  rw [own_rsem]
theorem lv_s (j : J) (c : Dev nD) : lv (sCell j c) () = 0 := by
  show (match own (X j).ssem with | some (j, true) => lvJ j | _ => 0) = _
  rw [own_ssem]
theorem lv_bar (c : Dev nD) : lv (barCell c) () = 1 := rfl

/-- What is owed is owed to the arrival of a copy still to be sent. -/
theorem O_pos {k : ℕ} {c : Dev nD} {g : GSem nD τ sig} {u : Unit} (h : 0 < O k c g u) :
    ∃ j, k ≤ tS j ∧ g = rCell j (tgt j c) := by
  unfold O at h
  rw [Finset.sum_apply, Finsupp.finset_sum_apply] at h
  obtain ⟨j, -, hj⟩ := Finset.exists_ne_zero_of_sum_ne_zero h.ne'
  refine ⟨j, ?_⟩
  by_cases hc : k ≤ tS j ∧ sact j c = true
  · rw [if_pos hc, tallyAt_apply] at hj
    by_cases hg : g = rCell j (tgt j c) ∧ u = ()
    · exact ⟨hc.1, hg.1⟩
    · rw [if_neg hg] at hj; exact absurd rfl hj
  · rw [if_neg hc] at hj; exact absurd rfl hj

theorem O_step (j : J) (c : Dev nD) (k : ℕ) (hk : tS j = k) (hs : sact j c = true) :
    O k c = O (k + 1) c + tallyAt (rCell j (tgt j c)) () (amt j) := by
  unfold O
  rw [← Finset.add_sum_erase _ _ (Finset.mem_univ j), ← Finset.add_sum_erase (a := j) (s := Finset.univ) (h := Finset.mem_univ j)
    (f := fun j => if k + 1 ≤ tS j ∧ sact j c = true then tallyAt (rCell j (tgt j c)) () (amt j) else 0)]
  rw [if_pos ⟨hk.ge, hs⟩, if_neg (fun h => by omega), zero_add, add_comm]
  congr 1
  refine Finset.sum_congr rfl fun j' hj' => ?_
  have hne : tS j' ≠ k := fun h => (Finset.mem_erase.mp hj').1 (tS_inj _ _ (h.trans hk.symm))
  exact if_congr (by constructor <;> rintro ⟨a, b⟩ <;> exact ⟨by omega, b⟩) rfl rfl

theorem O_skip (c : Dev nD) (k : ℕ) (h : ∀ j, tS j = k → sact j c = false) : O k c = O (k + 1) c := by
  unfold O
  refine Finset.sum_congr rfl fun j' _ => ?_
  refine if_congr ?_ rfl rfl
  constructor
  · rintro ⟨a, b⟩
    refine ⟨?_, b⟩
    rcases Nat.lt_or_ge k (tS j') with hl | hl
    · exact hl
    · rw [h j' (by omega)] at b; cases b
  · rintro ⟨a, b⟩; exact ⟨by omega, b⟩

theorem O_done (c : Dev nD) (k : ℕ) (h : 124 ≤ k) : O k c = 0 := by
  unfold O
  refine Finset.sum_eq_zero fun j _ => if_neg fun h' => ?_
  have := tS_lt j; omega

omit [FloatOps F] in
/-- Waiting for an arrival is safe: what is still owed lies above it. -/
theorem mayWait_r (j : J) (c : Dev nD) : (levAts L lv : sProp 𝕄) ⊢ MayWait (c : Thread nD τ) (.dma (X j).rsem) () (O (tR j) c) :=
  MayOwe.of_cut (L := L) (lev := lv) (lvJ j) (fun p hp => by rw [Finset.mem_singleton.mp hp, L_tc]; exact Finset.mem_singleton_self _)
    (fun g u hg => by obtain ⟨j', -, rfl⟩ := O_pos hg; rw [L_tc]; exact Finset.mem_singleton_self _)
    (fun p hp => by rw [Finset.mem_singleton.mp hp]; exact (lv_r j c).le)
    (fun g u hg => by obtain ⟨j', h, rfl⟩ := O_pos hg; exact (lv_lt j j' h).trans_eq (lv_r j' _).symm)

omit [FloatOps F] in
/-- Waiting for the neighbours' signals is safe: what is owed then are arrivals. -/
theorem mayWait_bar (c : Dev nD) : (levAts L lv : sProp 𝕄) ⊢ MayWait (c : Thread nD τ) (.reg barS) () (O 0 c) :=
  MayOwe.of_cut (L := L) (lev := lv) 1 (fun p hp => by rw [Finset.mem_singleton.mp hp, L_tc]; exact Finset.mem_singleton_self _)
    (fun g u hg => by obtain ⟨j', -, rfl⟩ := O_pos hg; rw [L_tc]; exact Finset.mem_singleton_self _)
    (fun p hp => by rw [Finset.mem_singleton.mp hp]; exact (lv_bar c).le)
    (fun g u hg => by
      obtain ⟨j', h, rfl⟩ := O_pos hg
      have := two_le_lv j'
      exact lt_of_lt_of_eq (by omega) (lv_r j' _).symm)

end Cert.KernelIdeal.Exchange
end
-- ==== Proof.KernelIdeal.Pieces.lean ====
/-
# Splitting and joining the exchange's buffers

A received block is held in pieces: the share the products read it under, a share for each copy that leaves from it,
and what no copy takes. This file splits an owned buffer by shares, by halves and by slots, and joins it again.
-/
module

public import proofs.«01_k».proof.Proof.KernelIdeal.Proto
public import Idealize.ShloMosaic.Lib.Ring
public import Idealize.ShloMosaic.Lib.ValueLayout

@[expose] public section

noncomputable section

namespace Cert.KernelIdeal.Exchange

open Cert.KernelIdeal Cert.KernelIdeal.Gen Cert.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4 eq_ix2 eq_ix3 eq_ix4 reshapeEquiv_ix2_1ab reshapeEquiv_ix2_11ab reshapeEquiv_ix3_1abc)

variable {F : FTy → Type} [FloatOps F]
local notation "𝕄" => MT nD τ sig Unit (Elt F) ℕ UU ℕ

/-! ## By shares -/

theorem eq_of {P Q : sProp 𝕄} (h : P ⊢ Q) (h' : Q ⊢ P) : P = Q := BI.equiv_iff.mp ⟨h, h'⟩

section Shares
variable (c : Dev nD) {sp : Space} {sh : Shape} {e : EltTy} (m : Memref sig .tc sp sh e) (q : PosShare TreeShare) (V : sh.Idx → Elt F e)

theorem owns_unshare :
    iprop(owns (c : Thread nD τ) m q.left V ∗ owns (c : Thread nD τ) m q.right V) ⊢ (owns (c : Thread nD τ) m q V : sProp 𝕄) := by
  unfold owns
  iintro ⟨⟨%f, %hf, H1⟩, ⟨%g, %hg, H2⟩⟩
  have hfg : ∀ i ∈ m.view.set, f i = g i := by
    intro i hi
    rw [View.set, Finset.mem_map] at hi
    obtain ⟨x, -, rfl⟩ := hi
    have := congrFun (hf.trans hg.symm) x
    rw [View.read_apply, View.read_apply] at this
    exact (cast_inj _).mp this
  iexists f
  isplitr
  · ipureintro; exact hf
  · iapply (pointsTo_share (PosShare.mem_left_op_right q)).2
    isplitl [H1]
    · iexact H1
    · rw [pointsTo_congr (ℓ := m.view.loc (c : Thread nD τ)) hfg]; iexact H2

/-- A memref owned under a share is owned under the share's two halves. -/
theorem owns_share :
    (owns (c : Thread nD τ) m q V : sProp 𝕄)
      = iprop(owns (c : Thread nD τ) m q.left V ∗ owns (c : Thread nD τ) m q.right V) := by
  refine eq_of ?_ (owns_unshare c m q V)
  unfold owns
  iintro ⟨%f, %hf, H⟩
  ihave H' := (pointsTo_share (PosShare.mem_left_op_right q)).1 $$ H
  icases H' with ⟨H1, H2⟩
  isplitl [H1]
  · iexists f; isplitr
    · ipureintro; exact hf
    · iexact H1
  · iexists f; isplitr
    · ipureintro; exact hf
    · iexact H2

end Shares

/-- The four shares a block is held under. -/
theorem owns_four (c : Dev nD) {sp : Space} {sh : Shape} {e : EltTy} (m : Memref sig .tc sp sh e) (V : sh.Idx → Elt F e) :
    (owns (c : Thread nD τ) m fullShare V : sProp 𝕄)
      = iprop(owns (c : Thread nD τ) m fullShare.left V ∗ owns (c : Thread nD τ) m R1.left V ∗ owns (c : Thread nD τ) m R2.left V
          ∗ owns (c : Thread nD τ) m R3 V) := by
  rw [owns_share c m fullShare V, owns_share c m R1 V, owns_share c m R2 V]

/-! ## By halves -/

section Halves
variable (c : Dev nD) (m : Memref sig .tc .vmem S7x2x128x4096 .fp8e5m2) (e : Fin 7) (q : PosShare TreeShare)

/-- The rectangle of half `h` of a block. -/
abbrev rh (h : Fin 2) : Rect S2x128x4096 := Rect.unit (s := S2x128x4096) ![h.val, 0, 0] S1x128x4096.size (inb2 h)

theorem emb_half (h : Fin 2) (i : S128x4096.Idx) :
    (slot7h m e h).view.emb i = ((slot7 m e).slice (rh h) (fun _ => rfl)).view.emb (Shape.reshapeEquiv numel_half i) := by
  show m.view.emb ((Rect.unit (s := S7x2x128x4096) ![e.val, h.val, 0, 0] S1x1x128x4096.size (inb7h e h)).emb (Shape.reshapeEquiv _ i))
    = m.view.emb ((Rect.unit (s := S7x2x128x4096) ![e.val, 0, 0, 0] S1x2x128x4096.size (inb7 e)).emb
        (Shape.reshapeEquiv _ ((rh h).emb (Shape.reshapeEquiv numel_half i))))
  refine congrArg _ ?_
  obtain ⟨a, b, rfl⟩ : ∃ (a : Fin 128) (b : Fin 4096), i = ix2 a b := ⟨_, _, eq_ix2 i⟩
  have h1 : Shape.reshapeEquiv numel_half (ix2 a b : S128x4096.Idx) = (ix3 (⟨0, Nat.one_pos⟩ : Fin 1) a b : S1x128x4096.Idx) :=
    reshapeEquiv_ix2_1ab (a := 128) (b := 4096) numel_half a b
  have h2 : (rh h).emb (ix3 (⟨0, Nat.one_pos⟩ : Fin 1) a b : S1x128x4096.Idx) = (ix3 h a b : S2x128x4096.Idx) := by
    funext x; apply Fin.ext; rw [Rect.emb_apply]
    fin_cases x
    · show h.val + 1 * 0 = h.val; omega
    · show 0 + 1 * a.val = a.val; omega
    · show 0 + 1 * b.val = b.val; omega
  have h3 : (rh h).emb (Shape.reshapeEquiv numel_half (ix2 a b)) = (ix3 h a b : S2x128x4096.Idx) :=
    (congrArg (rh h).emb h1).trans h2
  have n4 : S2x128x4096.numel = S1x2x128x4096.numel := by decide
  have n5 : S128x4096.numel = S1x1x128x4096.numel := by decide
  have h4 : Shape.reshapeEquiv n4 (ix3 h a b : S2x128x4096.Idx) = (ix4 (⟨0, Nat.one_pos⟩ : Fin 1) h a b : S1x2x128x4096.Idx) :=
    reshapeEquiv_ix3_1abc (a := 2) (b := 128) (c := 4096) n4 h a b
  have h5 : Shape.reshapeEquiv n5 (ix2 a b : S128x4096.Idx) = (ix4 (⟨0, Nat.one_pos⟩ : Fin 1) (⟨0, Nat.one_pos⟩ : Fin 1) a b : S1x1x128x4096.Idx) :=
    reshapeEquiv_ix2_11ab (a := 128) (b := 4096) n5 a b
  refine (congrArg (Rect.unit (s := S7x2x128x4096) ![e.val, h.val, 0, 0] S1x1x128x4096.size (inb7h e h)).emb h5).trans
    (Eq.trans ?_ (congrArg (Rect.unit (s := S7x2x128x4096) ![e.val, 0, 0, 0] S1x2x128x4096.size (inb7 e)).emb
      ((congrArg (Shape.reshapeEquiv n4) h3).trans h4)).symm)
  funext x; apply Fin.ext; rw [Rect.emb_apply, Rect.emb_apply]
  fin_cases x
  · rfl
  · show h.val + 1 * 0 = 0 + 1 * h.val; omega
  · rfl
  · rfl

theorem set_half (h : Fin 2) : (slot7h m e h).view.set = ((slot7 m e).slice (rh h) (fun _ => rfl)).view.set := by
  ext x
  simp only [View.set, Finset.mem_map, Finset.mem_univ, true_and]
  constructor
  · rintro ⟨i, rfl⟩; exact ⟨Shape.reshapeEquiv numel_half i, (emb_half m e h i).symm⟩
  · rintro ⟨i, rfl⟩
    refine ⟨(Shape.reshapeEquiv numel_half).symm i, ?_⟩
    rw [emb_half m e h, Equiv.apply_symm_apply]

theorem owns_half (h : Fin 2) (V : S2x128x4096.Idx → Elt F .fp8e5m2) :
    (owns (c : Thread nD τ) ((slot7 m e).slice (rh h) (fun _ => rfl)) q (fun j => V ((rh h).emb j)) : sProp 𝕄)
      = owns (c : Thread nD τ) (slot7h m e h) q (fun i => V (half h i)) := by
  have hr : ∀ f i, (slot7h m e h).view.read (Elt F) f i
      = ((slot7 m e).slice (rh h) (fun _ => rfl)).view.read (Elt F) f (Shape.reshapeEquiv numel_half i) := by
    intro f i
    show cast _ (f ((slot7h m e h).view.emb i)) = cast _ (f (((slot7 m e).slice (rh h) (fun _ => rfl)).view.emb _))
    rw [emb_half]
  refine eq_of ?_ ?_
  · unfold owns
    iintro ⟨%f, %hf, H⟩
    iexists f; isplitr
    · ipureintro; funext i; rw [hr, hf]; rfl
    · rw [set_half]; iexact H
  · unfold owns
    iintro ⟨%f, %hf, H⟩
    iexists f; isplitr
    · ipureintro; funext i
      have := hr f ((Shape.reshapeEquiv numel_half).symm i)
      rw [Equiv.apply_symm_apply, hf] at this
      rw [← this]; show V (half h _) = _; unfold half; rw [Equiv.apply_symm_apply]
    · rw [set_half]; iexact H

theorem rh_disjoint (t t' : Fin 2) (h : t ≠ t') : Disjoint (rh t).set (rh t').set := by
  rw [Finset.disjoint_left]
  intro i hi hi'
  have h1 := Rect.mem_set_unit.mp hi 0
  have h2 := Rect.mem_set_unit.mp hi' 0
  apply h; apply Fin.ext
  change t.val ≤ (i 0).val ∧ (i 0).val < t.val + 1 at h1
  change t'.val ≤ (i 0).val ∧ (i 0).val < t'.val + 1 at h2
  omega

theorem rh_cover : Finset.univ.biUnion (fun t : Fin 2 => (rh t).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, by have := (i 1).isLt; simpa using this⟩
  · exact ⟨Nat.zero_le _, by have := (i 2).isLt; simpa using this⟩

/-- A slot of whole blocks is its two halves. -/
theorem owns_halves (V : S2x128x4096.Idx → Elt F .fp8e5m2) :
    (owns (c : Thread nD τ) (slot7 m e) q V : sProp 𝕄)
      = iprop(owns (c : Thread nD τ) (slot7h m e 0) q (fun i => V (half 0 i)) ∗ owns (c : Thread nD τ) (slot7h m e 1) q (fun i => V (half 1 i))) := by
  have h2 : (bigSep Finset.univ fun t : Fin 2 => owns (c : Thread nD τ) ((slot7 m e).slice (rh t) (fun _ => rfl)) q (fun j => V ((rh t).emb j)) : sProp 𝕄)
      = iprop(owns (c : Thread nD τ) (slot7h m e 0) q (fun i => V (half 0 i)) ∗ owns (c : Thread nD τ) (slot7h m e 1) q (fun i => V (half 1 i))) := by
    rw [bigSep_congr fun t _ => owns_half c m e q t V, show (Finset.univ : Finset (Fin 2)) = {0, 1} from rfl,
      bigSep_insert (by decide), bigSep_singleton]
    rfl
  rw [← h2]
  exact eq_of (owns_rects (c : Thread nD τ) (slot7 m e) q rh (fun _ _ => rfl) rh_disjoint rh_cover V)
    (owns_of_rects (c : Thread nD τ) (slot7 m e) q rh (fun _ _ => rfl) rh_disjoint rh_cover V)

end Halves

/-! ## By uses -/

variable (xv : Dev nD → S2x128x4096.Idx → Elt F .fp8e5m2)

/-- The sources of the copies that leave from what copy `p` brought. -/
def kids (p : J) (c : Dev nD) : sProp 𝕄 := bigSep Finset.univ fun j : J => if par j = some p then sp xv j c else iprop(emp)

theorem kids_filter (p : J) (c : Dev nD) : kids xv p c = bigSep (Finset.univ.filter fun j : J => par j = some p) fun j => sp xv j c :=
  (bigSep_filter _ _ _).symm

theorem kids_r1 (e : Fin 7) (c : Dev nD) : kids xv (.r1 e) c = sp xv (.r2 e) c := by
  rw [kids_filter, show (Finset.univ.filter fun j : J => par j = some (.r1 e)) = {.r2 e} by revert e; decide, bigSep_singleton]
theorem kids_l1 (e : Fin 7) (c : Dev nD) : kids xv (.l1 e) c = sp xv (.l2 e) c := by
  rw [kids_filter, show (Finset.univ.filter fun j : J => par j = some (.l1 e)) = {.l2 e} by revert e; decide, bigSep_singleton]
theorem kids_r2 (e : Fin 7) (c : Dev nD) : kids xv (.r2 e) c = iprop(emp) := by
  rw [kids_filter, show (Finset.univ.filter fun j : J => par j = some (.r2 e)) = ∅ by revert e; decide]; rfl
theorem kids_l2 (e : Fin 7) (c : Dev nD) : kids xv (.l2 e) c = iprop(emp) := by
  rw [kids_filter, show (Finset.univ.filter fun j : J => par j = some (.l2 e)) = ∅ by revert e; decide]; rfl
/-- Event `e + 1`'s block that goes on to a further plane, or not. -/
theorem kids_z_on (e : Fin 6) (h : e.val ≠ 2 ∧ e.val ≠ 5) (c : Dev nD) :
    kids xv (.z e) c = iprop(sp xv (.r1 (ev (.z e))) c ∗ sp xv (.l1 (ev (.z e))) c ∗ sp xv (.z ⟨e.val + 1, by omega⟩) c) := by
  rw [kids_filter, show (Finset.univ.filter fun j : J => par j = some (.z e)) = {.r1 (ev (.z e)), .l1 (ev (.z e)), .z ⟨e.val + 1, by omega⟩} by
      revert e; decide,
    bigSep_insert (by revert e; decide), bigSep_insert (by revert e; decide), bigSep_singleton]
  rfl
theorem kids_z_off (e : Fin 6) (h : e.val = 2 ∨ e.val = 5) (c : Dev nD) :
    kids xv (.z e) c = iprop(sp xv (.r1 (ev (.z e))) c ∗ sp xv (.l1 (ev (.z e))) c) := by
  rw [kids_filter, show (Finset.univ.filter fun j : J => par j = some (.z e)) = {.r1 (ev (.z e)), .l1 (ev (.z e))} by
      revert e; decide,
    bigSep_insert (by revert e; decide), bigSep_singleton]
  rfl

theorem rot4 (A B C D : sProp 𝕄) : iprop(A ∗ B ∗ C ∗ D) = iprop(A ∗ D ∗ B ∗ C) := by
  refine eq_of ?_ ?_
  · iintro ⟨H1, H2, H3, H4⟩
    isplitl [H1]; · iexact H1
    isplitl [H4]; · iexact H4
    isplitl [H2]; · iexact H2
    iexact H3
  · iintro ⟨H1, H4, H2, H3⟩
    isplitl [H1]; · iexact H1
    isplitl [H2]; · iexact H2
    isplitl [H3]; · iexact H3
    iexact H4
theorem emp_mid (A B : sProp 𝕄) : iprop(A ∗ B) = iprop(A ∗ emp ∗ B) := by
  refine eq_of ?_ ?_
  · iintro ⟨H1, H2⟩
    isplitl [H1]; · iexact H1
    isplitr; · iempintro
    iexact H2
  · iintro ⟨H1, -, H2⟩
    isplitl [H1]; · iexact H1
    iexact H2
theorem emp_last (A B : sProp 𝕄) : iprop(A ∗ B) = iprop(A ∗ B ∗ emp) := by
  refine eq_of ?_ ?_
  · iintro ⟨H1, H2⟩
    isplitl [H1]; · iexact H1
    isplitl [H2]; · iexact H2
    iempintro
  · iintro ⟨H1, H2, -⟩
    isplitl [H1]; · iexact H1
    iexact H2
theorem swap3 (A B C : sProp 𝕄) : iprop(A ∗ B ∗ C) = iprop(A ∗ C ∗ B) := by
  refine eq_of ?_ ?_
  · iintro ⟨H1, H2, H3⟩
    isplitl [H1]; · iexact H1
    isplitl [H3]; · iexact H3
    iexact H2
  · iintro ⟨H1, H2, H3⟩
    isplitl [H1]; · iexact H1
    isplitl [H3]; · iexact H3
    iexact H2

theorem rest_z_off (e : Fin 6) (h : e.val = 2 ∨ e.val = 5) (c : Dev nD) :
    rest xv (.z e) c = owns (c : Thread nD τ) (srcM (ev (.z e))) R3 (xv (oR (.z e) c)) := if_pos h
theorem rest_z_on (e : Fin 6) (h : ¬ (e.val = 2 ∨ e.val = 5)) (c : Dev nD) : rest xv (.z e) c = iprop(emp) := if_neg h

/-- A received block is: the share the products read, what no copy takes, and the sources of the copies that leave
    from it. -/
theorem landed_eq (j : J) (c : Dev nD) : landed xv j c = iprop(rd xv j c ∗ rest xv j c ∗ kids xv j c) := by
  cases j with
  | z e =>
    have h4 : landed xv (.z e) c = iprop(rd xv (.z e) c ∗ sp xv (.r1 (ev (.z e))) c ∗ sp xv (.l1 (ev (.z e))) c
        ∗ owns (c : Thread nD τ) (srcM (ev (.z e))) R3 (xv (oR (.z e) c))) :=
      owns_four c (srcM (ev (.z e))) (xv (oR (.z e) c))
    by_cases h : e.val = 2 ∨ e.val = 5
    · rw [kids_z_off xv e h, rest_z_off xv e h, h4, rot4]
    · have hk : sp xv (.z ⟨e.val + 1, by omega⟩) c = owns (c : Thread nD τ) (srcM (ev (.z e))) R3 (xv (oR (.z e) c)) := by
        clear h4
        fin_cases e <;> first | exact absurd (by decide) h | rfl
      rw [kids_z_on xv e (by omega), hk, rest_z_on xv e h, h4, ← emp_mid]
  | r1 e =>
    rw [kids_r1, show landed xv (.r1 e) c = _ from owns_share c (slot7 bl1 e) fullShare (xv (oR (.r1 e) c)), owns_halves c bl1 e fullShare.right, swap3]
    rfl
  | l1 e =>
    rw [kids_l1, show landed xv (.l1 e) c = _ from owns_share c (slot7 br1 e) fullShare (xv (oR (.l1 e) c)), owns_halves c br1 e fullShare.right]
    rfl
  | r2 e =>
    rw [kids_r2, show landed xv (.r2 e) c = _ from owns_share c (slot7s bl2 e) fullShare (cont xv (.r2 e) (oR (.r2 e) c)), emp_last]
    rfl
  | l2 e =>
    rw [kids_l2, show landed xv (.l2 e) c = _ from owns_share c (slot7s br2 e) fullShare (cont xv (.l2 e) (oR (.l2 e) c)), emp_last]
    rfl

/-- The sources of the copies that carry the device's own block. -/
def roots (c : Dev nD) : sProp 𝕄 := bigSep Finset.univ fun j : J => if par j = none then sp xv j c else iprop(emp)
theorem roots_filter (c : Dev nD) : roots xv c = bigSep (Finset.univ.filter fun j : J => par j = none) fun j => sp xv j c :=
  (bigSep_filter _ _ _).symm

theorem roots_eq (c : Dev nD) :
    (owns (c : Thread nD τ) x8 fullShare (xv c) : sProp 𝕄)
      = iprop(owns (c : Thread nD τ) x8 fullShare.left (xv c) ∗ roots xv c) := by
  rw [roots_filter, show (Finset.univ.filter fun j : J => par j = none) = {.r1 0, .l1 0, .z 0, .z 3} by decide,
    bigSep_insert (by decide), bigSep_insert (by decide), bigSep_insert (by decide), bigSep_singleton]
  have e0 : org 0 c = c := oS_root (.r1 0) rfl c
  have h (q) : (owns (c : Thread nD τ) x8 q (xv (org 0 c)) : sProp 𝕄) = owns (c : Thread nD τ) x8 q (xv c) := by rw [e0]
  rw [owns_four, owns_share c x8 R3, ← h R1.left, ← h R2.left, ← h R3.left, ← h R3.right]
  rfl

/-! ## By slots -/

section Slots
variable (c : Dev nD) {n : ℕ} {s s' : Shape} (m : Memref sig .tc .vmem s .fp8e5m2)

/-- A memref owned at any contents is its elements held at any contents. -/
theorem owns_any : (iprop(∃ V, owns (c : Thread nD τ) m fullShare V) : sProp 𝕄) = iprop(∃ f, m.view.loc (c : Thread nD τ) ↦[m.view.set]{fullShare} f) := by
  refine eq_of ?_ ?_
  · unfold owns
    iintro ⟨%V, %f, -, H⟩; iexists f; iexact H
  · unfold owns
    iintro ⟨%f, H⟩; iexists m.view.read (Elt F) f; iexists f; isplitr
    · ipureintro; rfl
    · iexact H

theorem any_intro (ℓ : Loc nD τ sig) (I : Finset (Idx ℓ)) (f : Buf (Elt F) ℓ) :
    (ℓ ↦[I]{fullShare} f : sProp 𝕄) ⊢ iprop(∃ f, ℓ ↦[I]{fullShare} f) := by
  iintro H; iexists f; iexact H

theorem slots_eq (hm : m.view.set = Finset.univ) (r : Fin n → Rect s) (hr : ∀ t a, (r t).stride a = 1)
    (hq : ∀ t, (r t).shape.Squeezes s')
    (hd : ∀ t t', t ≠ t' → Disjoint (r t).set (r t').set) (hc : Finset.univ.biUnion (fun t => (r t).set) = Finset.univ) :
    (iprop(∃ f, m.view.loc (c : Thread nD τ) ↦{fullShare} f) : sProp 𝕄)
      = bigSep Finset.univ fun t : Fin n => iprop(∃ V, owns (c : Thread nD τ) ((m.slice (r t) (hr t)).squeeze s' (hq t)) fullShare V) := by
  have hset (t : Fin n) : ((m.slice (r t) (hr t)).squeeze s' (hq t)).view.set = (m.view.slice (r t)).set := View.set_reshape _ _
  have hI (t t' : Fin n) (h : t ≠ t') : Disjoint (m.view.slice (r t)).set (m.view.slice (r t')).set := by
    rw [View.set_slice, View.set_slice]; exact (Finset.disjoint_map _).mpr (hd t t' h)
  have hU : Finset.biUnion (β := m.view.ty.Idx) Finset.univ (fun t : Fin n => (m.view.slice (r t)).set) = Finset.univ := by
    rw [← hm]
    ext x
    constructor
    · intro hx
      obtain ⟨t, -, ht⟩ := Finset.mem_biUnion.mp hx
      rw [View.set_slice, Finset.mem_map] at ht
      obtain ⟨i, -, rfl⟩ := ht
      exact Finset.mem_map_of_mem _ (Finset.mem_univ i)
    · intro hx
      rw [View.set, Finset.mem_map] at hx
      obtain ⟨i, -, rfl⟩ := hx
      obtain ⟨t, -, ht⟩ := Finset.mem_biUnion.mp (hc.symm ▸ Finset.mem_univ i)
      exact Finset.mem_biUnion.mpr ⟨t, Finset.mem_univ _, by rw [View.set_slice]; exact Finset.mem_map_of_mem _ ht⟩
  have hany (t : Fin n) : (iprop(∃ V, owns (c : Thread nD τ) ((m.slice (r t) (hr t)).squeeze s' (hq t)) fullShare V) : sProp 𝕄)
      = iprop(∃ f, m.view.loc (c : Thread nD τ) ↦[(m.view.slice (r t)).set]{fullShare} f) := by
    rw [owns_any, hset]
  rw [bigSep_congr fun t _ => hany t]
  refine eq_of ?_ ?_
  · iintro ⟨%f, H⟩
    have h1 : (m.view.loc (c : Thread nD τ) ↦{fullShare} f : sProp 𝕄)
        ⊢ bigSep Finset.univ fun t => iprop(∃ f, m.view.loc (c : Thread nD τ) ↦[(m.view.slice (r t)).set]{fullShare} f) := by
      refine (Entails.of_eq (Ring.pointsTo_blocks (ℓ := m.view.loc (c : Thread nD τ)) _ hI hU f)).trans (bigSep_mono fun t _ => any_intro _ _ f)
    iapply h1 $$ H
  · exact Ring.pointsTo_blocks_join_exists (ℓ := m.view.loc (c : Thread nD τ)) _ hI hU (fun _ => Classical.arbitrary _)

theorem rows_disjoint (r : Fin n → Rect s) (a : Fin s.rank) (h0 : ∀ t, (r t).off a = t.val) (h1 : ∀ t, (r t).size a = 1)
    (h2 : ∀ t, (r t).stride a = 1) (t t' : Fin n) (h : t ≠ t') : Disjoint (r t).set (r t').set := by
  rw [Finset.disjoint_left]
  intro i hi hi'
  obtain ⟨j, hj, e⟩ := (LoadRect.mem_set (r t).toLoadRect).mp hi a
  obtain ⟨j', hj', e'⟩ := (LoadRect.mem_set (r t').toLoadRect).mp hi' a
  rw [h1] at hj hj'
  rw [show j = 0 by omega, Nat.mul_zero, h0] at e
  rw [show j' = 0 by omega, Nat.mul_zero, h0] at e'
  apply h; apply Fin.ext
  omega

end Slots

theorem cover3 : Finset.univ.biUnion (fun e : Fin 3 => (Rect.unit (s := S3x2x128x4096) ![e.val, 0, 0, 0] S1x2x128x4096.size (inb3 e)).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, by have := (i 1).isLt; simpa using this⟩
  · exact ⟨Nat.zero_le _, by have := (i 2).isLt; simpa using this⟩
  · exact ⟨Nat.zero_le _, by have := (i 3).isLt; simpa using this⟩
theorem cover7 : Finset.univ.biUnion (fun e : Fin 7 => (Rect.unit (s := S7x2x128x4096) ![e.val, 0, 0, 0] S1x2x128x4096.size (inb7 e)).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, by have := (i 1).isLt; simpa using this⟩
  · exact ⟨Nat.zero_le _, by have := (i 2).isLt; simpa using this⟩
  · exact ⟨Nat.zero_le _, by have := (i 3).isLt; simpa using this⟩
theorem cover7s : Finset.univ.biUnion (fun e : Fin 7 => (Rect.unit (s := S7x128x4096) ![e.val, 0, 0] S1x128x4096.size (inb7s e)).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, by have := (i 1).isLt; simpa using this⟩
  · exact ⟨Nat.zero_le _, by have := (i 2).isLt; simpa using this⟩

theorem slots_zb (c : Dev nD) : (iprop(∃ f, (c : Thread nD τ).loc cc0_scratch2 ↦{fullShare} f) : sProp 𝕄)
    = bigSep Finset.univ fun e : Fin 3 => iprop(∃ V, owns (c : Thread nD τ) (slot3 zb e) fullShare V) :=
  slots_eq c zb (View.set_whole _) (fun e => Rect.unit (s := S3x2x128x4096) ![e.val, 0, 0, 0] S1x2x128x4096.size (inb3 e)) (fun _ _ => rfl)
    (fun _ => squeezes_S1x2x128x4096_S2x128x4096) (rows_disjoint _ 0 (fun _ => rfl) (fun _ => rfl) (fun _ => rfl)) cover3
theorem slots_za (c : Dev nD) : (iprop(∃ f, (c : Thread nD τ).loc cc0_scratch3 ↦{fullShare} f) : sProp 𝕄)
    = bigSep Finset.univ fun e : Fin 3 => iprop(∃ V, owns (c : Thread nD τ) (slot3 za e) fullShare V) :=
  slots_eq c za (View.set_whole _) (fun e => Rect.unit (s := S3x2x128x4096) ![e.val, 0, 0, 0] S1x2x128x4096.size (inb3 e)) (fun _ _ => rfl)
    (fun _ => squeezes_S1x2x128x4096_S2x128x4096) (rows_disjoint _ 0 (fun _ => rfl) (fun _ => rfl) (fun _ => rfl)) cover3
theorem slots_bl1 (c : Dev nD) : (iprop(∃ f, (c : Thread nD τ).loc cc0_scratch4 ↦{fullShare} f) : sProp 𝕄)
    = bigSep Finset.univ fun e : Fin 7 => raw (.r1 e) c :=
  slots_eq c bl1 (View.set_whole _) (fun e => Rect.unit (s := S7x2x128x4096) ![e.val, 0, 0, 0] S1x2x128x4096.size (inb7 e)) (fun _ _ => rfl)
    (fun _ => squeezes_S1x2x128x4096_S2x128x4096) (rows_disjoint _ 0 (fun _ => rfl) (fun _ => rfl) (fun _ => rfl)) cover7
theorem slots_br1 (c : Dev nD) : (iprop(∃ f, (c : Thread nD τ).loc cc0_scratch5 ↦{fullShare} f) : sProp 𝕄)
    = bigSep Finset.univ fun e : Fin 7 => raw (.l1 e) c :=
  slots_eq c br1 (View.set_whole _) (fun e => Rect.unit (s := S7x2x128x4096) ![e.val, 0, 0, 0] S1x2x128x4096.size (inb7 e)) (fun _ _ => rfl)
    (fun _ => squeezes_S1x2x128x4096_S2x128x4096) (rows_disjoint _ 0 (fun _ => rfl) (fun _ => rfl) (fun _ => rfl)) cover7
theorem slots_bl2 (c : Dev nD) : (iprop(∃ f, (c : Thread nD τ).loc cc0_scratch6 ↦{fullShare} f) : sProp 𝕄)
    = bigSep Finset.univ fun e : Fin 7 => raw (.r2 e) c :=
  slots_eq c bl2 (View.set_whole _) (fun e => Rect.unit (s := S7x128x4096) ![e.val, 0, 0] S1x128x4096.size (inb7s e)) (fun _ _ => rfl)
    (fun _ => squeezes_S1x128x4096_S128x4096) (rows_disjoint _ 0 (fun _ => rfl) (fun _ => rfl) (fun _ => rfl)) cover7s
theorem slots_br2 (c : Dev nD) : (iprop(∃ f, (c : Thread nD τ).loc cc0_scratch7 ↦{fullShare} f) : sProp 𝕄)
    = bigSep Finset.univ fun e : Fin 7 => raw (.l2 e) c :=
  slots_eq c br2 (View.set_whole _) (fun e => Rect.unit (s := S7x128x4096) ![e.val, 0, 0] S1x128x4096.size (inb7s e)) (fun _ _ => rfl)
    (fun _ => squeezes_S1x128x4096_S128x4096) (rows_disjoint _ 0 (fun _ => rfl) (fun _ => rfl) (fun _ => rfl)) cover7s

/-- Something of every copy is something of each kind of copy. -/
def jsum : (Fin 6 ⊕ Fin 7) ⊕ (Fin 7 ⊕ Fin 7) ⊕ Fin 7 ≃ J where
  toFun x := match x with
    | .inl (.inl e) => .z e
    | .inl (.inr e) => .r1 e
    | .inr (.inl (.inl e)) => .l1 e
    | .inr (.inl (.inr e)) => .r2 e
    | .inr (.inr e) => .l2 e
  invFun j := match j with
    | .z e => .inl (.inl e)
    | .r1 e => .inl (.inr e)
    | .l1 e => .inr (.inl (.inl e))
    | .r2 e => .inr (.inl (.inr e))
    | .l2 e => .inr (.inr e)
  left_inv x := by rcases x with (x | x) | (x | x) | x <;> rfl
  right_inv j := by cases j <;> rfl

theorem bigSep_J (Φ : J → sProp 𝕄) : bigSep Finset.univ Φ
    = iprop(((bigSep Finset.univ fun e => Φ (.z e)) ∗ bigSep Finset.univ fun e => Φ (.r1 e))
        ∗ ((bigSep Finset.univ fun e => Φ (.l1 e)) ∗ bigSep Finset.univ fun e => Φ (.r2 e)) ∗ bigSep Finset.univ fun e => Φ (.l2 e)) := by
  rw [bigSep_univ_equiv jsum, bigSep_univ_sum, bigSep_univ_sum, bigSep_univ_sum, bigSep_univ_sum]; rfl

theorem bigSep_six (Φ : Fin 6 → sProp 𝕄) : bigSep Finset.univ Φ
    = iprop((bigSep Finset.univ fun e : Fin 3 => Φ ⟨e.val, by omega⟩) ∗ bigSep Finset.univ fun e : Fin 3 => Φ ⟨e.val + 3, by omega⟩) := by
  let eq : Fin 3 ⊕ Fin 3 ≃ Fin 6 := ⟨Sum.elim (fun e => ⟨e.val, by omega⟩) (fun e => ⟨e.val + 3, by omega⟩),
    fun e => if h : e.val < 3 then .inl ⟨e.val, h⟩ else .inr ⟨e.val - 3, by omega⟩, by decide, by decide⟩
  rw [bigSep_univ_equiv eq, bigSep_univ_sum]; rfl

/-- The receive buffers, whole at any contents: every copy's destination at any contents. -/
theorem raws_eq (c : Dev nD) : (bigSep Finset.univ fun j : J => raw (F := F) j c)
    = iprop((((∃ f, (c : Thread nD τ).loc cc0_scratch2 ↦{fullShare} f) ∗ ∃ f, (c : Thread nD τ).loc cc0_scratch3 ↦{fullShare} f)
          ∗ ∃ f, (c : Thread nD τ).loc cc0_scratch4 ↦{fullShare} f)
        ∗ ((∃ f, (c : Thread nD τ).loc cc0_scratch5 ↦{fullShare} f) ∗ ∃ f, (c : Thread nD τ).loc cc0_scratch6 ↦{fullShare} f)
        ∗ ∃ f, (c : Thread nD τ).loc cc0_scratch7 ↦{fullShare} f) := by
  have h1 : (bigSep Finset.univ fun e : Fin 3 => raw (F := F) (.z ⟨e.val, by omega⟩) c)
      = bigSep Finset.univ fun e : Fin 3 => iprop(∃ V, owns (c : Thread nD τ) (slot3 zb e) fullShare V) :=
    bigSep_congr fun e _ => by fin_cases e <;> rfl
  have h2 : (bigSep Finset.univ fun e : Fin 3 => raw (F := F) (.z ⟨e.val + 3, by omega⟩) c)
      = bigSep Finset.univ fun e : Fin 3 => iprop(∃ V, owns (c : Thread nD τ) (slot3 za e) fullShare V) :=
    bigSep_congr fun e _ => by fin_cases e <;> rfl
  rw [bigSep_J, bigSep_six, h1, h2, slots_zb, slots_za, slots_bl1, slots_br1, slots_bl2, slots_br2]

end Cert.KernelIdeal.Exchange
end
-- ==== Proof.KernelIdeal.State.lean ====
/-
# A device's state at a position of the program, and the steps that move it

The program's sends, waits and products are numbered in order (`Cert.Plan`). `St c k` is everything device `c` holds
of the exchange before position `k`; a send, a receive's wait and a departure's wait each take it to `k + 1`, and so
does a position at which this device does nothing.
-/
module

public import proofs.«01_k».proof.Proof.KernelIdeal.Pieces

@[expose] public section

noncomputable section

namespace Cert.KernelIdeal.Exchange

open Cert.KernelIdeal Cert.KernelIdeal.Gen Cert.Plan
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (xv : Dev nD → S2x128x4096.Idx → Elt F .fp8e5m2)

/-- One member of a family, and the others. -/
theorem pick {I : Type} [Fintype I] [DecidableEq I] {Φ : I → sProp 𝕄} (i : I) :
    bigSep Finset.univ Φ ⊢ iprop(Φ i ∗ bigSep (Finset.univ.erase i) Φ) := Entails.of_eq (bigSep_univ_split i)
theorem unpick {I : Type} [Fintype I] [DecidableEq I] {Φ : I → sProp 𝕄} (i : I) :
    iprop(Φ i ∗ bigSep (Finset.univ.erase i) Φ) ⊢ bigSep Finset.univ Φ := Entails.of_eq (bigSep_univ_split i).symm

/-! ## The cells' records -/

/-- A cell's invariant stands and its first round is reached. -/
def Rec (g : GSem nD τ sig) : sProp 𝕄 := iprop((∃ κ, cellInv ER (Rd xv) κ g) ∗ reached ER g 0)
instance Rec_persistent (g : GSem nD τ sig) : BI.Persistent (Rec xv g) := by unfold Rec; infer_instance

/-- All cells: a device's barrier cell, and each copy's departure and arrival. -/
abbrev KC : Type := Dev nD × Option (J × Bool)
def kc : KC → GSem nD τ sig
  | (c, none) => barCell c
  | (c, some (j, false)) => sCell j c
  | (c, some (j, true)) => rCell j c

def records : sProp 𝕄 := bigSep Finset.univ fun p : KC => Rec xv (kc p)
instance records_persistent : BI.Persistent (records xv) := by unfold records; infer_instance

theorem rec_of (p : KC) : records xv ⊢ Rec xv (kc p) := by
  unfold records
  iintro H
  ihave H := pick p $$ H
  icases H with ⟨H, -⟩
  iexact H
theorem rec_s (j : J) (c : Dev nD) : records xv ⊢ Rec xv (sCell j c) := rec_of xv (c, some (j, false))
theorem rec_r (j : J) (c : Dev nD) : records xv ⊢ Rec xv (rCell j c) := rec_of xv (c, some (j, true))
theorem rec_bar (c : Dev nD) : records xv ⊢ Rec xv (barCell c) := rec_of xv (c, none)

/-! ## The state -/

/-- What a device owes, whatever it has waited for. -/
def Owe (c : Dev nD) (O : CellTallies nD τ sig Unit) : sProp 𝕄 := iprop(∃ W, owes (c : Thread nD τ) O W)

/-- The source of copy `j` has arrived before position `k`; it arrives on this device at all; it is with the copy. -/
def avail (j : J) (k : ℕ) : Bool := match par j with | none => true | some p => decide (tR p < k)
def here (j : J) (c : Fin 16) : Bool := match par j with | none => true | some p => ract p c
def away (j : J) (c : Fin 16) (k : ℕ) : Bool := sact j c && decide (tS j < k) && decide (k ≤ tW j)

/-- The departure's side of copy `j` on device `c`: before the send the rights to pay both cells and the destination;
    then the credit for the departure; then the departure's round is over. -/
def SG (j : J) (c : Dev nD) (k : ℕ) : sProp 𝕄 :=
  if sact j c = true then
    if k ≤ tS j then iprop((dutyTok ER (sCell j c) 0 0 ∗ dutyTok ER (rCell j (tgt j c)) 0 0) ∗ raw j (tgt j c) ∗ atPos ER (sCell j c) 0 ∅ 0)
    else if k ≤ tW j then iprop(cred (tallyAt (sCell j c) () (amt j)) ∗ atPos ER (sCell j c) 0 ∅ 0)
    else atPos ER (sCell j c) 1 ∅ 0
  else atPos ER (sCell j c) 0 ∅ 0
/-- The source of copy `j`, when it is there and not with the copy. -/
def SS (j : J) (c : Dev nD) (k : ℕ) : sProp 𝕄 :=
  if (here j c && avail j k && !away j c k) = true then sp xv j c else iprop(emp)
/-- The arrival's side: before the wait the credit; then the block. Without the copy the destination stays. -/
def RS (j : J) (c : Dev nD) (k : ℕ) : sProp 𝕄 :=
  if ract j c = true then
    if k ≤ tR j then iprop(cred (tallyAt (rCell j c) () (amt j)) ∗ atPos ER (rCell j c) 0 ∅ 0)
    else iprop((rd xv j c ∗ rest xv j c) ∗ atPos ER (rCell j c) 1 ∅ 0)
  else iprop(raw j c ∗ atPos ER (rCell j c) 0 ∅ 0)

/-- Everything of the exchange on device `c` before position `k`. -/
def St (c : Dev nD) (k : ℕ) : sProp 𝕄 :=
  iprop(records xv ∗ levAts L lv ∗ Owe c (O k c) ∗ (bigSep Finset.univ fun j => SG j c k) ∗ (bigSep Finset.univ fun j => SS xv j c k)
    ∗ bigSep Finset.univ fun j => RS xv j c k)

/-! ## What does not move -/

theorem SG_stay (j : J) (c : Dev nD) (k : ℕ) (h₁ : tS j = k → sact j c = false) (h₂ : tW j = k → sact j c = false) :
    SG (F := F) j c k = SG j c (k + 1) := by
  unfold SG
  by_cases hs : sact j c = true
  · have a : tS j ≠ k := fun e => by rw [h₁ e] at hs; cases hs
    have b : tW j ≠ k := fun e => by rw [h₂ e] at hs; cases hs
    have e₁ : (k ≤ tS j) = (k + 1 ≤ tS j) := propext ⟨fun h => by omega, fun h => by omega⟩
    have e₂ : (k ≤ tW j) = (k + 1 ≤ tW j) := propext ⟨fun h => by omega, fun h => by omega⟩
    simp only [e₁, e₂]
  · rw [if_neg hs, if_neg hs]

theorem SS_stay (j : J) (c : Dev nD) (k : ℕ) (h₁ : tS j = k → sact j c = false) (h₂ : tW j = k → sact j c = false)
    (h₃ : ∀ p, par j = some p → tR p = k → ract p c = false) : SS xv j c k = SS xv j c (k + 1) := by
  have e : (here j c && avail j k && !away j c k) = (here j c && avail j (k + 1) && !away j c (k + 1)) := by
    have ha : away j c k = away j c (k + 1) := by
      unfold away
      by_cases hs : sact j c = true
      · have a : tS j ≠ k := fun e => by rw [h₁ e] at hs; cases hs
        have b : tW j ≠ k := fun e => by rw [h₂ e] at hs; cases hs
        rw [decide_eq_decide.mpr (show tS j < k ↔ tS j < k + 1 by omega), decide_eq_decide.mpr (show k ≤ tW j ↔ k + 1 ≤ tW j by omega)]
      · rw [Bool.eq_false_iff.mpr hs]; rfl
    rw [ha]; congr 1
    unfold here avail
    rcases hp : par j with _ | p
    · rfl
    · by_cases hr : tR p = k
      · simp only [h₃ p hp hr, Bool.false_and]
      · simp only [decide_eq_decide.mpr (show tR p < k ↔ tR p < k + 1 by omega)]
  unfold SS; rw [e]

theorem RS_stay (j : J) (c : Dev nD) (k : ℕ) (h : tR j = k → ract j c = false) : RS xv j c k = RS xv j c (k + 1) := by
  unfold RS
  by_cases hr : ract j c = true
  · have a : tR j ≠ k := fun e => by rw [h e] at hr; cases hr
    have e₁ : (k ≤ tR j) = (k + 1 ≤ tR j) := propext ⟨fun h => by omega, fun h => by omega⟩
    simp only [e₁]
  · rw [if_neg hr, if_neg hr]

/-- Nothing of the exchange happens on device `c` at position `k`. -/
def still (k : ℕ) (c : Fin 16) : Bool :=
  decide (∀ i : Fin 34, (tS (J.ofFin i) = k → sact (J.ofFin i) c = false) ∧ (tR (J.ofFin i) = k → ract (J.ofFin i) c = false)
    ∧ (tW (J.ofFin i) = k → sact (J.ofFin i) c = false))

theorem St_still (c : Dev nD) (k : ℕ) (h : still k c = true) : St xv c k = St xv c (k + 1) := by
  have h' := of_decide_eq_true h
  have hS : ∀ j, tS j = k → sact j c = false := forallJ fun i => (h' i).1
  have hR : ∀ j, tR j = k → ract j c = false := forallJ fun i => (h' i).2.1
  have hW : ∀ j, tW j = k → sact j c = false := forallJ fun i => (h' i).2.2
  unfold St
  rw [O_skip c k hS, bigSep_congr fun j _ => SG_stay (F := F) j c k (hS j) (hW j),
    bigSep_congr fun j _ => SS_stay xv j c k (hS j) (hW j) (fun p _ => hR p),
    bigSep_congr fun j _ => RS_stay xv j c k (hR j)]

/-- One member of a family changes. -/
theorem put {Φ Ψ : J → sProp 𝕄} (j : J) (h : ∀ j', j' ≠ j → Φ j' = Ψ j') :
    iprop(Ψ j ∗ bigSep (Finset.univ.erase j) Φ) ⊢ bigSep Finset.univ Ψ := by
  rw [bigSep_congr fun j' hj' => h j' (Finset.ne_of_mem_erase hj')]
  exact unpick j

/-! ## A send -/

theorem Rec_elim (g : GSem nD τ sig) : Rec xv g ⊢ iprop((∃ κ, cellInv ER (Rd xv) κ g) ∗ reached ER g 0) := .rfl
theorem sp_elim (j : J) (c : Dev nD) : sp xv j c ⊢ iprop(∃ f, ⌜(X j).src.view.read (Elt F) f = cont xv j (oS j c)⌝
    ∗ ((X j).src.view.loc (c : Thread nD τ) ↦[(X j).src.view.set]{shr j} f)) := .rfl
theorem raw_elim (j : J) (c : Dev nD) : raw (F := F) j c ⊢ iprop(∃ f, (X j).dst.view.loc (c : Thread nD τ) ↦[(X j).dst.view.set]{fullShare} f) :=
  Entails.of_eq (owns_any c (X j).dst)
theorem sp_intro (j : J) (c : Dev nD) (f) (h : (X j).src.view.read (Elt F) f = cont xv j (oS j c)) :
    ((X j).src.view.loc (c : Thread nD τ) ↦[(X j).src.view.set]{shr j} f) ⊢ sp xv j c := by
  unfold sp owns
  iintro H; iexists f; isplitr
  · ipureintro; exact h
  · iexact H
theorem landed_intro (j : J) (c : Dev nD) (f) (h : (X j).dst.view.read (Elt F) f = cont xv j (oR j c)) :
    ((X j).dst.view.loc (c : Thread nD τ) ↦[(X j).dst.view.set]{fullShare} f) ⊢ landed xv j c := by
  unfold landed owns
  iintro H; iexists f; isplitr
  · ipureintro; exact h
  · iexact H

theorem here_of_sact (j : J) (c : Fin 16) (hs : sact j c = true) : here j c = true := by
  unfold here; rcases hp : par j with _ | p
  · rfl
  · exact sact_par j p hp c hs
theorem avail_of_lt (j : J) (k : ℕ) (hk : tS j ≤ k) : avail j k = true := by
  unfold avail; rcases hp : par j with _ | p
  · rfl
  · have := par_lt j p hp; exact decide_eq_true (by omega)

abbrev 𝒱₀ : Variants := Variants.none
/-- The weakest precondition of a program of device `c`'s core. -/
abbrev wpC (c : Dev nD) {α : Type} (p : Prog (TpuEff nD τ sig (Elt F) Λ₀ .tc) α) (Q : α → sProp 𝕄) : sProp 𝕄 :=
  wp frame (wpE defs₀ 𝒱₀ (c : Thread nD τ) none) Set.univ p Q

theorem step_send_aux (j : J) (c : Dev nD) (k : ℕ) (hk : tS j = k) (hs : sact j c = true) :
    ∀ x : Xfer, X j = x → ∀ n : Dev nD, n = tgt j c → ∀ {hsc : x.dst.view.ref.isScScratch = false} {hsrc : x.src.view.WordExact}
      {hdst : x.dst.view.WordExact} {hsem : DmaTarget.Typed .vmem (.dma x.rsem) (.remote (Dev.tc n : Thread nD τ) x.dst (.dma x.ssem) hsc)}
      {α : Type} {kont : PUnit → Prog (TpuEff nD τ sig (Elt F) Λ₀ .tc) α} {Q : α → sProp 𝕄},
    St xv c k ⊢ iprop((St xv c (k + 1) -∗ wpC c (kont ⟨⟩) Q)
      -∗ wpC c (.op (.enqueueDma x.src (.remote (Dev.tc n : Thread nD τ) x.dst (.dma x.ssem) hsc) (.dma x.rsem) hsrc hdst hsem) kont) Q) := by
  rintro _ rfl _ rfl hsc hsrc hdst hsem α kont Q
  have hW := tS_lt_tW j
  unfold St Owe
  iintro ⟨#Hrec, #Hlev, ⟨%W, HO⟩, HSG, HSS, HRS⟩ Hk
  ihave HSG := pick j $$ HSG
  icases HSG with ⟨Hj, HSG⟩
  ihave HSS := pick j $$ HSS
  icases HSS with ⟨Hs, HSS⟩
  have e₁ : SG (F := F) j c k = iprop((dutyTok ER (sCell j c) 0 0 ∗ dutyTok ER (rCell j (tgt j c)) 0 0) ∗ raw j (tgt j c) ∗ atPos ER (sCell j c) 0 ∅ 0) := by
    unfold SG; rw [if_pos hs, if_pos hk.ge]
  have e₂ : SG (F := F) j c (k + 1) = iprop(cred (tallyAt (sCell j c) () (amt j)) ∗ atPos ER (sCell j c) 0 ∅ 0) := by
    unfold SG; rw [if_pos hs, if_neg (by omega), if_pos (by omega)]
  have e₃ : SS xv j c k = sp xv j c := by
    unfold SS away
    rw [here_of_sact j c hs, avail_of_lt j k hk.le, hs, decide_eq_false (show ¬ tS j < k by omega)]; exact if_pos rfl
  have e₄ : SS xv j c (k + 1) = iprop(emp) := by
    unfold SS away
    rw [hs, decide_eq_true (show tS j < k + 1 by omega), decide_eq_true (show k + 1 ≤ tW j by omega)]; exact if_neg (by simp)
  ihave Hj := (Entails.of_eq e₁) $$ Hj
  ihave Hs := (Entails.of_eq e₃) $$ Hs
  icases Hj with ⟨⟨Ht1, Ht2⟩, Hd, Hat⟩
  ihave Hd := raw_elim j (tgt j c) $$ Hd
  icases Hd with ⟨%fd, Hd⟩
  ihave Hs := sp_elim xv j c $$ Hs
  icases Hs with ⟨%fs, %hfs, Hs⟩
  ihave #R1 := rec_s xv j c $$ Hrec
  ihave #R2 := rec_r xv j (tgt j c) $$ Hrec
  ihave R1 := Rec_elim xv (sCell j c) $$ R1
  ihave R2 := Rec_elim xv (rCell j (tgt j c)) $$ R2
  icases R1 with ⟨⟨%κ₁, #I1⟩, #r1⟩
  icases R2 with ⟨⟨%κ₂, #I2⟩, #r2⟩
  iapply (Rounds.wp_send_pointsTo 𝒱₀ ER (Rd xv) (c : Thread nD τ) none (κ₁ := κ₁) (κ₂ := κ₂) (r₁ := 0) (r₂ := 0) (d₁ := 0) (d₂ := 0)
    (by rw [duties_s, if_pos hs]; exact Finset.mem_singleton_self _)
    (by rw [duties_r, if_pos (show ract j (tgt j c) = true from hs)]; exact Finset.mem_singleton_self _)
    () () (amt j) rfl (amount_s xv j c 0) (amount_r xv j (tgt j c) 0) (O (k + 1) c) (O_step j c k hk hs)
    ((sp_intro xv j c fs hfs).trans (Entails.of_eq (payload_s xv j c 0).symm))
    ((landed_intro xv j (tgt j c) ((X j).dst.view.write (Elt F) fd ((X j).src.view.read (Elt F) fs) Finset.univ) (by rw [View.read_write_univ, hfs, oR_tgt])).trans (Entails.of_eq (payload_r xv j (tgt j c) 0).symm))) $$ [Hs Hd HO Ht1 Ht2]
  · isplitr; · iexact I1
    isplitr; · iexact I2
    isplitl [Hs]; · iexact Hs
    isplitl [Hd]; · iexact Hd
    isplitl [HO]; · iexact HO
    isplitl [Ht1]; · iexact Ht1
    isplitr; · iexact r1
    isplitl [Ht2]; · iexact Ht2
    iexact r2
  · iintro ⟨Hc, HO⟩
    iapply Hk
    isplitr; · iexact Hrec
    isplitr; · iexact Hlev
    isplitl [HO]
    · iexists W; iexact HO
    isplitl [HSG Hc Hat]
    · iapply (put (Ψ := fun j => SG j c (k + 1)) j (fun j' hj' => SG_stay (F := F) j' c k (fun h => absurd (tS_inj _ _ (h.trans hk.symm)) hj')
        (fun h => absurd (hk.trans h.symm) (tS_ne_tW _ _))))
      isplitl [Hc Hat]
      · iapply (Entails.of_eq e₂.symm)
        isplitl [Hc]; · iexact Hc
        iexact Hat
      · iexact HSG
    isplitl [HSS]
    · iapply (put (Ψ := fun j => SS xv j c (k + 1)) j (fun j' hj' => SS_stay xv j' c k (fun h => absurd (tS_inj _ _ (h.trans hk.symm)) hj')
        (fun h => absurd (hk.trans h.symm) (tS_ne_tW _ _)) (fun p _ h => absurd (hk.trans h.symm) (tS_ne_tR _ _))))
      isplitr
      · iapply (Entails.of_eq e₄.symm); iempintro
      · iexact HSS
    · iapply (Entails.of_eq (bigSep_congr fun j' _ => RS_stay xv j' c k (fun h => absurd (hk.trans h.symm) (tS_ne_tR _ _))))
      iexact HRS

/-! ## The wait for an arrival -/

theorem kids_elim (j : J) (c : Dev nD) : landed xv j c ⊢ iprop((rd xv j c ∗ rest xv j c) ∗ kids xv j c) := by
  refine (Entails.of_eq (landed_eq xv j c)).trans ?_
  iintro ⟨H1, H2, H3⟩
  isplitl [H1 H2]
  · isplitl [H1]; · iexact H1
    iexact H2
  iexact H3

/-- The sources that came with an arrival are there from now on. -/
theorem SS_arrive (j : J) (c : Dev nD) (k : ℕ) (hk : tR j = k) (hr : ract j c = true) :
    iprop((bigSep Finset.univ fun j' => SS xv j' c k) ∗ kids xv j c) ⊢ bigSep Finset.univ fun j' => SS xv j' c (k + 1) := by
  unfold kids
  refine (Entails.of_eq (bigSep_sep _ _ _).symm).trans (bigSep_mono fun j' _ => ?_)
  by_cases hp : par j' = some j
  · have hlt := par_lt j' j hp
    have e₁ : SS xv j' c k = iprop(emp) := by
      unfold SS avail; rw [hp]
      have : decide (tR j < k) = false := decide_eq_false (by omega)
      simp only [this, Bool.and_false, Bool.false_and]; rfl
    have e₂ : SS xv j' c (k + 1) = sp xv j' c := by
      unfold SS avail here away; rw [hp]
      have h1 : decide (tR j < k + 1) = true := decide_eq_true (by omega)
      have h2 : decide (tS j' < k + 1) = false := decide_eq_false (by omega)
      simp only [h1, h2, hr, Bool.and_false, Bool.false_and]; rfl
    rw [e₁, e₂, if_pos hp]
    exact emp_sep.1
  · have e : SS xv j' c k = SS xv j' c (k + 1) :=
      SS_stay xv j' c k (fun h => absurd (h.trans hk.symm) (tS_ne_tR _ _)) (fun h => absurd (hk.trans h.symm) (tR_ne_tW _ _))
        (fun p hp' h => absurd (by rw [hp', tR_inj p j (h.trans hk.symm)]) hp)
    rw [e, if_neg hp]
    exact sep_emp.1

theorem step_recv_aux (j : J) (c : Dev nD) (k : ℕ) (hk : tR j = k) (hr : ract j c = true) :
    ∀ q : DmaSem sig, (X j).rsem = q → ∀ {κ' : Kind} {b : Ref sig κ'} {s : Shape} {e : EltTy} {hm : (Proc.tc : Proc τ) = .tc ∨ b.HasMemref s e} (hcr : b.dmaCredit s e = amt j)
      {α : Type} {kont : PUnit → Prog (TpuEff nD τ sig (Elt F) Λ₀ .tc) α} {Q : α → sProp 𝕄},
    St xv c k ⊢ iprop((St xv c (k + 1) -∗ wpC c (kont ⟨⟩) Q)
      -∗ wpC c (.op (.waitDma q b s e hm) kont) Q) := by
  rintro _ rfl κ' b s e hm hcr α kont Q
  have e₁ : RS xv j c k = iprop(cred (tallyAt (rCell j c) () (amt j)) ∗ atPos ER (rCell j c) 0 ∅ 0) := by
    unfold RS; rw [if_pos hr, if_pos hk.ge]
  have e₂ : RS xv j c (k + 1) = iprop((rd xv j c ∗ rest xv j c) ∗ atPos ER (rCell j c) 1 ∅ 0) := by
    unfold RS; rw [if_pos hr, if_neg (by omega)]
  have hO : O k c = O (k + 1) c := O_skip c k fun j' h => absurd (h.trans hk.symm) (tS_ne_tR _ _)
  unfold St Owe
  iintro ⟨#Hrec, #Hlev, ⟨%W, HO⟩, HSG, HSS, HRS⟩ Hk
  ihave HRS := pick j $$ HRS
  icases HRS with ⟨Hj, HRS⟩
  ihave Hj := (Entails.of_eq e₁) $$ Hj
  icases Hj with ⟨Hc, Hat⟩
  ihave #R1 := rec_r xv j c $$ Hrec
  ihave R1 := Rec_elim xv (rCell j c) $$ R1
  icases R1 with ⟨⟨%κ, #I1⟩, #r1⟩
  iapply (Rounds.wp_wait_rest_token 𝒱₀ ER (Rd xv) (c : Thread nD τ) none (κ := κ) (wpE_waitDma_eq 𝒱₀ (c : Thread nD τ) none Set.univ) (Set.mem_univ _) ()
    (O := O k c) (W := W) (R := 0) (m := 0) (T := ∅) (by rw [Nat.zero_add, hcr]; exact (expect_r xv j c hr).symm)) $$ [Hc HO Hat]
  · isplitr; · iexact I1
    isplitl [Hc]; · iapply (Entails.of_eq (congrArg (fun n => cred (tallyAt (rCell j c) () n)) hcr.symm)); iexact Hc
    isplitl [HO]; · iexact HO
    isplitr
    · iapply (hk ▸ mayWait_r j c : (levAts L lv : sProp 𝕄) ⊢ MayWait (c : Thread nD τ) (.dma (X j).rsem) () (O k c)); iexact Hlev
    iexact Hat
  · iintro ⟨HO, Hat, -, Hp⟩
    ihave Hp := (Entails.of_eq (rest_r xv j c hr)) $$ Hp
    ihave Hp := kids_elim xv j c $$ Hp
    icases Hp with ⟨Hrd, Hkids⟩
    iapply Hk
    isplitr; · iexact Hrec
    isplitr; · iexact Hlev
    isplitl [HO]
    · iexists _; iapply (Entails.of_eq (congrArg (fun o => owes (c : Thread nD τ) o _) hO)); iexact HO
    isplitl [HSG]
    · iapply (Entails.of_eq (bigSep_congr fun j' _ => SG_stay (F := F) j' c k (fun h => absurd (h.trans hk.symm) (tS_ne_tR _ _))
        (fun h => absurd (hk.trans h.symm) (tR_ne_tW _ _))))
      iexact HSG
    isplitl [HSS Hkids]
    · iapply (SS_arrive xv j c k hk hr)
      isplitl [HSS]; · iexact HSS
      iexact Hkids
    · iapply (put (Ψ := fun j => RS xv j c (k + 1)) j (fun j' hj' => RS_stay xv j' c k (fun h => absurd (tR_inj _ _ (h.trans hk.symm)) hj')))
      isplitl [Hrd Hat]
      · iapply (Entails.of_eq e₂.symm)
        isplitl [Hrd]; · iexact Hrd
        iexact Hat
      · iexact HRS

/-! ## The wait for a departure -/

theorem step_swait_aux (j : J) (c : Dev nD) (k : ℕ) (hk : tW j = k) (h124 : 124 ≤ k) (hs : sact j c = true) :
    ∀ q : DmaSem sig, (X j).ssem = q → ∀ {κ' : Kind} {b : Ref sig κ'} {s : Shape} {e : EltTy} {hm : (Proc.tc : Proc τ) = .tc ∨ b.HasMemref s e} (hcr : b.dmaCredit s e = amt j)
      {α : Type} {kont : PUnit → Prog (TpuEff nD τ sig (Elt F) Λ₀ .tc) α} {Q : α → sProp 𝕄},
    St xv c k ⊢ iprop((St xv c (k + 1) -∗ wpC c (kont ⟨⟩) Q)
      -∗ wpC c (.op (.waitDma q b s e hm) kont) Q) := by
  rintro _ rfl κ' b s e hm hcr α kont Q
  have hST := tS_lt_tW j
  have hkS : ∀ j', tS j' ≠ k := fun j' h => by have := tS_lt j'; omega
  have hkR : ∀ j', tR j' ≠ k := fun j' h => by have := tR_lt j'; omega
  have e₁ : SG (F := F) j c k = iprop(cred (tallyAt (sCell j c) () (amt j)) ∗ atPos ER (sCell j c) 0 ∅ 0) := by
    unfold SG; rw [if_pos hs, if_neg (by omega), if_pos hk.ge]
  have e₂ : SG (F := F) j c (k + 1) = atPos ER (sCell j c) 1 ∅ 0 := by
    unfold SG; rw [if_pos hs, if_neg (by omega), if_neg (by omega)]
  have e₃ : SS xv j c k = iprop(emp) := by
    unfold SS away
    rw [hs, decide_eq_true (show tS j < k by omega), decide_eq_true (show k ≤ tW j by omega)]; exact if_neg (by simp)
  have e₄ : SS xv j c (k + 1) = sp xv j c := by
    unfold SS away
    rw [here_of_sact j c hs, avail_of_lt j (k + 1) (by omega), hs, decide_eq_false (show ¬ k + 1 ≤ tW j by omega), Bool.and_false]; exact if_pos rfl
  have hO : O k c = O (k + 1) c := O_skip c k fun j' h => absurd h (hkS j')
  have hO0 : O k c = 0 := O_done c k h124
  unfold St Owe
  iintro ⟨#Hrec, #Hlev, ⟨%W, HO⟩, HSG, HSS, HRS⟩ Hk
  ihave HSG := pick j $$ HSG
  icases HSG with ⟨Hj, HSG⟩
  ihave HSS := pick j $$ HSS
  icases HSS with ⟨-, HSS⟩
  ihave Hj := (Entails.of_eq e₁) $$ Hj
  icases Hj with ⟨Hc, Hat⟩
  ihave #R1 := rec_s xv j c $$ Hrec
  ihave R1 := Rec_elim xv (sCell j c) $$ R1
  icases R1 with ⟨⟨%κ, #I1⟩, #r1⟩
  iapply (Rounds.wp_wait_rest_token 𝒱₀ ER (Rd xv) (c : Thread nD τ) none (κ := κ) (wpE_waitDma_eq 𝒱₀ (c : Thread nD τ) none Set.univ) (Set.mem_univ _) ()
    (O := O k c) (W := W) (R := 0) (m := 0) (T := ∅) (by rw [Nat.zero_add, hcr]; exact (expect_s xv j c hs).symm)) $$ [Hc HO Hat]
  · isplitr; · iexact I1
    isplitl [Hc]; · iapply (Entails.of_eq (congrArg (fun n => cred (tallyAt (sCell j c) () n)) hcr.symm)); iexact Hc
    isplitl [HO]; · iexact HO
    isplitr
    · iapply (Entails.of_eq (show (iprop(emp) : sProp 𝕄) = MayWait (c : Thread nD τ) (.dma (X j).ssem) () (O k c) by rw [hO0, MayWait_zero]; rfl)); iempintro
    iexact Hat
  · iintro ⟨HO, Hat, -, Hp⟩
    ihave Hp := (Entails.of_eq (rest_s xv j c hs)) $$ Hp
    iapply Hk
    isplitr; · iexact Hrec
    isplitr; · iexact Hlev
    isplitl [HO]
    · iexists _; iapply (Entails.of_eq (congrArg (fun o => owes (c : Thread nD τ) o _) hO)); iexact HO
    isplitl [HSG Hat]
    · iapply (put (Ψ := fun j => SG j c (k + 1)) j (fun j' hj' => SG_stay (F := F) j' c k (fun h => absurd h (hkS j'))
        (fun h => absurd (tW_inj _ _ (h.trans hk.symm)) hj')))
      isplitl [Hat]
      · iapply (Entails.of_eq e₂.symm); iexact Hat
      · iexact HSG
    isplitl [HSS Hp]
    · iapply (put (Ψ := fun j => SS xv j c (k + 1)) j (fun j' hj' => SS_stay xv j' c k (fun h => absurd h (hkS j'))
        (fun h => absurd (tW_inj _ _ (h.trans hk.symm)) hj') (fun p _ h => absurd h (hkR p))))
      isplitl [Hp]
      · iapply (Entails.of_eq e₄.symm); iexact Hp
      · iexact HSS
    · iapply (Entails.of_eq (bigSep_congr fun j' _ => RS_stay xv j' c k (fun h => absurd h (hkR j'))))
      iexact HRS

end Cert.KernelIdeal.Exchange
end
-- ==== Proof.KernelIdeal.Steps.lean ====
/-
# The steps of the walk

The state `Sd c k` adds to the exchange's state the device's own block, its slice of the weights and the result
buffer, whose tiles stored before position `k` hold their values. Each theorem here takes a program from one state
to the next: if the rest of the program is right from the later state, the whole is right from the earlier one.
-/
module

public import proofs.«01_k».proof.Proof.KernelIdeal.State

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (xv : Dev nD → S2x128x4096.Idx → Elt F .fp8e5m2) (wv : Dev nD → S4096x512.Idx → Elt F .fp8e5m2) (sc : Dev nD → F .f32)

/-! ## Values -/

/-- One tile of the result: 128 rows against the weights, scaled, cut off below at zero. -/
def gtile (s : F .f32) (a : Vec F S1x128x4096 .fp8e5m2) (b : Vec F S4096x512 .fp8e5m2) : FVec F S128x512 .f32 :=
  maximumf (mulf (matmul dot_S128x4096_S4096x512_S128x512_1_0_0_1_n_n none
      (shapeCast S128x4096 a shapeCasts_S1x128x4096_S128x4096 : FVec F S128x4096 .fp8e5m2) b (constant S128x512 .f32 0x00000000#32))
    (broadcast S128x512 s)) (broadcast S128x512 (Scalar.ofBits .f32 0x00000000#32))

/-- Half `h` of device `d`'s block. -/
def chunk (d : Dev nD) (h : Fin 2) : S1x128x4096.Idx → Elt F .fp8e5m2 := fun y => xv d ((rh h).emb y)
/-- Device `c`'s tile for half `h` of device `d`'s block. -/
def tile (c d : Dev nD) (h : Fin 2) : S128x512.Idx → F .f32 := gtile (sc c) (chunk xv d h) (wv c)
/-- Device `c`'s whole result. -/
def outAt (c : Dev nD) (i : S4096x512.Idx) : F .f32 :=
  tile xv wv sc c ⟨(i 0).val / 256, by have : (i 0).val < 4096 := (i 0).isLt; show _ < 16; omega⟩ ⟨(i 0).val % 256 / 128, by omega⟩
    (ix2 ⟨(i 0).val % 128, by omega⟩ ⟨(i 1).val, (i 1).isLt⟩)

/-- The tiles stored before position `k` hold their values. -/
def filled (c : Dev nD) (k : ℕ) (f : S4096x512.Idx → F .f32) : Prop :=
  ∀ g : G, act g.1 c = true → tG g < k → ∀ i : S4096x512.Idx, (i 0).val / 256 = (gdev g c).val → (i 0).val % 256 / 128 = g.2.2.val →
    f i = outAt xv wv sc c i

theorem filled_all (c : Dev nD) (k : ℕ) (hk : 158 ≤ k) (f) (h : filled xv wv sc c k f) : f = outAt xv wv sc c := by
  funext i
  have hi : (i 0).val < 4096 := (i 0).isLt
  obtain ⟨g, ha, hd, hh⟩ := covered c ⟨(i 0).val / 256, by omega⟩ ⟨(i 0).val % 256 / 128, by omega⟩
  exact h g ha (lt_of_lt_of_le (tG_lt g) hk) i (by rw [hd]) (by rw [hh])
theorem filled_zero (c : Dev nD) (f) : filled xv wv sc c 0 f := fun g _ h => absurd h (Nat.not_lt_zero _)
theorem filled_le (c : Dev nD) (k k' : ℕ) (hk : ∀ g, act g.1 c = true → tG g < k' → tG g < k) (f) (h : filled xv wv sc c k f) :
    filled xv wv sc c k' f := fun g ha hg => h g ha (hk g ha hg)

/-- Storing a tile fills its place and leaves the others. -/
theorem filled_store (c : Dev nD) (g : G) (k : ℕ) (hk : tG g = k) (off : Fin 2 → ℕ)
    (inb : ∀ a, off a + S128x512.size a ≤ S4096x512.size a) (hoff : off = ![256 * (gdev g c).val + 128 * g.2.2.val, 0])
    (f : S4096x512.Idx → F .f32) (w : S128x512.Idx → F .f32) (hw : w = tile xv wv sc c (gdev g c) g.2.2) (h : filled xv wv sc c k f) :
    filled xv wv sc c (k + 1) ((oM.access (Rect.unit (s := S4096x512) off S128x512.size inb)).write (Elt F) f w Finset.univ) := by
  subst hoff
  intro g' ha hg i hd hh
  have hi : (i 0).val < 4096 := (i 0).isLt
  have hi1 : (i 1).val < 512 := (i 1).isLt
  by_cases hin : (i 0).val / 256 = (gdev g c).val ∧ (i 0).val % 256 / 128 = g.2.2.val
  · have he : (oM.access (Rect.unit (s := S4096x512) ![256 * (gdev g c).val + 128 * g.2.2.val, 0] S128x512.size inb)).emb
        (ix2 ⟨(i 0).val % 128, by omega⟩ ⟨(i 1).val, hi1⟩ : S128x512.Idx) = i := by
      funext a
      apply Fin.ext
      refine (Rect.emb_apply _ _ a).trans ?_
      fin_cases a
      · show 256 * (gdev g c).val + 128 * g.2.2.val + 1 * ((i 0).val % 128) = (i 0).val
        omega
      · show 0 + 1 * (i 1).val = (i 1).val
        omega
    have hv := View.write_emb_of_mem (Val := Elt F) (v := oM.access (Rect.unit (s := S4096x512) ![256 * (gdev g c).val + 128 * g.2.2.val, 0] S128x512.size inb))
      f w (Finset.mem_univ (ix2 ⟨(i 0).val % 128, by omega⟩ ⟨(i 1).val, hi1⟩ : S128x512.Idx))
    rw [he] at hv
    refine hv.trans ?_
    rw [hw]
    unfold outAt
    have e1 : (⟨(i 0).val / 256, by show _ < 16; omega⟩ : Dev nD) = gdev g c := Fin.ext hin.1
    have e2 : (⟨(i 0).val % 256 / 128, by omega⟩ : Fin 2) = g.2.2 := Fin.ext hin.2
    rw [e1, e2]; rfl
  · have hne : g' ≠ g := fun e => hin (by subst e; exact ⟨hd, hh⟩)
    have hlt : tG g' < k := by
      have : tG g' ≠ k := fun e => hne (tG_inj _ _ (e.trans hk.symm))
      omega
    refine (View.write_of_not_mem _ _ _ ?_).trans (h g' ha hlt i hd hh)
    intro hm
    rw [View.setOn, Finset.mem_map] at hm
    obtain ⟨y, -, hy⟩ := hm
    have hy0 : (y 0).val < 128 := (y 0).isLt
    have e0 : 256 * (gdev g c).val + 128 * g.2.2.val + 1 * (y 0).val = (i 0).val := by
      rw [← hy]; exact (Rect.emb_apply (Rect.unit (s := S4096x512) ![256 * (gdev g c).val + 128 * g.2.2.val, 0] S128x512.size inb) y (0 : Fin 2)).symm
    have hh2 : g.2.2.val < 2 := g.2.2.isLt
    apply hin; constructor <;> omega

/-! ## The state -/

/-- The device's own block (the share the products read), the weights, the result. -/
def D (c : Dev nD) (k : ℕ) : sProp 𝕄 :=
  iprop(owns (c : Thread nD τ) x8 fullShare.left (xv c) ∗ (w8.view.loc (c : Thread nD τ) ↦[Finset.univ]{fullShare} wv c)
    ∗ ∃ f, ⌜filled xv wv sc c k f⌝ ∗ (oM.view.loc (c : Thread nD τ) ↦[Finset.univ]{fullShare} f))

/-- The whole of what the walk holds before position `k`, beside anything else `R`. -/
def Sd (R : sProp 𝕄) (c : Dev nD) (k : ℕ) : sProp 𝕄 := iprop(St xv c k ∗ D xv wv sc c k ∗ R)

theorem D_le (c : Dev nD) (k k' : ℕ) (hk : ∀ g, act g.1 c = true → tG g < k' → tG g < k) : D xv wv sc c k ⊢ D xv wv sc c k' := by
  unfold D
  iintro ⟨H1, H2, ⟨%f, %hf, H3⟩⟩
  isplitl [H1]; · iexact H1
  isplitl [H2]; · iexact H2
  iexists f
  isplitr
  · ipureintro; exact filled_le xv wv sc c k k' hk f hf
  · iexact H3

/-- Nothing at all happens on device `c` at position `k`. -/
def quiet (k : ℕ) (c : Fin 16) : Bool := still k c && decide (∀ g : G, tG g = k → act g.1 c = false)

theorem skip {R : sProp 𝕄} {c : Dev nD} {k : ℕ} {P : sProp 𝕄} (h : quiet k c = true) (hP : Sd xv wv sc R c (k + 1) ⊢ P) : Sd xv wv sc R c k ⊢ P := by
  refine BIBase.Entails.trans ?_ hP
  unfold quiet at h
  rw [Bool.and_eq_true] at h
  have hg := of_decide_eq_true h.2
  unfold Sd
  rw [St_still xv c k h.1]
  iintro ⟨H1, H2, H3⟩
  isplitl [H1]; · iexact H1
  isplitl [H2]
  · iapply (D_le xv wv sc c k (k + 1) (fun g ha hlt => by
      have : tG g ≠ k := fun e => by rw [hg g e] at ha; cases ha
      omega))
    iexact H2
  · iexact H3

/-- Several quiet positions at once. -/
theorem skips {R : sProp 𝕄} {c : Dev nD} {k : ℕ} (n : ℕ) {P : sProp 𝕄} (h : (List.range n).all (fun i => quiet (k + i) c) = true)
    (hP : Sd xv wv sc R c (k + n) ⊢ P) : Sd xv wv sc R c k ⊢ P := by
  induction n generalizing P with
  | zero => exact hP
  | succ n ih =>
    rw [List.range_succ, List.all_append, Bool.and_eq_true] at h
    exact ih h.1 (skip xv wv sc (by simpa using h.2) hP)

/-! ## The exchange's steps -/

section
variable {c : Dev nD} {k : ℕ}
  {sh : Shape} {src dst : Memref sig .tc .vmem sh .fp8e5m2} {ss rs : DmaSem sig}

theorem step_send0 {R : sProp 𝕄} {α : Type} {kont : PUnit → Prog (TpuEff nD τ sig (Elt F) Λ₀ .tc) α} {Q : α → sProp 𝕄}
    (j : J) (hk : tS j = k) (hs : sact j c = true) (hX : X j = ⟨sh, src, dst, ss, rs⟩) {n : Dev nD} (hn : n = tgt j c)
    {hsc : dst.view.ref.isScScratch = false} {hsrc : src.view.WordExact} {hdst : dst.view.WordExact}
    {hsem : DmaTarget.Typed .vmem (.dma rs) (.remote (Dev.tc n : Thread nD τ) dst (.dma ss) hsc)}
    (h : iprop(St xv c (k + 1) ∗ R) ⊢ wpC c (kont ⟨⟩) Q) :
    iprop(St xv c k ∗ R) ⊢ wpC c (.op (.enqueueDma src (.remote (Dev.tc n : Thread nD τ) dst (.dma ss) hsc) (.dma rs) hsrc hdst hsem) kont) Q := by
  iintro ⟨H, HR⟩
  iapply (step_send_aux xv j c k hk hs ⟨sh, src, dst, ss, rs⟩ hX n hn) $$ H
  iintro H
  iapply h
  isplitl [H]; · iexact H
  iexact HR

theorem step_recv0 {R : sProp 𝕄} {α : Type} {kont : PUnit → Prog (TpuEff nD τ sig (Elt F) Λ₀ .tc) α} {Q : α → sProp 𝕄}
    (j : J) (hk : tR j = k) (hr : ract j c = true) (hX : (X j).rsem = rs)
    {κ' : Kind} {b : Ref sig κ'} {s' : Shape} {e' : EltTy} {hm : (Proc.tc : Proc τ) = .tc ∨ b.HasMemref s' e'}
    (hcr : b.dmaCredit s' e' = amt j)
    (h : iprop(St xv c (k + 1) ∗ R) ⊢ wpC c (kont ⟨⟩) Q) :
    iprop(St xv c k ∗ R) ⊢ wpC c (.op (.waitDma rs b s' e' hm) kont) Q := by
  iintro ⟨H, HR⟩
  iapply (step_recv_aux xv j c k hk hr rs hX hcr) $$ H
  iintro H
  iapply h
  isplitl [H]; · iexact H
  iexact HR

theorem step_swait0 {R : sProp 𝕄} {α : Type} {kont : PUnit → Prog (TpuEff nD τ sig (Elt F) Λ₀ .tc) α} {Q : α → sProp 𝕄}
    (j : J) (hk : tW j = k) (h124 : 124 ≤ k) (hs : sact j c = true) (hX : (X j).ssem = ss)
    {κ' : Kind} {b : Ref sig κ'} {s' : Shape} {e' : EltTy} {hm : (Proc.tc : Proc τ) = .tc ∨ b.HasMemref s' e'}
    (hcr : b.dmaCredit s' e' = amt j)
    (h : iprop(St xv c (k + 1) ∗ R) ⊢ wpC c (kont ⟨⟩) Q) :
    iprop(St xv c k ∗ R) ⊢ wpC c (.op (.waitDma ss b s' e' hm) kont) Q := by
  iintro ⟨H, HR⟩
  iapply (step_swait_aux xv j c k hk h124 hs ss hX hcr) $$ H
  iintro H
  iapply h
  isplitl [H]; · iexact H
  iexact HR

theorem D_next {R : sProp 𝕄} (c : Dev nD) (k : ℕ) (hk : ∀ g, tG g ≠ k) : iprop(D xv wv sc c k ∗ R) ⊢ iprop(D xv wv sc c (k + 1) ∗ R) := by
  iintro ⟨H1, H2⟩
  isplitl [H1]
  · iapply (D_le xv wv sc c k (k + 1) (fun g _ hlt => by have := hk g; omega)); iexact H1
  · iexact H2
theorem Sd_next {R : sProp 𝕄} (hk : ∀ g, tG g ≠ k) {P : sProp 𝕄} (h : Sd xv wv sc R c (k + 1) ⊢ P) : iprop(St xv c (k + 1) ∗ D xv wv sc c k ∗ R) ⊢ P := by
  refine BIBase.Entails.trans ?_ h
  unfold Sd
  iintro ⟨H, HD⟩
  isplitl [H]; · iexact H
  iapply (D_next xv wv sc c k hk); iexact HD

theorem step_send {R : sProp 𝕄} {α : Type} {kont : PUnit → Prog (TpuEff nD τ sig (Elt F) Λ₀ .tc) α} {Q : α → sProp 𝕄}
    (j : J) (hk : tS j = k) (hs : sact j c = true) (hX : X j = ⟨sh, src, dst, ss, rs⟩) {n : Dev nD} (hn : n = tgt j c)
    {hsc : dst.view.ref.isScScratch = false} {hsrc : src.view.WordExact} {hdst : dst.view.WordExact}
    {hsem : DmaTarget.Typed .vmem (.dma rs) (.remote (Dev.tc n : Thread nD τ) dst (.dma ss) hsc)}
    (h : Sd xv wv sc R c (k + 1) ⊢ wpC c (kont ⟨⟩) Q) :
    Sd xv wv sc R c k ⊢ wpC c (.op (.enqueueDma src (.remote (Dev.tc n : Thread nD τ) dst (.dma ss) hsc) (.dma rs) hsrc hdst hsem) kont) Q :=
  step_send0 xv j hk hs hX hn (Sd_next xv wv sc (fun g e => tG_ne_tS g j (e.trans hk.symm)) h)

theorem step_recv {R : sProp 𝕄} {α : Type} {kont : PUnit → Prog (TpuEff nD τ sig (Elt F) Λ₀ .tc) α} {Q : α → sProp 𝕄}
    (j : J) (hk : tR j = k) (hr : ract j c = true) (hX : (X j).rsem = rs)
    {κ' : Kind} {b : Ref sig κ'} {s' : Shape} {e' : EltTy} {hm : (Proc.tc : Proc τ) = .tc ∨ b.HasMemref s' e'}
    (hcr : b.dmaCredit s' e' = amt j)
    (h : Sd xv wv sc R c (k + 1) ⊢ wpC c (kont ⟨⟩) Q) :
    Sd xv wv sc R c k ⊢ wpC c (.op (.waitDma rs b s' e' hm) kont) Q :=
  step_recv0 xv j hk hr hX hcr (Sd_next xv wv sc (fun g e => tG_ne_tR g j (e.trans hk.symm)) h)

theorem step_swait {R : sProp 𝕄} {α : Type} {kont : PUnit → Prog (TpuEff nD τ sig (Elt F) Λ₀ .tc) α} {Q : α → sProp 𝕄}
    (j : J) (hk : tW j = k) (h124 : 124 ≤ k) (hs : sact j c = true) (hX : (X j).ssem = ss)
    {κ' : Kind} {b : Ref sig κ'} {s' : Shape} {e' : EltTy} {hm : (Proc.tc : Proc τ) = .tc ∨ b.HasMemref s' e'}
    (hcr : b.dmaCredit s' e' = amt j)
    (h : Sd xv wv sc R c (k + 1) ⊢ wpC c (kont ⟨⟩) Q) :
    Sd xv wv sc R c k ⊢ wpC c (.op (.waitDma ss b s' e' hm) kont) Q :=
  step_swait0 xv j hk h124 hs hX hcr (Sd_next xv wv sc (fun g e => tG_ne_tW g j (e.trans hk.symm)) h)

end

/-! ## Reading -/

/-- Holding `A`, device `c` can load through `m` at `r`, reading `V`. -/
def Reads (A : sProp 𝕄) (c : Dev nD) {sp' : CoreSpace} {s : Shape} {e : EltTy} (m : Memref sig .tc sp' s e) (r : LoadRect s)
    (V : r.shape.Idx → Elt F e) : Prop :=
  A ⊢ iprop(∃ (S : Finset (Idx (m.view.loc (c : Thread nD τ)))) (q : PosShare TreeShare) (f : Buf (Elt F) (m.view.loc (c : Thread nD τ))),
    ⌜m.view.setOn r.set ⊆ S ∧ m.view.readAt (Elt F) r f = V⌝ ∗ (m.view.loc (c : Thread nD τ) ↦[S]{q} f)
      ∗ ((m.view.loc (c : Thread nD τ) ↦[S]{q} f) -∗ A))

section
variable {c : Dev nD} {k : ℕ} {sp' : CoreSpace} {s : Shape} {e : EltTy} {m : Memref sig .tc sp' s e} {r : LoadRect s}
  {V : r.shape.Idx → Elt F e}

theorem Reads.part {A B : sProp 𝕄} (h : Reads B c m r V) (hA : A ⊢ iprop(B ∗ (B -∗ A))) : Reads A c m r V := by
  unfold Reads at h ⊢
  refine hA.trans ?_
  iintro ⟨H, Hb⟩
  ihave H := h $$ H
  icases H with ⟨%S, %q, %f, %hf, H, Hk⟩
  iexists S; iexists q; iexists f
  isplitr; · ipureintro; exact hf
  isplitl [H]; · iexact H
  iintro H
  iapply Hb
  iapply Hk
  iexact H

theorem step_load {A : sProp 𝕄} (hR : Reads A c m r V) {hl : m.view.LoadsAt r} {α : Type} {kont : (r.shape.Idx → Elt F e) → Prog (TpuEff nD τ sig (Elt F) Λ₀ .tc) α}
    {Q : α → sProp 𝕄} (h : A ⊢ wpC c (kont V) Q) : A ⊢ wpC c (.op (.load m r hl) kont) Q := by
  unfold Reads at hR
  refine hR.trans ?_
  iintro ⟨%S, %q, %f, %hf, H, Hk⟩
  obtain ⟨hS, rfl⟩ := hf
  iapply (wp_load 𝒱₀ (c : Thread nD τ) none Set.univ (m := m) hS) $$ H
  iintro H
  iapply h
  iapply Hk
  iexact H

theorem reads_owns (q : PosShare TreeShare) (W : s.Idx → Elt F e) :
    Reads (owns (c : Thread nD τ) m q W : sProp 𝕄) c m r (fun y => W (r.idx y)) := by
  unfold Reads owns
  iintro ⟨%f, %hf, H⟩
  iexists m.view.set; iexists q; iexists f
  isplitr
  · ipureintro
    refine ⟨View.setOn_subset_set _ _, ?_⟩
    funext y
    rw [View.readAt_apply, hf]
  isplitl [H]; · iexact H
  iintro H
  iexists f
  isplitr; · ipureintro; exact hf
  iexact H

theorem D_x8 {R : sProp 𝕄} : Sd xv wv sc R c k ⊢ iprop(owns (c : Thread nD τ) x8 fullShare.left (xv c) ∗ (owns (c : Thread nD τ) x8 fullShare.left (xv c) -∗ Sd xv wv sc R c k)) := by
  unfold Sd D
  iintro ⟨H1, ⟨H2, H3⟩, H4⟩
  isplitl [H2]; · iexact H2
  iintro H2
  isplitl [H1]; · iexact H1
  isplitl [H2 H3]
  · isplitl [H2]; · iexact H2
    iexact H3
  iexact H4

theorem St_rd {R : sProp 𝕄} (j : J) (hr : ract j c = true) (hk : tR j < k) : Sd xv wv sc R c k ⊢ iprop(rd xv j c ∗ (rd xv j c -∗ Sd xv wv sc R c k)) := by
  have e : RS xv j c k = iprop((rd xv j c ∗ rest xv j c) ∗ atPos ER (rCell j c) 1 ∅ 0) := by
    unfold RS; rw [if_pos hr, if_neg (by omega)]
  unfold Sd St
  iintro ⟨⟨H1, H2, H3, H4, H5, HRS⟩, HR⟩
  ihave HRS := pick j $$ HRS
  icases HRS with ⟨Hj, HRS⟩
  ihave Hj := (Entails.of_eq e) $$ Hj
  icases Hj with ⟨⟨Hrd, Hrest⟩, Hat⟩
  isplitl [Hrd]; · iexact Hrd
  iintro Hrd
  isplitl [H1 H2 H3 H4 H5 HRS Hrd Hrest Hat]
  · isplitl [H1]; · iexact H1
    isplitl [H2]; · iexact H2
    isplitl [H3]; · iexact H3
    isplitl [H4]; · iexact H4
    isplitl [H5]; · iexact H5
    iapply (unpick j)
    isplitl [Hrd Hrest Hat]
    · iapply (Entails.of_eq e.symm)
      isplitl [Hrd Hrest]
      · isplitl [Hrd]; · iexact Hrd
        iexact Hrest
      iexact Hat
    iexact HRS
  iexact HR
end

section
variable {c : Dev nD} {k : ℕ}

theorem reads_x8 {R : sProp 𝕄} (h : Fin 2) {m : Memref sig .tc .vmem S2x128x4096 .fp8e5m2} (hm : m = x8) {inb} :
    Reads (Sd xv wv sc R c k) c m (Rect.unit (s := S2x128x4096) ![h.val, 0, 0] S1x128x4096.size inb).toLoadRect (chunk xv c h) := by
  subst hm
  exact (reads_owns fullShare.left (xv c)).part (D_x8 xv wv sc)

/-- The whole blocks that came, by their copy. -/
theorem reads_blk {R : sProp 𝕄} (j : J) (hr : ract j c = true) (hk : tR j < k) (h : Fin 2) {m : Memref sig .tc .vmem S2x128x4096 .fp8e5m2}
    (hX : ∀ q, (owns (c : Thread nD τ) (X j).dst q (cont xv j (oR j c)) : sProp 𝕄) = owns (c : Thread nD τ) m q (xv (oR j c))) {inb} :
    Reads (Sd xv wv sc R c k) c m (Rect.unit (s := S2x128x4096) ![h.val, 0, 0] S1x128x4096.size inb).toLoadRect (chunk xv (oR j c) h) := by
  refine Reads.part ?_ (St_rd xv wv sc j hr hk)
  unfold rd
  rw [hX]
  exact reads_owns fullShare.left (xv (oR j c))

theorem reads_z {R : sProp 𝕄} (e : Fin 6) (hr : ract (.z e) c = true) (hk : tR (.z e) < k) (h : Fin 2) {m : Memref sig .tc .vmem S2x128x4096 .fp8e5m2}
    (hm : m = srcM (ev (.z e))) {inb} :
    Reads (Sd xv wv sc R c k) c m (Rect.unit (s := S2x128x4096) ![h.val, 0, 0] S1x128x4096.size inb).toLoadRect (chunk xv (oR (.z e) c) h) :=
  reads_blk xv wv sc (.z e) hr hk h (fun q => by subst hm; rfl)
theorem reads_r1 {R : sProp 𝕄} (e : Fin 7) (hr : ract (.r1 e) c = true) (hk : tR (.r1 e) < k) (h : Fin 2) {m : Memref sig .tc .vmem S2x128x4096 .fp8e5m2}
    (hm : m = slot7 bl1 e) {inb} :
    Reads (Sd xv wv sc R c k) c m (Rect.unit (s := S2x128x4096) ![h.val, 0, 0] S1x128x4096.size inb).toLoadRect (chunk xv (oR (.r1 e) c) h) :=
  reads_blk xv wv sc (.r1 e) hr hk h (fun q => by subst hm; rfl)
theorem reads_l1 {R : sProp 𝕄} (e : Fin 7) (hr : ract (.l1 e) c = true) (hk : tR (.l1 e) < k) (h : Fin 2) {m : Memref sig .tc .vmem S2x128x4096 .fp8e5m2}
    (hm : m = slot7 br1 e) {inb} :
    Reads (Sd xv wv sc R c k) c m (Rect.unit (s := S2x128x4096) ![h.val, 0, 0] S1x128x4096.size inb).toLoadRect (chunk xv (oR (.l1 e) c) h) :=
  reads_blk xv wv sc (.l1 e) hr hk h (fun q => by subst hm; rfl)

/-- A half block that came, read in the whole buffer at its slot. -/
theorem reads_slot (m : Memref sig .tc .vmem S7x128x4096 .fp8e5m2) (e : Fin 7) (d : Dev nD) (h : Fin 2) (q : PosShare TreeShare) {inb} :
    Reads (owns (c : Thread nD τ) (slot7s m e) q (fun i => xv d (half h i)) : sProp 𝕄) c m
      (Rect.unit (s := S7x128x4096) ![e.val, 0, 0] S1x128x4096.size inb).toLoadRect (chunk xv d h) := by
  unfold Reads owns
  iintro ⟨%f, %hf, H⟩
  iexists (slot7s m e).view.set; iexists q; iexists f
  isplitr
  · ipureintro
    refine ⟨?_, ?_⟩
    · have e1 : (slot7s m e).view.set = (m.view.slice (Rect.unit (s := S7x128x4096) ![e.val, 0, 0] S1x128x4096.size (inb7s e))).set :=
        View.set_reshape _ _
      rw [e1, View.set_slice]; exact subset_rfl
    · funext y
      rw [View.readAt_apply]
      have hy := congrFun hf ((Shape.reshapeEquiv numel_half).symm y)
      rw [show half h ((Shape.reshapeEquiv numel_half).symm y) = (rh h).emb y from congrArg (rh h).emb (Equiv.apply_symm_apply _ y)] at hy
      refine Eq.trans ?_ hy
      rw [View.read_apply, View.read_apply]
      refine congrArg (fun i => _root_.cast _ (f i)) ?_
      show m.view.emb ((Rect.unit (s := S7x128x4096) ![e.val, 0, 0] S1x128x4096.size inb).toLoadRect.idx y)
        = m.view.emb ((Rect.unit (s := S7x128x4096) ![e.val, 0, 0] S1x128x4096.size (inb7s e)).emb (Shape.reshapeEquiv _ ((Shape.reshapeEquiv numel_half).symm y)))
      refine congrArg m.view.emb ?_
      exact congrArg (Rect.unit (s := S7x128x4096) ![e.val, 0, 0] S1x128x4096.size (inb7s e)).emb (Equiv.apply_symm_apply (Shape.reshapeEquiv numel_half) y).symm
  isplitl [H]; · iexact H
  iintro H
  iexists f
  isplitr; · ipureintro; exact hf
  iexact H

theorem reads_r2 {R : sProp 𝕄} (e : Fin 7) (hr : ract (.r2 e) c = true) (hk : tR (.r2 e) < k) {m : Memref sig .tc .vmem S7x128x4096 .fp8e5m2} (hm : m = bl2) {inb} :
    Reads (Sd xv wv sc R c k) c m (Rect.unit (s := S7x128x4096) ![e.val, 0, 0] S1x128x4096.size inb).toLoadRect (chunk xv (oR (.r2 e) c) 0) := by
  subst hm
  exact (reads_slot xv bl2 e (oR (.r2 e) c) 0 fullShare.left).part (St_rd xv wv sc (.r2 e) hr hk)
theorem reads_l2 {R : sProp 𝕄} (e : Fin 7) (hr : ract (.l2 e) c = true) (hk : tR (.l2 e) < k) {m : Memref sig .tc .vmem S7x128x4096 .fp8e5m2} (hm : m = br2) {inb} :
    Reads (Sd xv wv sc R c k) c m (Rect.unit (s := S7x128x4096) ![e.val, 0, 0] S1x128x4096.size inb).toLoadRect (chunk xv (oR (.l2 e) c) 1) := by
  subst hm
  exact (reads_slot xv br2 e (oR (.l2 e) c) 1 fullShare.left).part (St_rd xv wv sc (.l2 e) hr hk)

theorem reads_w8 {R : sProp 𝕄} {inb} : Reads (Sd xv wv sc R c k) c w8 (Rect.unit (s := S4096x512) ![0, 0] S4096x512.size inb).toLoadRect (wv c) := by
  unfold Reads Sd D
  iintro ⟨H1, ⟨H2, H3, H4⟩, H5⟩
  iexists Finset.univ; iexists fullShare; iexists (wv c)
  isplitr
  · ipureintro
    exact ⟨Finset.subset_univ _, Memref.readAt_unit_zero (Elt F) cc0_scratch1 (by funext a; fin_cases a <;> rfl) _ _⟩
  isplitl [H3]; · iexact H3
  iintro H3
  isplitl [H1]; · iexact H1
  isplitl [H2 H3 H4]
  · isplitl [H2]; · iexact H2
    isplitl [H3]; · iexact H3
    iexact H4
  iexact H5

/-- The load of the result buffer before a store, whose value nothing uses. -/
theorem step_dead {R : sProp 𝕄} {α : Type} {r : LoadRect S4096x512} {hl : oM.view.LoadsAt r} {kont : (r.shape.Idx → Elt F .f32) → Prog (TpuEff nD τ sig (Elt F) Λ₀ .tc) α}
    {Q : α → sProp 𝕄} (h : ∀ v, Sd xv wv sc R c k ⊢ wpC c (kont v) Q) : Sd xv wv sc R c k ⊢ wpC c (.op (.load oM r hl) kont) Q := by
  have h' := h
  unfold Sd D at h' ⊢
  iintro ⟨H1, ⟨H2, H3, ⟨%f, %hf, H4⟩⟩, H5⟩
  iapply (wp_load 𝒱₀ (c : Thread nD τ) none Set.univ (m := oM) (Finset.subset_univ _)) $$ H4
  iintro H4
  iapply (h' _)
  isplitl [H1]; · iexact H1
  isplitl [H2 H3 H4]
  · isplitl [H2]; · iexact H2
    isplitl [H3]; · iexact H3
    iexists f
    isplitr; · ipureintro; exact hf
    iexact H4
  iexact H5

/-- A tile's store. -/
theorem step_store {R : sProp 𝕄} {α : Type} (g : G) (hk : tG g = k) {off : Fin 2 → ℕ} (hoff : off = ![256 * (gdev g c).val + 128 * g.2.2.val, 0])
    {inb : ∀ a, off a + S128x512.size a ≤ S4096x512.size a} {w : S128x512.Idx → F .f32} (hw : w = tile xv wv sc c (gdev g c) g.2.2)
    {hx : (oM.access (Rect.unit (s := S4096x512) off S128x512.size inb)).Stores Finset.univ} {hm}
    {kont : PUnit → Prog (TpuEff nD τ sig (Elt F) Λ₀ .tc) α} {Q : α → sProp 𝕄} (h : Sd xv wv sc R c (k + 1) ⊢ wpC c (kont ⟨⟩) Q) :
    Sd xv wv sc R c k ⊢ wpC c (.op (.store oM (Rect.unit (s := S4096x512) off S128x512.size inb) w Finset.univ hx hm) kont) Q := by
  have hst : St xv c k = St xv c (k + 1) := St_still xv c k (decide_eq_true fun i =>
    ⟨fun e => absurd (hk.trans e.symm) (tG_ne_tS _ _), fun e => absurd (hk.trans e.symm) (tG_ne_tR _ _), fun e => absurd (hk.trans e.symm) (tG_ne_tW _ _)⟩)
  have h' := h
  unfold Sd D at h' ⊢
  rw [hst]
  iintro ⟨H1, ⟨H2, H3, ⟨%f, %hf, H4⟩⟩, H5⟩
  iapply (wp_store 𝒱₀ (c : Thread nD τ) none Set.univ (m := oM) (r := Rect.unit (s := S4096x512) off S128x512.size inb) (Mk := Finset.univ) (Finset.subset_univ _)) $$ H4
  iintro H4
  iapply h'
  isplitl [H1]; · iexact H1
  isplitl [H2 H3 H4]
  · isplitl [H2]; · iexact H2
    isplitl [H3]; · iexact H3
    iexists _
    isplitr
    · ipureintro; exact filled_store xv wv sc c g k hk off inb hoff f w hw hf
    iexact H4
  iexact H5

/-- The rest of a product once its rows are loaded: the weights, the dead load, the store. -/
theorem step_tail {R : sProp 𝕄} {α : Type} (g : G) (hk : tG g = k) {off : Fin 2 → ℕ} (hoff : off = ![256 * (gdev g c).val + 128 * g.2.2.val, 0])
    {inb : ∀ a, off a + S128x512.size a ≤ S4096x512.size a} {V : S1x128x4096.Idx → Elt F .fp8e5m2} (hV : V = chunk xv (gdev g c) g.2.2)
    {P : (S4096x512.Idx → Elt F .fp8e5m2) → S128x512.Idx → F .f32} (hP : P = gtile (sc c) V)
    {inbw} {hlw} {hl} {hx} {hm}
    {kont : PUnit → Prog (TpuEff nD τ sig (Elt F) Λ₀ .tc) α} {Q : α → sProp 𝕄} (h : Sd xv wv sc R c (k + 1) ⊢ wpC c (kont ⟨⟩) Q) :
    Sd xv wv sc R c k ⊢ wpC c (.op (.load w8 (Rect.unit (s := S4096x512) ![0, 0] S4096x512.size inbw).toLoadRect hlw) fun v =>
      .op (.load oM (Rect.unit (s := S4096x512) off S128x512.size inb).toLoadRect hl) fun _ =>
      .op (.store oM (Rect.unit (s := S4096x512) off S128x512.size inb) (P v) Finset.univ hx hm) kont) Q :=
  step_load (reads_w8 xv wv sc) (step_dead xv wv sc fun _ => step_store xv wv sc g hk hoff (by subst hP hV; rfl) h)

/-- A whole product: its rows are loaded out of a whole block, then the rest. -/
theorem step_gemm {R : sProp 𝕄} {α : Type} (g : G) (hk : tG g = k) {m : Memref sig .tc .vmem S2x128x4096 .fp8e5m2} {off₀ : Fin 3 → ℕ} {inb₀ : ∀ a, off₀ a + S1x128x4096.size a ≤ S2x128x4096.size a}
    {V : S1x128x4096.Idx → Elt F .fp8e5m2} (hR : Reads (Sd xv wv sc R c k) c m (Rect.unit (s := S2x128x4096) off₀ S1x128x4096.size inb₀).toLoadRect V)
    (hV : V = chunk xv (gdev g c) g.2.2) {off : Fin 2 → ℕ} (hoff : off = ![256 * (gdev g c).val + 128 * g.2.2.val, 0])
    {inb : ∀ a, off a + S128x512.size a ≤ S4096x512.size a}
    {P : (S1x128x4096.Idx → Elt F .fp8e5m2) → (S4096x512.Idx → Elt F .fp8e5m2) → S128x512.Idx → F .f32} (hP : P = gtile (sc c))
    {hl₀} {inbw} {hlw} {hl} {hx} {hm}
    {kont : PUnit → Prog (TpuEff nD τ sig (Elt F) Λ₀ .tc) α} {Q : α → sProp 𝕄} (h : Sd xv wv sc R c (k + 1) ⊢ wpC c (kont ⟨⟩) Q) :
    Sd xv wv sc R c k ⊢ wpC c (.op (.load m (Rect.unit (s := S2x128x4096) off₀ S1x128x4096.size inb₀).toLoadRect hl₀) fun u =>
      .op (.load w8 (Rect.unit (s := S4096x512) ![0, 0] S4096x512.size inbw).toLoadRect hlw) fun v =>
      .op (.load oM (Rect.unit (s := S4096x512) off S128x512.size inb).toLoadRect hl) fun _ =>
      .op (.store oM (Rect.unit (s := S4096x512) off S128x512.size inb) (P u v) Finset.univ hx hm) kont) Q :=
  step_load hR (step_tail xv wv sc g hk hoff hV (congrFun hP V) h)

/-- A whole product whose rows are loaded out of a buffer of half blocks. -/
theorem step_gemm_half {R : sProp 𝕄} {α : Type} (g : G) (hk : tG g = k) {m : Memref sig .tc .vmem S7x128x4096 .fp8e5m2} {off₀ : Fin 3 → ℕ} {inb₀ : ∀ a, off₀ a + S1x128x4096.size a ≤ S7x128x4096.size a}
    {V : S1x128x4096.Idx → Elt F .fp8e5m2} (hR : Reads (Sd xv wv sc R c k) c m (Rect.unit (s := S7x128x4096) off₀ S1x128x4096.size inb₀).toLoadRect V)
    (hV : V = chunk xv (gdev g c) g.2.2) {off : Fin 2 → ℕ} (hoff : off = ![256 * (gdev g c).val + 128 * g.2.2.val, 0])
    {inb : ∀ a, off a + S128x512.size a ≤ S4096x512.size a}
    {P : (S1x128x4096.Idx → Elt F .fp8e5m2) → (S4096x512.Idx → Elt F .fp8e5m2) → S128x512.Idx → F .f32} (hP : P = gtile (sc c))
    {hl₀} {inbw} {hlw} {hl} {hx} {hm}
    {kont : PUnit → Prog (TpuEff nD τ sig (Elt F) Λ₀ .tc) α} {Q : α → sProp 𝕄} (h : Sd xv wv sc R c (k + 1) ⊢ wpC c (kont ⟨⟩) Q) :
    Sd xv wv sc R c k ⊢ wpC c (.op (.load m (Rect.unit (s := S7x128x4096) off₀ S1x128x4096.size inb₀).toLoadRect hl₀) fun u =>
      .op (.load w8 (Rect.unit (s := S4096x512) ![0, 0] S4096x512.size inbw).toLoadRect hlw) fun v =>
      .op (.load oM (Rect.unit (s := S4096x512) off S128x512.size inb).toLoadRect hl) fun _ =>
      .op (.store oM (Rect.unit (s := S4096x512) off S128x512.size inb) (P u v) Finset.univ hx hm) kont) Q :=
  step_load hR (step_tail xv wv sc g hk hoff hV (congrFun hP V) h)

end

end Cert.KernelIdeal.Exchange
end
-- ==== Proof.KernelIdeal.Entry.lean ====
/-
# The handshake before the exchange

Before any copy a device signals each of its neighbours, handing over the destinations the neighbour's copies will
fill, and waits for as many signals of its own. Here are the state between the signals, the state between the waits,
and how the exchange's first state comes out of them.
-/
module

public import proofs.«01_k».proof.Proof.KernelIdeal.Steps

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (xv : Dev nD → S2x128x4096.Idx → Elt F .fp8e5m2)

/-! ## Families with one member -/

theorem bigSep_one {I : Type} [Fintype I] [DecidableEq I] (i₀ : I) (P : sProp 𝕄) :
    bigSep Finset.univ (fun i : I => if i₀ = i then P else iprop(emp)) = P := by
  refine (bigSep_univ_split i₀).trans ?_
  rw [if_pos rfl, bigSep_congr (Ψ := fun _ => iprop(emp)) fun i hi => if_neg fun e => (Finset.ne_of_mem_erase hi) e.symm]
  refine (congrArg (fun X => BI.BIBase.sep P X) (bigSep_emp_const _)).trans ?_
  exact equiv_iff.mp sep_emp

/-- A family over pairs, in either order. -/
theorem bigSep_exch {I K : Type} [Fintype I] [Fintype K] (Φ : I → K → sProp 𝕄) :
    (bigSep Finset.univ fun i => bigSep Finset.univ fun k => Φ i k) = bigSep Finset.univ fun k => bigSep Finset.univ fun i => Φ i k :=
  (bigSep_univ_prod (fun p : I × K => Φ p.1 p.2)).symm.trans
    ((bigSep_univ_equiv (Equiv.prodComm K I) _).trans (bigSep_univ_prod (fun p : K × I => Φ p.2 p.1)))

/-- A family over the copies, sorted by a direction that is there for each copy in it. -/
theorem spread (f : J → Fin 4) (p : J → Bool) (b : Fin 4 → Bool) (h : ∀ j, p j = true → b (f j) = true) (Φ : J → sProp 𝕄) :
    (bigSep Finset.univ fun j : J => if p j = true then Φ j else iprop(emp))
      = bigSep Finset.univ fun d : Fin 4 => if b d = true then bigSep Finset.univ (fun j : J => if f j = d ∧ p j = true then Φ j else iprop(emp)) else iprop(emp) := by
  have e : ∀ d : Fin 4, (if b d = true then bigSep Finset.univ (fun j : J => if f j = d ∧ p j = true then Φ j else iprop(emp)) else iprop(emp) : sProp 𝕄)
      = bigSep Finset.univ fun j : J => if f j = d then (if p j = true then Φ j else iprop(emp)) else iprop(emp) := by
    intro d
    by_cases hb : b d = true
    · rw [if_pos hb]
      refine bigSep_congr fun j _ => ?_
      by_cases h1 : f j = d
      · by_cases h2 : p j = true
        · rw [if_pos ⟨h1, h2⟩, if_pos h1, if_pos h2]
        · rw [if_neg (fun h => h2 h.2), if_pos h1, if_neg h2]
      · rw [if_neg (fun h => h1 h.1), if_neg h1]
    · rw [if_neg hb]
      refine Eq.trans ?_ (bigSep_congr (Φ := fun _ : J => (iprop(emp) : sProp 𝕄)) fun j _ => ?_)
      · exact (bigSep_emp_const _).symm
      · by_cases h1 : f j = d
        · rw [if_pos h1, if_neg fun h2 => hb (h1 ▸ h j h2)]
        · rw [if_neg h1]
  rw [bigSep_congr fun d _ => e d, bigSep_exch]
  exact bigSep_congr fun j _ => (bigSep_one (f j) _).symm

/-! ## The signals -/

/-- The order of the signals: to the left, to the right, to the plane above, to the plane below. -/
def ord : Fin 4 → Fin 4 | 0 => 1 | 1 => 0 | 2 => 2 | 3 => 3

/-- What a device owes before its signal number `n`. -/
def OB (n : ℕ) (c : Dev nD) : CellTallies nD τ sig Unit :=
  O 0 c + ∑ i : Fin 4, if n ≤ i.val ∧ bact (ord i) c = true then tallyAt (barCell (nb (ord i) c)) () 1 else 0
/-- The right to signal in a direction, and what goes with the signal. -/
def SBd (d : Fin 4) (c : Dev nD) : sProp 𝕄 := iprop(dutyTok ER (barCell (nb d c)) 0 (opp d) ∗ grant (opp d) (nb d c))
def SB (c : Dev nD) (n : ℕ) : sProp 𝕄 :=
  bigSep Finset.univ fun i : Fin 4 => if n ≤ i.val ∧ bact (ord i) c = true then SBd (ord i) c else iprop(emp)
def Sig (c : Dev nD) (n : ℕ) : sProp 𝕄 := iprop(records xv ∗ Owe c (OB n c) ∗ SB c n)

theorem OB_step (i : Fin 4) (c : Dev nD) (hb : bact (ord i) c = true) : OB i.val c = OB (i.val + 1) c + tallyAt (barCell (nb (ord i) c)) () 1 := by
  unfold OB
  rw [add_assoc]; congr 1
  rw [← Finset.add_sum_erase _ _ (Finset.mem_univ i), ← Finset.add_sum_erase (a := i) (s := Finset.univ) (h := Finset.mem_univ i)
    (f := fun i' : Fin 4 => if i.val + 1 ≤ i'.val ∧ bact (ord i') c = true then tallyAt (barCell (nb (ord i') c)) () 1 else 0)]
  rw [if_pos ⟨le_rfl, hb⟩, if_neg (fun h => by omega), zero_add, add_comm]
  congr 1
  refine Finset.sum_congr rfl fun i' hi' => ?_
  have hne : i'.val ≠ i.val := fun h => (Finset.mem_erase.mp hi').1 (Fin.ext h)
  exact if_congr (by constructor <;> rintro ⟨a, b⟩ <;> exact ⟨by omega, b⟩) rfl rfl

theorem Sig_skip (i : Fin 4) (c : Dev nD) (hb : ¬ bact (ord i) c = true) : Sig xv c i.val = Sig xv c (i.val + 1) := by
  have hi : ∀ i' : Fin 4, (i.val ≤ i'.val ∧ bact (ord i') c = true) ↔ (i.val + 1 ≤ i'.val ∧ bact (ord i') c = true) := by
    intro i'
    constructor
    · rintro ⟨a, b⟩
      refine ⟨?_, b⟩
      rcases Nat.lt_or_ge i.val i'.val with hl | hl
      · exact hl
      · rw [show i' = i from Fin.ext (by omega)] at b; exact absurd b hb
    · rintro ⟨a, b⟩; exact ⟨by omega, b⟩
  unfold Sig OB SB
  rw [Finset.sum_congr rfl fun i' _ => if_congr (hi i') rfl rfl, bigSep_congr fun i' _ => if_congr (hi i') rfl rfl]

theorem OB_four (c : Dev nD) : OB 4 c = O 0 c := by
  unfold OB
  rw [Finset.sum_eq_zero fun i _ => if_neg fun h => by have := i.isLt; omega, add_zero]

section
variable {c : Dev nD} {R : sProp 𝕄} {α : Type} {kont : PUnit → Prog (TpuEff nD τ sig (Elt F) Λ₀ .tc) α} {Q : α → sProp 𝕄}

theorem step_signal {R : sProp 𝕄} {Q : α → sProp 𝕄} (i : Fin 4) (hb : bact (ord i) c = true) {n : Dev nD} (hn : n = nb (ord i) c)
    (h : iprop(Sig xv c (i.val + 1) ∗ R) ⊢ wpC c (kont ⟨⟩) Q) :
    iprop(Sig xv c i.val ∗ R) ⊢ wpC c (.op (.semSignal (n : Thread nD τ) barS ((1 : ℕ) : ℤ)) kont) Q := by
  subst hn
  have e₁ : (if i.val ≤ i.val ∧ bact (ord i) c = true then SBd (ord i) c else iprop(emp) : sProp 𝕄)
      = iprop(dutyTok ER (barCell (nb (ord i) c)) 0 (opp (ord i)) ∗ grant (opp (ord i)) (nb (ord i) c)) := if_pos ⟨le_rfl, hb⟩
  have e₂ : (if i.val + 1 ≤ i.val ∧ bact (ord i) c = true then SBd (ord i) c else iprop(emp) : sProp 𝕄) = iprop(emp) :=
    if_neg fun h => by omega
  have e₃ : ∀ i' ∈ Finset.univ.erase i, (if i.val ≤ i'.val ∧ bact (ord i') c = true then SBd (ord i') c else iprop(emp) : sProp 𝕄)
      = if i.val + 1 ≤ i'.val ∧ bact (ord i') c = true then SBd (ord i') c else iprop(emp) := fun i' hi' => by
    have hne : i'.val ≠ i.val := fun h => (Finset.mem_erase.mp hi').1 (Fin.ext h)
    exact if_congr (by constructor <;> rintro ⟨a, b⟩ <;> exact ⟨by omega, b⟩) rfl rfl
  unfold Sig Owe SB at h ⊢
  iintro ⟨⟨#Hrec, ⟨%W, HO⟩, HS⟩, HR⟩
  ihave HS := pick i $$ HS
  icases HS with ⟨Hi, HS⟩
  ihave Hi := (Entails.of_eq e₁) $$ Hi
  icases Hi with ⟨Ht, Hp⟩
  ihave #R1 := rec_bar xv (nb (ord i) c) $$ Hrec
  ihave R1 := Rec_elim xv (barCell (nb (ord i) c)) $$ R1
  icases R1 with ⟨⟨%κ, #I1⟩, #r1⟩
  iapply (Rounds.wp_signal 𝒱₀ ER (Rd xv) (c : Thread nD τ) none (dst := (nb (ord i) c : Thread nD τ)) (κ := κ) (d := opp (ord i)) (k' := 1)
      (by rw [duties_bar]; exact Finset.mem_filter.mpr ⟨Finset.mem_univ _, bact_opp _ _ hb⟩) (amount_bar xv (nb (ord i) c) _) () (OB (i.val + 1) c) (OB_step i c hb))
    $$ [HO Ht Hp]
  · isplitr; · iexact I1
    isplitl [HO]; · iexact HO
    isplitl [Ht]; · iexact Ht
    isplitl [Hp]
    · iapply (Entails.of_eq (payload_bar xv (nb (ord i) c) (opp (ord i))).symm); iexact Hp
    iexact r1
  iintro HO
  iapply h
  isplitl [HO HS]
  · isplitr; · iexact Hrec
    isplitl [HO]
    · iexists W; iexact HO
    iapply (unpick i)
    isplitr
    · iapply (Entails.of_eq e₂.symm); iempintro
    iapply (Entails.of_eq (bigSep_congr e₃)); iexact HS
  iexact HR

/-! ## The waits -/

/-- The neighbours of a device. -/
def bduties (c : Dev nD) : Finset (Fin 4) := Finset.univ.filter fun d => bact d c = true
/-- The barrier cell after `m` units have been taken from it: at least `m` neighbours' grants have come. -/
def barAt (c : Dev nD) (m : ℕ) : sProp 𝕄 :=
  iprop(∃ S : Finset (Fin 4), ⌜S ⊆ bduties c ∧ m + (bduties c \ S).card ≤ (bduties c).card⌝ ∗ atPos ER (barCell c) 0 S m ∗ bigSep S fun d => grant d c)

theorem expect_bar (c : Dev nD) : (Rd xv).expect (barCell c) 0 = (bduties c).card := by
  unfold Schedule.expect Schedule.amountOf
  rw [duties_bar, Finset.sum_congr rfl fun d _ => amount_bar xv c d, Finset.sum_const, smul_eq_mul, Nat.mul_one]; rfl

theorem barAt_zero (c : Dev nD) : atPos ER (barCell c) 0 ∅ 0 ⊢ (barAt c 0 : sProp 𝕄) := by
  unfold barAt
  iintro H
  iexists (∅ : Finset (Fin 4))
  isplitr
  · ipureintro; exact ⟨Finset.empty_subset _, by rw [Finset.sdiff_empty, Nat.zero_add]⟩
  isplitl [H]; · iexact H
  rw [bigSep_empty]; iempintro

theorem step_barwait {R : sProp 𝕄} {Q : α → sProp 𝕄} (m k' : ℕ)
    (h : iprop(records xv ∗ levAts L lv ∗ Owe c (O 0 c) ∗ barAt c (m + k') ∗ R) ⊢ wpC c (kont ⟨⟩) Q) :
    iprop(records xv ∗ levAts L lv ∗ Owe c (O 0 c) ∗ barAt c m ∗ cred (tallyAt (barCell c) () k') ∗ R)
      ⊢ wpC c (.op (.semWait barS (k' : ℤ)) kont) Q := by
  unfold Owe barAt at h ⊢
  iintro ⟨#Hrec, #Hlev, ⟨%W, HO⟩, Hb, Hc, HR⟩
  icases Hb with ⟨%S₀, %hS₀, Hat, Hg⟩
  ihave #R1 := rec_bar xv c $$ Hrec
  ihave R1 := Rec_elim xv (barCell c) $$ R1
  icases R1 with ⟨⟨%κ, #I1⟩, #r1⟩
  iapply (Rounds.wp_wait 𝒱₀ ER (Rd xv) (c : Thread nD τ) none (κ := κ) (wpE_semWait_eq 𝒱₀ (c : Thread nD τ) none Set.univ) (Set.mem_univ _)
    (cr := Finsupp.single () k') (O := O 0 c) (W := W) {(SemLoc.reg barS, ())} (R := 0) (m := m) (T := S₀)
    (Idealize.SL.Util.total_single _ _) (by
      intro p hp
      obtain ⟨u, -, rfl⟩ := Finset.mem_image.mp hp
      exact Finset.mem_singleton_self _)) $$ [Hc HO Hat]
  · isplitr; · iexact I1
    isplitl [Hc]; · iexact Hc
    isplitl [HO]; · iexact HO
    isplitr; · iapply (mayWait_bar c); iexact Hlev
    iexact Hat
  · iintro %S ⟨%hS, HO, Hat, Hp⟩
    obtain ⟨h1, h2, h3⟩ := hS
    iapply h
    isplitr; · iexact Hrec
    isplitr; · iexact Hlev
    isplitl [HO]
    · iexists _; iexact HO
    isplitl [Hat Hg Hp]
    · iexists S
      isplitr
      · ipureintro
        rw [duties_bar] at h2 h3
        rw [expect_bar] at h3
        exact ⟨h2, h3⟩
      isplitl [Hat]; · iexact Hat
      have e : bigSep S (fun d => grant (F := F) d c) = iprop((bigSep S₀ fun d => grant d c) ∗ bigSep (S \ S₀) fun d => grant d c) := by
        have hu : S = S₀ ∪ S \ S₀ := (Finset.union_sdiff_of_subset h1).symm
        conv_lhs => rw [hu]
        exact bigSep_union Finset.disjoint_sdiff
      iapply (Entails.of_eq e.symm)
      isplitl [Hg]; · iexact Hg
      iapply (Entails.of_eq (bigSep_congr fun d _ => payload_bar xv c d)); iexact Hp
    iexact HR
end

/-- When all units have been taken, every neighbour's grant is there. -/
theorem barAt_all (c : Dev nD) (m : ℕ) (hm : m = (bduties c).card) :
    (barAt c m : sProp 𝕄) ⊢ iprop(atPos ER (barCell c) 0 (bduties c) m ∗ bigSep Finset.univ fun j : J => if sact j c = true then raw (F := F) j (tgt j c) else iprop(emp)) := by
  have e : (bigSep (bduties c) fun d => grant (F := F) d c) = bigSep Finset.univ fun j : J => if sact j c = true then raw (F := F) j (tgt j c) else iprop(emp) := by
    unfold bduties
    rw [bigSep_filter, spread dir (fun j => sact j c) (fun d => bact d c) (fun j h => bact_of_sact j c h) (fun j => raw j (tgt j c))]
    rfl
  unfold barAt
  iintro ⟨%S, %hS, Hat, Hg⟩
  obtain ⟨h1, h2⟩ := hS
  have hS : S = bduties c := by
    refine Finset.Subset.antisymm h1 (Finset.sdiff_eq_empty_iff_subset.mp (Finset.card_eq_zero.mp ?_))
    omega
  subst hS
  isplitl [Hat]; · iexact Hat
  iapply (Entails.of_eq e); iexact Hg

/-- The destinations on a device: those its neighbours' copies fill go out with the signals, the others stay. -/
theorem raws_split (c : Dev nD) : (bigSep Finset.univ fun j : J => raw (F := F) j c)
    = iprop((bigSep Finset.univ fun i : Fin 4 => if bact (ord i) c = true then grant (F := F) (opp (ord i)) (nb (ord i) c) else iprop(emp))
        ∗ bigSep Finset.univ fun j : J => if ract j c = true then iprop(emp) else raw (F := F) j c) := by
  have hopp : ∀ d d' : Fin 4, opp d = d' ↔ d = opp d' := by decide
  have hb : ∀ j : J, ract j c = true → bact (opp (dir j)) c = true := by
    intro j hr
    have h1 : sact j (frm j c) = true := by unfold sact; rw [tgt_frm]; exact hr
    have h2 := bact_opp _ _ (bact_of_sact j (frm j c) h1)
    rwa [show nb (dir j) (frm j c) = c from nb_bn _ _] at h2
  have hord : ∀ i, ord (ord i) = i := by decide
  have e1 : (bigSep Finset.univ fun i : Fin 4 => if bact (ord i) c = true then grant (F := F) (opp (ord i)) (nb (ord i) c) else iprop(emp))
      = bigSep Finset.univ fun j : J => if ract j c = true then raw (F := F) j c else iprop(emp) := by
    rw [spread (fun j => opp (dir j)) (fun j => ract j c) (fun d => bact d c) hb (fun j => raw j c)]
    refine Eq.trans (bigSep_congr fun i _ => ?_) (bigSep_univ_equiv (⟨ord, ord, hord, hord⟩ : Fin 4 ≃ Fin 4) _).symm
    show _ = if bact (ord i) c = true then _ else _
    refine if_congr Iff.rfl ?_ rfl
    unfold grant
    refine bigSep_congr fun j _ => ?_
    by_cases hd : dir j = opp (ord i)
    · have ht : tgt j (nb (ord i) c) = c := by unfold tgt; rw [hd]; exact nb_opp _ _
      have hs : sact j (nb (ord i) c) = ract j c := by unfold sact; rw [ht]
      rw [ht, hs]
      exact if_congr (and_congr_left' ((hopp _ _).symm)) rfl rfl
    · rw [if_neg (fun h => hd h.1), if_neg (fun h => hd ((hopp _ _).mp h.1))]
  rw [e1]
  refine Eq.trans (bigSep_congr fun j _ => ?_) (bigSep_sep' _ _ _)
  by_cases hr : ract j c = true
  · rw [if_pos hr, if_pos hr]; exact (equiv_iff.mp sep_emp).symm
  · rw [if_neg hr, if_neg hr]; exact (equiv_iff.mp emp_sep).symm

/-! ## The exchange's first state -/

/-- The rights to pay for the copies a device sends; its places at its own cells; the credits for what it receives. -/
def Ent (c : Dev nD) : sProp 𝕄 :=
  iprop((bigSep Finset.univ fun j : J => if sact j c = true then iprop(dutyTok ER (sCell j c) 0 0 ∗ dutyTok ER (rCell j (tgt j c)) 0 0) else iprop(emp))
    ∗ (bigSep Finset.univ fun j : J => atPos ER (sCell j c) 0 ∅ 0) ∗ (bigSep Finset.univ fun j : J => atPos ER (rCell j c) 0 ∅ 0)
    ∗ (bigSep Finset.univ fun j : J => if ract j c = true then cred (tallyAt (rCell j c) () (amt j)) else iprop(emp))
    ∗ bigSep Finset.univ fun j : J => if ract j c = true then iprop(emp) else raw (F := F) j c)

theorem St_zero (c : Dev nD) :
    iprop(records xv ∗ levAts L lv ∗ Owe c (O 0 c) ∗ Ent (F := F) c ∗ (bigSep Finset.univ fun j : J => if sact j c = true then raw (F := F) j (tgt j c) else iprop(emp)) ∗ roots xv c)
      ⊢ St xv c 0 := by
  have eG : (bigSep Finset.univ fun j : J => SG (F := F) j c 0)
      = iprop((bigSep Finset.univ fun j : J => if sact j c = true then iprop(dutyTok ER (sCell j c) 0 0 ∗ dutyTok ER (rCell j (tgt j c)) 0 0) else iprop(emp))
        ∗ (bigSep Finset.univ fun j : J => if sact j c = true then raw (F := F) j (tgt j c) else iprop(emp))
        ∗ bigSep Finset.univ fun j : J => atPos ER (sCell j c) 0 ∅ 0) := by
    rw [← bigSep_sep', ← bigSep_sep']
    refine bigSep_congr fun j _ => ?_
    unfold SG
    by_cases hs : sact j c = true
    · rw [if_pos hs, if_pos hs, if_pos hs, if_pos (Nat.zero_le _)]
    · rw [if_neg hs, if_neg hs, if_neg hs]
      exact ((equiv_iff.mp emp_sep).trans (equiv_iff.mp emp_sep)).symm
  have eS : (bigSep Finset.univ fun j : J => SS xv j c 0) = roots xv c := by
    unfold roots
    refine bigSep_congr fun j _ => ?_
    unfold SS here avail away
    cases hp : par j with
    | none =>
      have : decide (tS j < 0) = false := decide_eq_false (Nat.not_lt_zero _)
      rw [this, if_pos rfl]; simp
    | some p =>
      have : decide (tR p < 0) = false := decide_eq_false (Nat.not_lt_zero _)
      rw [if_neg (by simp)]; simp
  have eR : (bigSep Finset.univ fun j : J => RS xv j c 0)
      = iprop((bigSep Finset.univ fun j : J => if ract j c = true then cred (tallyAt (rCell j c) () (amt j)) else iprop(emp))
        ∗ (bigSep Finset.univ fun j : J => if ract j c = true then iprop(emp) else raw (F := F) j c)
        ∗ bigSep Finset.univ fun j : J => atPos ER (rCell j c) 0 ∅ 0) := by
    rw [← bigSep_sep', ← bigSep_sep']
    refine bigSep_congr fun j _ => ?_
    unfold RS
    by_cases hr : ract j c = true
    · rw [if_pos hr, if_pos hr, if_pos hr, if_pos (Nat.zero_le _)]
      exact congrArg (fun X => BI.BIBase.sep _ X) (equiv_iff.mp emp_sep).symm
    · rw [if_neg hr, if_neg hr, if_neg hr]
      exact (equiv_iff.mp emp_sep).symm
  unfold St
  rw [eG, eS, eR]
  unfold Ent
  iintro ⟨H1, H2, H3, ⟨Ht, HaS, HaR, Hc, Hk⟩, Hg, Hr⟩
  isplitl [H1]; · iexact H1
  isplitl [H2]; · iexact H2
  isplitl [H3]; · iexact H3
  isplitl [Ht Hg HaS]
  · isplitl [Ht]; · iexact Ht
    isplitl [Hg]; · iexact Hg
    iexact HaS
  isplitl [Hr]; · iexact Hr
  isplitl [Hc]; · iexact Hc
  isplitl [Hk]; · iexact Hk
  iexact HaR

end Cert.KernelIdeal.Exchange
end
-- ==== Proof.KernelIdeal.Walk.lean ====
/-
# Walking a piece of the program

`W c k k' p post` says that the piece `p` of the program takes device `c` from the state before position `k` to the
state before position `k'`, whatever else is held, and returns a value `post` holds of. The rules take one operation
each.
-/
module

public import proofs.«01_k».proof.Proof.KernelIdeal.Steps

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (xv : Dev nD → S2x128x4096.Idx → Elt F .fp8e5m2) (wv : Dev nD → S4096x512.Idx → Elt F .fp8e5m2) (sc : Dev nD → F .f32)

def W (c : Dev nD) (k k' : ℕ) {α : Type} (p : Prog (TpuEff nD τ sig (Elt F) Λ₀ .tc) α) (post : α → Prop) : Prop :=
  ∀ (R : sProp 𝕄) (Q : α → sProp 𝕄), (∀ b, post b → Sd xv wv sc R c k' ⊢ Q b) → Sd xv wv sc R c k ⊢ wpC c p Q

/-- What follows a choice follows either side of it. -/
theorem dite_bind' {P : Prop} {dec : Decidable P} {α β : Type} (t : P → Prog (TpuEff nD τ sig (Elt F) Λ₀ .tc) β) (e : ¬ P → Prog (TpuEff nD τ sig (Elt F) Λ₀ .tc) β)
    (k : β → Prog (TpuEff nD τ sig (Elt F) Λ₀ .tc) α) : (dite P t e) >>= k = dite P (fun h => t h >>= k) (fun h => e h >>= k) := by
  split <;> rfl

namespace W

variable {xv wv sc}
variable {c : Dev nD} {k k' : ℕ} {α β : Type} {post : α → Prop}

theorem ret {b : α} (hb : post b) (hk : k = k' := by rfl) : W xv wv sc c k k' (.ret b) post := by
  subst hk
  intro R Q h
  show Sd xv wv sc R c k ⊢ wp frame (wpE defs₀ 𝒱₀ (c : Thread nD τ) none) Set.univ (.ret b) Q
  rw [wp_ret]
  iintro H
  imodintro
  iapply (h b hb)
  iexact H

theorem bind (k₁ : ℕ) {p : Prog (TpuEff nD τ sig (Elt F) Λ₀ .tc) β} {kont : β → Prog (TpuEff nD τ sig (Elt F) Λ₀ .tc) α} {post₁ : β → Prop}
    (hp : W xv wv sc c k k₁ p post₁) (hk : ∀ b, post₁ b → W xv wv sc c k₁ k' (kont b) post) : W xv wv sc c k k' (p >>= kont) post := by
  intro R Q h
  show Sd xv wv sc R c k ⊢ wp frame (wpE defs₀ 𝒱₀ (c : Thread nD τ) none) Set.univ (p >>= kont) Q
  rw [wp_bind]
  exact hp R _ fun b hb => hk b hb R Q h

/-- A choice whose other side does nothing, and what follows either side. -/
theorem branch (k₁ : ℕ) {P : Prop} {dec : Decidable P} {t : P → Prog (TpuEff nD τ sig (Elt F) Λ₀ .tc) α} {kont : Prog (TpuEff nD τ sig (Elt F) Λ₀ .tc) α}
    (hk : W xv wv sc c k₁ k' kont post) (ht : W xv wv sc c k₁ k' kont post → ∀ h : P, W xv wv sc c k k' (t h) post)
    (hle : k ≤ k₁ := by decide +kernel)
    (he : ¬ P → (List.range (k₁ - k)).all (fun i => quiet (k + i) c) = true := by (try clear hk); (try clear hk'); (try clear hk''); revert c; decide +kernel) :
    W xv wv sc c k k' (dite P t (fun _ => kont)) post := by
  by_cases h : P
  · rw [dif_pos h]; exact ht hk h
  · rw [dif_neg h]
    intro R Q hQ
    refine Exchange.skips xv wv sc (k₁ - k) (he h) ?_
    rw [Nat.add_sub_cancel' hle]
    exact hk R Q hQ

theorem skips (n : ℕ) {p : Prog (TpuEff nD τ sig (Elt F) Λ₀ .tc) α} (hp : W xv wv sc c (k + n) k' p post)
    (h : (List.range n).all (fun i => quiet (k + i) c) = true := by (try clear hk); (try clear hk'); (try clear hk''); revert c; decide +kernel) : W xv wv sc c k k' p post :=
  fun R Q hQ => Exchange.skips xv wv sc n h (hp R Q hQ)

section
variable {kont : PUnit → Prog (TpuEff nD τ sig (Elt F) Λ₀ .tc) α} {sh : Shape} {src dst : Memref sig .tc .vmem sh .fp8e5m2} {ss rs : DmaSem sig}

theorem send (j : J) {n : ℕ} {hlt : n < nD}
    {hsc : dst.view.ref.isScScratch = false} {hsrc : src.view.WordExact} {hdst : dst.view.WordExact}
    {hsem : DmaTarget.Typed .vmem (.dma rs) (.remote (Dev.tc (⟨n, hlt⟩ : Dev nD) : Thread nD τ) dst (.dma ss) hsc)}
    (h : W xv wv sc c (k + 1) k' (kont ⟨⟩) post)
    (hk : tS j = k := by decide +kernel) (hs : sact j c = true := by (try clear hk); (try clear hk'); (try clear hk''); revert c; decide +kernel) (hX : X j = ⟨sh, src, dst, ss, rs⟩ := by rfl)
    (hn : n = (tgt j c).val := by (try clear hk); (try clear hk'); (try clear hk''); revert c; decide +kernel) :
    W xv wv sc c k k' (.op (.enqueueDma src (.remote (Dev.tc (⟨n, hlt⟩ : Dev nD) : Thread nD τ) dst (.dma ss) hsc) (.dma rs) hsrc hdst hsem) kont) post :=
  fun R Q hQ => step_send xv wv sc j hk hs hX (Fin.ext hn) (h R Q hQ)

theorem recv (j : J) {κ' : Kind} {b : Ref sig κ'} {s' : Shape} {e' : EltTy} {hm : (Proc.tc : Proc τ) = .tc ∨ b.HasMemref s' e'}
    (h : W xv wv sc c (k + 1) k' (kont ⟨⟩) post)
    (hk : tR j = k := by decide +kernel) (hr : ract j c = true := by (try clear hk); (try clear hk'); (try clear hk''); revert c; decide +kernel) (hX : (X j).rsem = rs := by rfl) (hcr : b.dmaCredit s' e' = amt j := by rfl) :
    W xv wv sc c k k' (.op (.waitDma rs b s' e' hm) kont) post :=
  fun R Q hQ => step_recv xv wv sc j hk hr hX hcr (h R Q hQ)

theorem swait (j : J) {κ' : Kind} {b : Ref sig κ'} {s' : Shape} {e' : EltTy} {hm : (Proc.tc : Proc τ) = .tc ∨ b.HasMemref s' e'}
    (h : W xv wv sc c (k + 1) k' (kont ⟨⟩) post)
    (hk : tW j = k := by decide +kernel) (h124 : 124 ≤ k := by decide +kernel) (hs : sact j c = true := by (try clear hk); (try clear hk'); (try clear hk''); revert c; decide +kernel)
    (hX : (X j).ssem = ss := by rfl) (hcr : b.dmaCredit s' e' = amt j := by rfl) :
    W xv wv sc c k k' (.op (.waitDma ss b s' e' hm) kont) post :=
  fun R Q hQ => step_swait xv wv sc j hk h124 hs hX hcr (h R Q hQ)

end

theorem gdev_own : ∀ (h : Fin 2) (c : Fin 16), gdev ((0 : Fin 7), (0 : Fin 4), h) c = c := by decide
theorem reads_own {R : sProp 𝕄} (h : Fin 2) {m : Memref sig .tc .vmem S2x128x4096 .fp8e5m2} (hm : m = x8) {inb} :
    Reads (Sd xv wv sc R c k) c m (Rect.unit (s := S2x128x4096) ![h.val, 0, 0] S1x128x4096.size inb).toLoadRect
      (chunk xv (gdev ((0 : Fin 7), (0 : Fin 4), h) c) h) := by
  rw [gdev_own]; exact reads_x8 xv wv sc h hm

/-! ## Products, by where their rows stand -/

section
variable {off : Fin 2 → ℕ} {inb : ∀ a, off a + S128x512.size a ≤ S4096x512.size a}
  {kont : PUnit → Prog (TpuEff nD τ sig (Elt F) Λ₀ .tc) α} {inbw : ∀ a, (![0, 0] : Fin 2 → ℕ) a + S4096x512.size a ≤ S4096x512.size a}
  {hlw : w8.view.LoadsAt (Rect.unit (s := S4096x512) ![0, 0] S4096x512.size inbw).toLoadRect}
  {hl : oM.view.LoadsAt (Rect.unit (s := S4096x512) off S128x512.size inb).toLoadRect}
  {hx : (oM.access (Rect.unit (s := S4096x512) off S128x512.size inb)).Stores Finset.univ}
  {hm : (Finset.univ : Finset S128x512.Idx) = Finset.univ ∨ ∀ a, (Rect.unit (s := S4096x512) off S128x512.size inb).stride a = 1}
  {P : (S1x128x4096.Idx → Elt F .fp8e5m2) → (S4096x512.Idx → Elt F .fp8e5m2) → S128x512.Idx → F .f32}

theorem gemm_own (h : Fin 2) {m : Memref sig .tc .vmem S2x128x4096 .fp8e5m2} {inb₀ : ∀ a, (![h.val, 0, 0] : Fin 3 → ℕ) a + S1x128x4096.size a ≤ S2x128x4096.size a}
    {hl₀ : m.view.LoadsAt (Rect.unit (s := S2x128x4096) ![h.val, 0, 0] S1x128x4096.size inb₀).toLoadRect}
    (hW : W xv wv sc c (k + 1) k' (kont ⟨⟩) post)
    (hk : tG ((0 : Fin 7), (0 : Fin 4), h) = k := by decide +kernel) (hm₀ : m = x8 := by rfl)
    (hoff : off = ![256 * (gdev ((0 : Fin 7), (0 : Fin 4), h) c).val + 128 * ((((0 : Fin 7), (0 : Fin 4), h) : G).2.2).val, 0] := by (try clear hk); (try clear hk'); (try clear hk''); revert c; decide +kernel) (hP : P = gtile (sc c) := by rfl) :
    W xv wv sc c k k' (.op (.load m (Rect.unit (s := S2x128x4096) ![h.val, 0, 0] S1x128x4096.size inb₀).toLoadRect hl₀) fun u =>
      .op (.load w8 (Rect.unit (s := S4096x512) ![0, 0] S4096x512.size inbw).toLoadRect hlw) fun v =>
      .op (.load oM (Rect.unit (s := S4096x512) off S128x512.size inb).toLoadRect hl) fun _ =>
      .op (.store oM (Rect.unit (s := S4096x512) off S128x512.size inb) (P u v) Finset.univ hx hm) kont) post :=
  fun R Q hQ => step_gemm xv wv sc ((0 : Fin 7), (0 : Fin 4), h) hk (reads_own h hm₀) rfl hoff hP (hW R Q hQ)

theorem load_own (h : Fin 2) {m : Memref sig .tc .vmem S2x128x4096 .fp8e5m2} {inb₀ : ∀ a, (![h.val, 0, 0] : Fin 3 → ℕ) a + S1x128x4096.size a ≤ S2x128x4096.size a}
    {hl₀ : m.view.LoadsAt (Rect.unit (s := S2x128x4096) ![h.val, 0, 0] S1x128x4096.size inb₀).toLoadRect}
    {kont : (S1x128x4096.Idx → Elt F .fp8e5m2) → Prog (TpuEff nD τ sig (Elt F) Λ₀ .tc) α}
    (hW : W xv wv sc c k k' (kont (chunk xv (gdev ((0 : Fin 7), (0 : Fin 4), h) c) ((((0 : Fin 7), (0 : Fin 4), h) : G).2.2))) post)
    (hm₀ : m = x8 := by rfl) :
    W xv wv sc c k k' (.op (.load m (Rect.unit (s := S2x128x4096) ![h.val, 0, 0] S1x128x4096.size inb₀).toLoadRect hl₀) kont) post :=
  fun R Q hQ => step_load (reads_own h hm₀) (hW R Q hQ)

theorem gemm_z (e : Fin 6) (h : Fin 2) {m : Memref sig .tc .vmem S2x128x4096 .fp8e5m2} {inb₀ : ∀ a, (![h.val, 0, 0] : Fin 3 → ℕ) a + S1x128x4096.size a ≤ S2x128x4096.size a}
    {hl₀ : m.view.LoadsAt (Rect.unit (s := S2x128x4096) ![h.val, 0, 0] S1x128x4096.size inb₀).toLoadRect}
    (hW : W xv wv sc c (k + 1) k' (kont ⟨⟩) post)
    (hk : tG (ev (.z e), (0 : Fin 4), h) = k := by decide +kernel) (hr : ract (.z e) c = true := by (try clear hk); (try clear hk'); (try clear hk''); revert c; decide +kernel) (ht : tR (.z e) < k := by decide +kernel) (hm₀ : m = srcM (ev (.z e)) := by rfl)
    (hoff : off = ![256 * (gdev (ev (.z e), (0 : Fin 4), h) c).val + 128 * (((ev (.z e), (0 : Fin 4), h) : G).2.2).val, 0] := by (try clear hk); (try clear hk'); (try clear hk''); revert c; decide +kernel) (hP : P = gtile (sc c) := by rfl) :
    W xv wv sc c k k' (.op (.load m (Rect.unit (s := S2x128x4096) ![h.val, 0, 0] S1x128x4096.size inb₀).toLoadRect hl₀) fun u =>
      .op (.load w8 (Rect.unit (s := S4096x512) ![0, 0] S4096x512.size inbw).toLoadRect hlw) fun v =>
      .op (.load oM (Rect.unit (s := S4096x512) off S128x512.size inb).toLoadRect hl) fun _ =>
      .op (.store oM (Rect.unit (s := S4096x512) off S128x512.size inb) (P u v) Finset.univ hx hm) kont) post :=
  fun R Q hQ => step_gemm xv wv sc (ev (.z e), (0 : Fin 4), h) hk (reads_z xv wv sc e hr ht h hm₀) rfl hoff hP (hW R Q hQ)

theorem load_z (e : Fin 6) (h : Fin 2) {m : Memref sig .tc .vmem S2x128x4096 .fp8e5m2} {inb₀ : ∀ a, (![h.val, 0, 0] : Fin 3 → ℕ) a + S1x128x4096.size a ≤ S2x128x4096.size a}
    {hl₀ : m.view.LoadsAt (Rect.unit (s := S2x128x4096) ![h.val, 0, 0] S1x128x4096.size inb₀).toLoadRect}
    {kont : (S1x128x4096.Idx → Elt F .fp8e5m2) → Prog (TpuEff nD τ sig (Elt F) Λ₀ .tc) α}
    (hW : W xv wv sc c k k' (kont (chunk xv (gdev (ev (.z e), (0 : Fin 4), h) c) (((ev (.z e), (0 : Fin 4), h) : G).2.2))) post)
    (hr : ract (.z e) c = true := by (try clear hk); (try clear hk'); (try clear hk''); revert c; decide +kernel) (ht : tR (.z e) < k := by decide +kernel) (hm₀ : m = srcM (ev (.z e)) := by rfl) :
    W xv wv sc c k k' (.op (.load m (Rect.unit (s := S2x128x4096) ![h.val, 0, 0] S1x128x4096.size inb₀).toLoadRect hl₀) kont) post :=
  fun R Q hQ => step_load (reads_z xv wv sc e hr ht h hm₀) (hW R Q hQ)

theorem gemm_r1 (e : Fin 7) (h : Fin 2) {m : Memref sig .tc .vmem S2x128x4096 .fp8e5m2} {inb₀ : ∀ a, (![h.val, 0, 0] : Fin 3 → ℕ) a + S1x128x4096.size a ≤ S2x128x4096.size a}
    {hl₀ : m.view.LoadsAt (Rect.unit (s := S2x128x4096) ![h.val, 0, 0] S1x128x4096.size inb₀).toLoadRect}
    (hW : W xv wv sc c (k + 1) k' (kont ⟨⟩) post)
    (hk : tG (e, (1 : Fin 4), h) = k := by decide +kernel) (hr : ract (.r1 e) c = true := by (try clear hk); (try clear hk'); (try clear hk''); revert c; decide +kernel) (ht : tR (.r1 e) < k := by decide +kernel) (hm₀ : m = slot7 bl1 e := by rfl)
    (hoff : off = ![256 * (gdev (e, (1 : Fin 4), h) c).val + 128 * (((e, (1 : Fin 4), h) : G).2.2).val, 0] := by (try clear hk); (try clear hk'); (try clear hk''); revert c; decide +kernel) (hP : P = gtile (sc c) := by rfl) :
    W xv wv sc c k k' (.op (.load m (Rect.unit (s := S2x128x4096) ![h.val, 0, 0] S1x128x4096.size inb₀).toLoadRect hl₀) fun u =>
      .op (.load w8 (Rect.unit (s := S4096x512) ![0, 0] S4096x512.size inbw).toLoadRect hlw) fun v =>
      .op (.load oM (Rect.unit (s := S4096x512) off S128x512.size inb).toLoadRect hl) fun _ =>
      .op (.store oM (Rect.unit (s := S4096x512) off S128x512.size inb) (P u v) Finset.univ hx hm) kont) post :=
  fun R Q hQ => step_gemm xv wv sc (e, (1 : Fin 4), h) hk (reads_r1 xv wv sc e hr ht h hm₀) rfl hoff hP (hW R Q hQ)

theorem load_r1 (e : Fin 7) (h : Fin 2) {m : Memref sig .tc .vmem S2x128x4096 .fp8e5m2} {inb₀ : ∀ a, (![h.val, 0, 0] : Fin 3 → ℕ) a + S1x128x4096.size a ≤ S2x128x4096.size a}
    {hl₀ : m.view.LoadsAt (Rect.unit (s := S2x128x4096) ![h.val, 0, 0] S1x128x4096.size inb₀).toLoadRect}
    {kont : (S1x128x4096.Idx → Elt F .fp8e5m2) → Prog (TpuEff nD τ sig (Elt F) Λ₀ .tc) α}
    (hW : W xv wv sc c k k' (kont (chunk xv (gdev (e, (1 : Fin 4), h) c) (((e, (1 : Fin 4), h) : G).2.2))) post)
    (hr : ract (.r1 e) c = true := by (try clear hk); (try clear hk'); (try clear hk''); revert c; decide +kernel) (ht : tR (.r1 e) < k := by decide +kernel) (hm₀ : m = slot7 bl1 e := by rfl) :
    W xv wv sc c k k' (.op (.load m (Rect.unit (s := S2x128x4096) ![h.val, 0, 0] S1x128x4096.size inb₀).toLoadRect hl₀) kont) post :=
  fun R Q hQ => step_load (reads_r1 xv wv sc e hr ht h hm₀) (hW R Q hQ)

theorem gemm_l1 (e : Fin 7) (h : Fin 2) {m : Memref sig .tc .vmem S2x128x4096 .fp8e5m2} {inb₀ : ∀ a, (![h.val, 0, 0] : Fin 3 → ℕ) a + S1x128x4096.size a ≤ S2x128x4096.size a}
    {hl₀ : m.view.LoadsAt (Rect.unit (s := S2x128x4096) ![h.val, 0, 0] S1x128x4096.size inb₀).toLoadRect}
    (hW : W xv wv sc c (k + 1) k' (kont ⟨⟩) post)
    (hk : tG (e, (2 : Fin 4), h) = k := by decide +kernel) (hr : ract (.l1 e) c = true := by (try clear hk); (try clear hk'); (try clear hk''); revert c; decide +kernel) (ht : tR (.l1 e) < k := by decide +kernel) (hm₀ : m = slot7 br1 e := by rfl)
    (hoff : off = ![256 * (gdev (e, (2 : Fin 4), h) c).val + 128 * (((e, (2 : Fin 4), h) : G).2.2).val, 0] := by (try clear hk); (try clear hk'); (try clear hk''); revert c; decide +kernel) (hP : P = gtile (sc c) := by rfl) :
    W xv wv sc c k k' (.op (.load m (Rect.unit (s := S2x128x4096) ![h.val, 0, 0] S1x128x4096.size inb₀).toLoadRect hl₀) fun u =>
      .op (.load w8 (Rect.unit (s := S4096x512) ![0, 0] S4096x512.size inbw).toLoadRect hlw) fun v =>
      .op (.load oM (Rect.unit (s := S4096x512) off S128x512.size inb).toLoadRect hl) fun _ =>
      .op (.store oM (Rect.unit (s := S4096x512) off S128x512.size inb) (P u v) Finset.univ hx hm) kont) post :=
  fun R Q hQ => step_gemm xv wv sc (e, (2 : Fin 4), h) hk (reads_l1 xv wv sc e hr ht h hm₀) rfl hoff hP (hW R Q hQ)

theorem load_l1 (e : Fin 7) (h : Fin 2) {m : Memref sig .tc .vmem S2x128x4096 .fp8e5m2} {inb₀ : ∀ a, (![h.val, 0, 0] : Fin 3 → ℕ) a + S1x128x4096.size a ≤ S2x128x4096.size a}
    {hl₀ : m.view.LoadsAt (Rect.unit (s := S2x128x4096) ![h.val, 0, 0] S1x128x4096.size inb₀).toLoadRect}
    {kont : (S1x128x4096.Idx → Elt F .fp8e5m2) → Prog (TpuEff nD τ sig (Elt F) Λ₀ .tc) α}
    (hW : W xv wv sc c k k' (kont (chunk xv (gdev (e, (2 : Fin 4), h) c) (((e, (2 : Fin 4), h) : G).2.2))) post)
    (hr : ract (.l1 e) c = true := by (try clear hk); (try clear hk'); (try clear hk''); revert c; decide +kernel) (ht : tR (.l1 e) < k := by decide +kernel) (hm₀ : m = slot7 br1 e := by rfl) :
    W xv wv sc c k k' (.op (.load m (Rect.unit (s := S2x128x4096) ![h.val, 0, 0] S1x128x4096.size inb₀).toLoadRect hl₀) kont) post :=
  fun R Q hQ => step_load (reads_l1 xv wv sc e hr ht h hm₀) (hW R Q hQ)

theorem gemm_r2 (e : Fin 7) {m : Memref sig .tc .vmem S7x128x4096 .fp8e5m2} {inb₀ : ∀ a, (![e.val, 0, 0] : Fin 3 → ℕ) a + S1x128x4096.size a ≤ S7x128x4096.size a}
    {hl₀ : m.view.LoadsAt (Rect.unit (s := S7x128x4096) ![e.val, 0, 0] S1x128x4096.size inb₀).toLoadRect}
    (hW : W xv wv sc c (k + 1) k' (kont ⟨⟩) post)
    (hk : tG (e, (3 : Fin 4), (0 : Fin 2)) = k := by decide +kernel) (hr : ract (.r2 e) c = true := by (try clear hk); (try clear hk'); (try clear hk''); revert c; decide +kernel) (ht : tR (.r2 e) < k := by decide +kernel) (hm₀ : m = bl2 := by rfl)
    (hoff : off = ![256 * (gdev (e, (3 : Fin 4), (0 : Fin 2)) c).val + 128 * (((e, (3 : Fin 4), (0 : Fin 2)) : G).2.2).val, 0] := by (try clear hk); (try clear hk'); (try clear hk''); revert c; decide +kernel) (hP : P = gtile (sc c) := by rfl) :
    W xv wv sc c k k' (.op (.load m (Rect.unit (s := S7x128x4096) ![e.val, 0, 0] S1x128x4096.size inb₀).toLoadRect hl₀) fun u =>
      .op (.load w8 (Rect.unit (s := S4096x512) ![0, 0] S4096x512.size inbw).toLoadRect hlw) fun v =>
      .op (.load oM (Rect.unit (s := S4096x512) off S128x512.size inb).toLoadRect hl) fun _ =>
      .op (.store oM (Rect.unit (s := S4096x512) off S128x512.size inb) (P u v) Finset.univ hx hm) kont) post :=
  fun R Q hQ => step_gemm_half xv wv sc (e, (3 : Fin 4), (0 : Fin 2)) hk (reads_r2 xv wv sc e hr ht hm₀) rfl hoff hP (hW R Q hQ)

theorem load_r2 (e : Fin 7) {m : Memref sig .tc .vmem S7x128x4096 .fp8e5m2} {inb₀ : ∀ a, (![e.val, 0, 0] : Fin 3 → ℕ) a + S1x128x4096.size a ≤ S7x128x4096.size a}
    {hl₀ : m.view.LoadsAt (Rect.unit (s := S7x128x4096) ![e.val, 0, 0] S1x128x4096.size inb₀).toLoadRect}
    {kont : (S1x128x4096.Idx → Elt F .fp8e5m2) → Prog (TpuEff nD τ sig (Elt F) Λ₀ .tc) α}
    (hW : W xv wv sc c k k' (kont (chunk xv (gdev (e, (3 : Fin 4), (0 : Fin 2)) c) (((e, (3 : Fin 4), (0 : Fin 2)) : G).2.2))) post)
    (hr : ract (.r2 e) c = true := by (try clear hk); (try clear hk'); (try clear hk''); revert c; decide +kernel) (ht : tR (.r2 e) < k := by decide +kernel) (hm₀ : m = bl2 := by rfl) :
    W xv wv sc c k k' (.op (.load m (Rect.unit (s := S7x128x4096) ![e.val, 0, 0] S1x128x4096.size inb₀).toLoadRect hl₀) kont) post :=
  fun R Q hQ => step_load (reads_r2 xv wv sc e hr ht hm₀) (hW R Q hQ)

theorem gemm_l2 (e : Fin 7) {m : Memref sig .tc .vmem S7x128x4096 .fp8e5m2} {inb₀ : ∀ a, (![e.val, 0, 0] : Fin 3 → ℕ) a + S1x128x4096.size a ≤ S7x128x4096.size a}
    {hl₀ : m.view.LoadsAt (Rect.unit (s := S7x128x4096) ![e.val, 0, 0] S1x128x4096.size inb₀).toLoadRect}
    (hW : W xv wv sc c (k + 1) k' (kont ⟨⟩) post)
    (hk : tG (e, (3 : Fin 4), (1 : Fin 2)) = k := by decide +kernel) (hr : ract (.l2 e) c = true := by (try clear hk); (try clear hk'); (try clear hk''); revert c; decide +kernel) (ht : tR (.l2 e) < k := by decide +kernel) (hm₀ : m = br2 := by rfl)
    (hoff : off = ![256 * (gdev (e, (3 : Fin 4), (1 : Fin 2)) c).val + 128 * (((e, (3 : Fin 4), (1 : Fin 2)) : G).2.2).val, 0] := by (try clear hk); (try clear hk'); (try clear hk''); revert c; decide +kernel) (hP : P = gtile (sc c) := by rfl) :
    W xv wv sc c k k' (.op (.load m (Rect.unit (s := S7x128x4096) ![e.val, 0, 0] S1x128x4096.size inb₀).toLoadRect hl₀) fun u =>
      .op (.load w8 (Rect.unit (s := S4096x512) ![0, 0] S4096x512.size inbw).toLoadRect hlw) fun v =>
      .op (.load oM (Rect.unit (s := S4096x512) off S128x512.size inb).toLoadRect hl) fun _ =>
      .op (.store oM (Rect.unit (s := S4096x512) off S128x512.size inb) (P u v) Finset.univ hx hm) kont) post :=
  fun R Q hQ => step_gemm_half xv wv sc (e, (3 : Fin 4), (1 : Fin 2)) hk (reads_l2 xv wv sc e hr ht hm₀) rfl hoff hP (hW R Q hQ)

theorem load_l2 (e : Fin 7) {m : Memref sig .tc .vmem S7x128x4096 .fp8e5m2} {inb₀ : ∀ a, (![e.val, 0, 0] : Fin 3 → ℕ) a + S1x128x4096.size a ≤ S7x128x4096.size a}
    {hl₀ : m.view.LoadsAt (Rect.unit (s := S7x128x4096) ![e.val, 0, 0] S1x128x4096.size inb₀).toLoadRect}
    {kont : (S1x128x4096.Idx → Elt F .fp8e5m2) → Prog (TpuEff nD τ sig (Elt F) Λ₀ .tc) α}
    (hW : W xv wv sc c k k' (kont (chunk xv (gdev (e, (3 : Fin 4), (1 : Fin 2)) c) (((e, (3 : Fin 4), (1 : Fin 2)) : G).2.2))) post)
    (hr : ract (.l2 e) c = true := by (try clear hk); (try clear hk'); (try clear hk''); revert c; decide +kernel) (ht : tR (.l2 e) < k := by decide +kernel) (hm₀ : m = br2 := by rfl) :
    W xv wv sc c k k' (.op (.load m (Rect.unit (s := S7x128x4096) ![e.val, 0, 0] S1x128x4096.size inb₀).toLoadRect hl₀) kont) post :=
  fun R Q hQ => step_load (reads_l2 xv wv sc e hr ht hm₀) (hW R Q hQ)

/-- What follows the load of a product's rows, when the two stand in different pieces. -/
theorem tail (g : G) {P : (S4096x512.Idx → Elt F .fp8e5m2) → S128x512.Idx → F .f32}
    (hW : W xv wv sc c (k + 1) k' (kont ⟨⟩) post) (hk : tG g = k := by decide +kernel)
    (hoff : off = ![256 * (gdev g c).val + 128 * g.2.2.val, 0] := by (try clear hk); (try clear hk'); (try clear hk''); revert c; decide +kernel)
    (hP : P = gtile (sc c) (chunk xv (gdev g c) g.2.2) := by rfl) :
    W xv wv sc c k k' (.op (.load w8 (Rect.unit (s := S4096x512) ![0, 0] S4096x512.size inbw).toLoadRect hlw) fun v =>
      .op (.load oM (Rect.unit (s := S4096x512) off S128x512.size inb).toLoadRect hl) fun _ =>
      .op (.store oM (Rect.unit (s := S4096x512) off S128x512.size inb) (P v) Finset.univ hx hm) kont) post :=
  fun R Q hQ => step_tail xv wv sc g hk hoff rfl hP (hW R Q hQ)

theorem load_w8 {kont : (S4096x512.Idx → Elt F .fp8e5m2) → Prog (TpuEff nD τ sig (Elt F) Λ₀ .tc) α}
    (hW : W xv wv sc c k k' (kont (wv c)) post) :
    W xv wv sc c k k' (.op (.load w8 (Rect.unit (s := S4096x512) ![0, 0] S4096x512.size inbw).toLoadRect hlw) kont) post :=
  fun R Q hQ => step_load (reads_w8 xv wv sc) (hW R Q hQ)

/-- A tile's store, with the dead load before it. -/
theorem store (g : G) {w : S128x512.Idx → F .f32}
    (hW : W xv wv sc c (k + 1) k' (kont ⟨⟩) post) (hk : tG g = k := by decide +kernel)
    (hoff : off = ![256 * (gdev g c).val + 128 * g.2.2.val, 0] := by (try clear hk); (try clear hk'); (try clear hk''); revert c; decide +kernel)
    (hw : w = tile xv wv sc c (gdev g c) g.2.2 := by rfl) :
    W xv wv sc c k k' (.op (.load oM (Rect.unit (s := S4096x512) off S128x512.size inb).toLoadRect hl) fun _ =>
      .op (.store oM (Rect.unit (s := S4096x512) off S128x512.size inb) w Finset.univ hx hm) kont) post :=
  fun R Q hQ => step_dead xv wv sc fun _ => step_store xv wv sc g hk hoff hw (hW R Q hQ)
end

end W

end Cert.KernelIdeal.Exchange
end
-- ==== Proof.KernelIdeal.PartsF.lean ====
/-
# The program's pieces: the waits for the departures
-/
module

public import proofs.«01_k».proof.Proof.KernelIdeal.Walk

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (xv : Dev nD → S2x128x4096.Idx → Elt F .fp8e5m2) (wv : Dev nD → S4096x512.Idx → Elt F .fp8e5m2) (sc : Dev nD → F .f32)

set_option maxHeartbeats 1000000

/-- The device's place along the chain of planes, as a word. -/
def zw (c : Dev nD) : BitVec 32 := Scalar.divsi (Scalar.remsi (Scalar.divsi (Dev.word c) 1#32) 16#32) 4#32

/-- The departures along the chain. -/
theorem part44 (c : Dev nD) :
    W xv wv sc c 124 129 (k0_part44 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      (zw c) (Scalar.cmpi .sle (zw c) 2#32)) (fun r => r = Scalar.andi (Scalar.cmpi .sge (zw c) 1#32) (Scalar.cmpi .sle (zw c) 1#32)) := by
  simp only [k0_part44_eq_skeleton, k0_part44_skel,
    dite_bind', Prog.lift, Prog.bind_op, Prog.bind_ret, Prog.pure_eq_ret]
  refine .branch 125 ?_ ?_
  rotate_left
  · intro hk h
    refine .swait (.z 0) ?_
    with_reducible exact hk
  refine .branch 126 ?_ ?_
  rotate_left
  · intro hk h
    refine .swait (.z 3) ?_
    with_reducible exact hk
  refine .branch 127 ?_ ?_
  rotate_left
  · intro hk h
    refine .swait (.z 1) ?_
    with_reducible exact hk
  refine .branch 128 ?_ ?_
  rotate_left
  · intro hk h
    refine .swait (.z 4) ?_
    with_reducible exact hk
  refine .branch 129 ?_ ?_
  rotate_left
  · intro hk h
    refine .swait (.z 2) ?_
    with_reducible exact hk
  refine .ret ?_; rfl

/-- The last departure along the chain, and three of the device's own block's. -/
theorem part45 (c : Dev nD) :
    W xv wv sc c 129 133 (k0_part45 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      (Scalar.andi (Scalar.cmpi .sge (zw c) 1#32) (Scalar.cmpi .sle (zw c) 1#32))) (fun _ => True) := by
  simp only [k0_part45_eq_skeleton, k0_part45_skel,
    dite_bind', Prog.lift, Prog.bind_op, Prog.bind_ret, Prog.pure_eq_ret]
  refine .branch 130 ?_ ?_
  rotate_left
  · intro hk h
    refine .swait (.z 5) ?_
    with_reducible exact hk
  refine .swait (.r1 0) ?_
  refine .swait (.l1 0) ?_
  refine .swait (.r2 0) ?_
  refine .ret ?_; trivial

/-- The departures of the block of the plane below. -/
theorem part46 (c : Dev nD) :
    W xv wv sc c 133 139 (k0_part46 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      (zw c)) (fun r => r = (Scalar.cmpi .sge (zw c) 2#32)) := by
  simp only [k0_part46_eq_skeleton, k0_part46_skel,
    dite_bind', Prog.lift, Prog.bind_op, Prog.bind_ret, Prog.pure_eq_ret]
  refine .swait (.l2 0) ?_
  refine .branch 135 ?_ ?_
  rotate_left
  · intro hk h
    refine .swait (.r1 1) ?_
    with_reducible exact hk
  refine .branch 136 ?_ ?_
  rotate_left
  · intro hk h
    refine .swait (.l1 1) ?_
    with_reducible exact hk
  refine .branch 137 ?_ ?_
  rotate_left
  · intro hk h
    refine .swait (.r2 1) ?_
    with_reducible exact hk
  refine .branch 138 ?_ ?_
  rotate_left
  · intro hk h
    refine .swait (.l2 1) ?_
    with_reducible exact hk
  refine .branch 139 ?_ ?_
  rotate_left
  · intro hk h
    refine .swait (.r1 2) ?_
    with_reducible exact hk
  refine .ret ?_; rfl

/-- The departures of the blocks of the planes two and three below. -/
theorem part47 (c : Dev nD) :
    W xv wv sc c 139 144 (k0_part47 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      (zw c) (Scalar.cmpi .sge (zw c) 2#32)) (fun r => r = Scalar.cmpi .ne (Scalar.extui (Scalar.cmpi .sge (zw c) 3#32)) 0#32) := by
  simp only [k0_part47_eq_skeleton, k0_part47_skel,
    dite_bind', Prog.lift, Prog.bind_op, Prog.bind_ret, Prog.pure_eq_ret]
  refine .branch 140 ?_ ?_
  rotate_left
  · intro hk h
    refine .swait (.l1 2) ?_
    with_reducible exact hk
  refine .branch 141 ?_ ?_
  rotate_left
  · intro hk h
    refine .swait (.r2 2) ?_
    with_reducible exact hk
  refine .branch 142 ?_ ?_
  rotate_left
  · intro hk h
    refine .swait (.l2 2) ?_
    with_reducible exact hk
  refine .branch 143 ?_ ?_
  rotate_left
  · intro hk h
    refine .swait (.r1 3) ?_
    with_reducible exact hk
  refine .branch 144 ?_ ?_
  rotate_left
  · intro hk h
    refine .swait (.l1 3) ?_
    with_reducible exact hk
  refine .ret ?_; rfl

/-- The departures of the blocks of the planes three below and one above. -/
theorem part48 (c : Dev nD) :
    W xv wv sc c 144 150 (k0_part48 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      (zw c) (Scalar.cmpi .ne (Scalar.extui (Scalar.cmpi .sge (zw c) 3#32)) 0#32)) (fun r => r = Scalar.extui (Scalar.cmpi .sle (zw c) 1#32)) := by
  simp only [k0_part48_eq_skeleton, k0_part48_skel,
    dite_bind', Prog.lift, Prog.bind_op, Prog.bind_ret, Prog.pure_eq_ret]
  refine .branch 145 ?_ ?_
  rotate_left
  · intro hk h
    refine .swait (.r2 3) ?_
    with_reducible exact hk
  refine .branch 146 ?_ ?_
  rotate_left
  · intro hk h
    refine .swait (.l2 3) ?_
    with_reducible exact hk
  refine .branch 147 ?_ ?_
  rotate_left
  · intro hk h
    refine .swait (.r1 4) ?_
    with_reducible exact hk
  refine .branch 148 ?_ ?_
  rotate_left
  · intro hk h
    refine .swait (.l1 4) ?_
    with_reducible exact hk
  refine .branch 149 ?_ ?_
  rotate_left
  · intro hk h
    refine .swait (.r2 4) ?_
    with_reducible exact hk
  refine .branch 150 ?_ ?_
  rotate_left
  · intro hk h
    refine .swait (.l2 4) ?_
    with_reducible exact hk
  refine .ret ?_; rfl

/-- The departures of the blocks of the planes two and three above. -/
theorem part49 (c : Dev nD) :
    W xv wv sc c 150 156 (k0_part49 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      (zw c) (Scalar.extui (Scalar.cmpi .sle (zw c) 1#32))) (fun r => r = Scalar.extui (Scalar.cmpi .sle (zw c) 0#32)) := by
  simp only [k0_part49_eq_skeleton, k0_part49_skel,
    dite_bind', Prog.lift, Prog.bind_op, Prog.bind_ret, Prog.pure_eq_ret]
  refine .branch 151 ?_ ?_
  rotate_left
  · intro hk h
    refine .swait (.r1 5) ?_
    with_reducible exact hk
  refine .branch 152 ?_ ?_
  rotate_left
  · intro hk h
    refine .swait (.l1 5) ?_
    with_reducible exact hk
  refine .branch 153 ?_ ?_
  rotate_left
  · intro hk h
    refine .swait (.r2 5) ?_
    with_reducible exact hk
  refine .branch 154 ?_ ?_
  rotate_left
  · intro hk h
    refine .swait (.l2 5) ?_
    with_reducible exact hk
  refine .branch 155 ?_ ?_
  rotate_left
  · intro hk h
    refine .swait (.r1 6) ?_
    with_reducible exact hk
  refine .branch 156 ?_ ?_
  rotate_left
  · intro hk h
    refine .swait (.l1 6) ?_
    with_reducible exact hk
  refine .ret ?_; rfl

end Cert.KernelIdeal.Exchange
end
-- ==== Proof.KernelIdeal.Opening.lean ====
/-
# The program's opening: the handshake, the staging of the block and the weights, the first sends
-/
module

public import proofs.«01_k».proof.Proof.KernelIdeal.Entry
public import proofs.«01_k».proof.Proof.KernelIdeal.PartsF

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (xs : Dev nD → S256x4096.Idx → Elt F .fp8e5m2) (ws : Dev nD → S4096x512.Idx → Elt F .fp8e5m2) (s1 s2 : Dev nD → S1.Idx → F .f32)

/-- A device's block of `x` as two halves. -/
def xvOf (d : Dev nD) : S2x128x4096.Idx → Elt F .fp8e5m2 := fun i =>
  xs d (ix2 ⟨128 * (i 0).val + (i 1).val, by have h0 : (i 0).val < 2 := (i 0).isLt; have h1 : (i 1).val < 128 := (i 1).isLt; omega⟩ ⟨(i 2).val, (i 2).isLt⟩)
/-- The one index of a scale. -/
def z1 : S1.Idx := fun a => ⟨0, by revert a; decide⟩
/-- The product of the two scales. -/
def scOf (d : Dev nD) : F .f32 := Scalar.mulf (s1 d z1) (s2 d z1)

/-! ## Storing the block -/

theorem inbx (h : Fin 2) : ∀ a, (![128 * h.val, 0] : Fin 2 → ℕ) a + S128x4096.size a ≤ S256x4096.size a := by revert h; decide
/-- Half `h` of the staged rows. -/
def rows (h : Fin 2) (f : S256x4096.Idx → Elt F .fp8e5m2) : Vec F S128x4096 .fp8e5m2 :=
  xM.view.readAt (Elt F) (Rect.unit (s := S256x4096) ![128 * h.val, 0] S128x4096.size (inbx h)).toLoadRect f

theorem rows_apply (h : Fin 2) (f : S256x4096.Idx → Elt F .fp8e5m2) (a : Fin 128) (b : Fin 4096) :
    rows h f (ix2 a b) = f (ix2 ⟨128 * h.val + a.val, by omega⟩ b) := by
  unfold rows
  rw [View.readAt_apply]
  show f _ = f _
  congr 1
  funext k
  apply Fin.ext
  refine (Rect.emb_apply (Rect.unit (s := S256x4096) ![128 * h.val, 0] S128x4096.size (inbx h)) (ix2 a b) k).trans ?_
  fin_cases k
  · show 128 * h.val + 1 * a.val = 128 * h.val + a.val
    omega
  · show 0 + 1 * b.val = b.val
    omega

theorem x8_write (h : Fin 2) (inb : ∀ a, (![h.val, 0, 0] : Fin 3 → ℕ) a + S1x128x4096.size a ≤ S2x128x4096.size a)
    (f : S2x128x4096.Idx → Elt F .fp8e5m2) (w : S1x128x4096.Idx → Elt F .fp8e5m2) (i : S2x128x4096.Idx) :
    (x8.access (Rect.unit (s := S2x128x4096) ![h.val, 0, 0] S1x128x4096.size inb)).write (Elt F) f w Finset.univ i
      = if (i 0).val = h.val then w (ix3 0 ⟨(i 1).val, (i 1).isLt⟩ ⟨(i 2).val, (i 2).isLt⟩) else f i := by
  have h1 : (i 1).val < 128 := (i 1).isLt
  have h2 : (i 2).val < 4096 := (i 2).isLt
  split
  · next h0 =>
    have he : (x8.access (Rect.unit (s := S2x128x4096) ![h.val, 0, 0] S1x128x4096.size inb)).emb
        (ix3 0 ⟨(i 1).val, h1⟩ ⟨(i 2).val, h2⟩ : S1x128x4096.Idx) = i := by
      funext a
      apply Fin.ext
      refine (Rect.emb_apply _ _ a).trans ?_
      fin_cases a
      · show h.val + 1 * 0 = (i 0).val
        omega
      · show 0 + 1 * (i 1).val = (i 1).val
        omega
      · show 0 + 1 * (i 2).val = (i 2).val
        omega
    have hv := View.write_emb_of_mem (Val := Elt F) (v := x8.access (Rect.unit (s := S2x128x4096) ![h.val, 0, 0] S1x128x4096.size inb))
      f w (Finset.mem_univ (ix3 0 ⟨(i 1).val, h1⟩ ⟨(i 2).val, h2⟩ : S1x128x4096.Idx))
    rw [he] at hv
    exact hv
  · next h0 =>
    refine View.write_of_not_mem _ _ _ ?_
    intro hm
    rw [View.setOn, Finset.mem_map] at hm
    obtain ⟨y, -, hy⟩ := hm
    have hy0 : (y 0).val < 1 := (y 0).isLt
    have e0 : h.val + 1 * (y 0).val = (i 0).val := by
      rw [← hy]; exact (Rect.emb_apply (Rect.unit (s := S2x128x4096) ![h.val, 0, 0] S1x128x4096.size inb) y (0 : Fin 3)).symm
    omega

theorem pay40_apply (v : Vec F S128x4096 .fp8e5m2) (a : Fin 128) (b : Fin 4096) : k0_pay40 (k0_pay39 v) (ix3 (0 : Fin 1) a b) = v (ix2 a b) := by
  unfold k0_pay40 k0_pay39
  refine (shapeCast_ab_1ab_apply _ _ (0 : Fin 1) a b).trans ?_
  exact congrFun (shapeCast_self v _) _
theorem pay41_apply (v : Vec F S128x4096 .fp8e5m2) (a : Fin 128) (b : Fin 4096) : k0_pay41 v (ix3 (0 : Fin 1) a b) = v (ix2 a b) := by
  unfold k0_pay41
  refine (shapeCast_ab_1ab_apply _ _ (0 : Fin 1) a b).trans ?_
  exact congrFun (shapeCast_self v _) _
theorem pay42_eq (v : Vec F S4096x512 .fp8e5m2) : k0_pay42 v = v := by
  unfold k0_pay42
  exact (shapeCast_self _ _).trans (shapeCast_self v _)

/-- After both halves are stored the buffer holds the block. -/
theorem stored (c : Dev nD) (f : S2x128x4096.Idx → Elt F .fp8e5m2) (inb0 inb1) :
    (x8.access (Rect.unit (s := S2x128x4096) ![1, 0, 0] S1x128x4096.size inb1)).write (Elt F)
      ((x8.access (Rect.unit (s := S2x128x4096) ![0, 0, 0] S1x128x4096.size inb0)).write (Elt F) f (k0_pay40 (k0_pay39 (rows 0 (xs c)))) Finset.univ)
      (k0_pay41 (rows 1 (xs c))) Finset.univ = xvOf xs c := by
  funext i
  have h0 : (i 0).val < 2 := (i 0).isLt
  refine (x8_write 1 inb1 _ _ i).trans ?_
  unfold xvOf
  split
  · next h => rw [pay41_apply, rows_apply]; congr 2; apply Fin.ext; show 128 * 1 + (i 1).val = 128 * (i 0).val + (i 1).val; rw [h]; rfl
  · next h =>
    refine (x8_write 0 inb0 _ _ i).trans ?_
    have h : (i 0).val = 0 := by have : (i 0).val ≠ 1 := h; omega
    refine (if_pos h).trans ?_; rw [pay40_apply, rows_apply]; congr 2; apply Fin.ext; show 128 * 0 + (i 1).val = 128 * (i 0).val + (i 1).val; rw [h]

theorem stored_pts (c : Dev nD) (f : S2x128x4096.Idx → Elt F .fp8e5m2) (inb0 inb1) :
    (x8.view.loc (c : Thread nD τ) ↦[Finset.univ]{fullShare} ((x8.access (Rect.unit (s := S2x128x4096) ![1, 0, 0] S1x128x4096.size inb1)).write (Elt F)
      ((x8.access (Rect.unit (s := S2x128x4096) ![0, 0, 0] S1x128x4096.size inb0)).write (Elt F) f (k0_pay40 (k0_pay39 (rows 0 (xs c)))) Finset.univ)
      (k0_pay41 (rows 1 (xs c))) Finset.univ) : sProp 𝕄) ⊢ x8.view.loc (c : Thread nD τ) ↦[Finset.univ]{fullShare} xvOf xs c :=
  Entails.of_eq (congrArg (fun X : Buf (Elt F) (x8.view.loc (c : Thread nD τ)) => (x8.view.loc (c : Thread nD τ) ↦[Finset.univ]{fullShare} X : sProp 𝕄)) (stored xs c f inb0 inb1))

theorem write_w (inb) (f) (w : S4096x512.Idx → Elt F .fp8e5m2) :
    (w8.access (Rect.unit (s := S4096x512) ![0, 0] S4096x512.size inb)).write (Elt F) f w Finset.univ = w :=
  Memref.write_access_unit_zero_univ (Elt F) _ (by funext a; fin_cases a <;> rfl) _ _ _

theorem written_pts (c : Dev nD) (f : S4096x512.Idx → Elt F .fp8e5m2) (inb) :
    (w8.view.loc (c : Thread nD τ) ↦[Finset.univ]{fullShare} ((w8.access (Rect.unit (s := S4096x512) ![0, 0] S4096x512.size inb)).write (Elt F) f (k0_pay42 (ws c)) Finset.univ) : sProp 𝕄)
      ⊢ w8.view.loc (c : Thread nD τ) ↦[Finset.univ]{fullShare} ws c :=
  Entails.of_eq (congrArg (fun X : Buf (Elt F) (w8.view.loc (c : Thread nD τ)) => (w8.view.loc (c : Thread nD τ) ↦[Finset.univ]{fullShare} X : sProp 𝕄))
    ((write_w inb f (k0_pay42 (ws c))).trans (pay42_eq (ws c))))

/-! ## Steps -/

section
variable {c : Dev nD} {α : Type}

theorem branch_wp {P : Prop} {dec : Decidable P} {t : P → Prog (TpuEff nD τ sig (Elt F) Λ₀ .tc) α} {kont : Prog (TpuEff nD τ sig (Elt F) Λ₀ .tc) α}
    {A : sProp 𝕄} {Q : α → sProp 𝕄} (B : sProp 𝕄) (hk : B ⊢ wpC c kont Q) (ht : (B ⊢ wpC c kont Q) → ∀ h : P, A ⊢ wpC c (t h) Q) (he : ¬ P → A ⊢ B) :
    A ⊢ wpC c (dite P t fun _ => kont) Q := by
  by_cases h : P
  · rw [dif_pos h]; exact ht hk h
  · rw [dif_neg h]; exact BIBase.Entails.trans (he h) hk

theorem load_pts {sp' : CoreSpace} {s : Shape} {e : EltTy} {m : Memref sig .tc sp' s e} {r : LoadRect s} {hl : m.view.LoadsAt r}
    {f : Buf (Elt F) (m.view.loc (c : Thread nD τ))} {kont : (r.shape.Idx → Elt F e) → Prog (TpuEff nD τ sig (Elt F) Λ₀ .tc) α} {R : sProp 𝕄} {Q : α → sProp 𝕄}
    (h : iprop((m.view.loc (c : Thread nD τ) ↦[Finset.univ]{fullShare} f) ∗ R) ⊢ wpC c (kont (m.view.readAt (Elt F) r f)) Q) :
    iprop((m.view.loc (c : Thread nD τ) ↦[Finset.univ]{fullShare} f) ∗ R) ⊢ wpC c (.op (.load m r hl) kont) Q := by
  iintro ⟨H, HR⟩
  iapply (wp_load 𝒱₀ (c : Thread nD τ) none Set.univ (m := m) (Finset.subset_univ _)) $$ H
  iintro H
  iapply h
  isplitl [H]; · iexact H
  iexact HR

theorem store_pts {sp' : CoreSpace} {s : Shape} {e : EltTy} {m : Memref sig .tc sp' s e} {r : Rect s} {w : r.shape.Idx → Elt F e} {hx} {hm}
    {f : Buf (Elt F) (m.view.loc (c : Thread nD τ))} {kont : PUnit → Prog (TpuEff nD τ sig (Elt F) Λ₀ .tc) α} {R : sProp 𝕄} {Q : α → sProp 𝕄}
    (h : iprop((m.view.loc (c : Thread nD τ) ↦[Finset.univ]{fullShare} ((m.access r).write (Elt F) f w Finset.univ)) ∗ R) ⊢ wpC c (kont ⟨⟩) Q) :
    iprop((m.view.loc (c : Thread nD τ) ↦[Finset.univ]{fullShare} f) ∗ R) ⊢ wpC c (.op (.store m r w Finset.univ hx hm) kont) Q := by
  iintro ⟨H, HR⟩
  iapply (wp_store 𝒱₀ (c : Thread nD τ) none Set.univ (m := m) (r := r) (Mk := Finset.univ) (Finset.subset_univ _)) $$ H
  iintro H
  iapply h
  isplitl [H]; · iexact H
  iexact HR

theorem signal (xv : Dev nD → S2x128x4096.Idx → Elt F .fp8e5m2) {kont : PUnit → Prog (TpuEff nD τ sig (Elt F) Λ₀ .tc) α} {R : sProp 𝕄} {Q : α → sProp 𝕄}
    (i : Fin 4) (k : ℕ) (hk : i.val = k) (hb : bact (ord i) c = true) {n : Dev nD} (hn : n = nb (ord i) c)
    (h : iprop(Sig xv c (k + 1) ∗ R) ⊢ wpC c (kont ⟨⟩) Q) :
    iprop(Sig xv c k ∗ R) ⊢ wpC c (.op (.semSignal (n : Thread nD τ) barS ((1 : ℕ) : ℤ)) kont) Q := by
  subst hk
  exact step_signal xv i hb hn h

theorem deviceId_wp {A : sProp 𝕄} {kont : Dev nD → Prog (TpuEff nD τ sig (Elt F) Λ₀ .tc) α} {Q : α → sProp 𝕄} (h : A ⊢ wpC c (kont c) Q) :
    A ⊢ wpC c (.op .deviceId kont) Q := by
  show A ⊢ wp frame (wpE defs₀ 𝒱₀ (c : Thread nD τ) none) Set.univ (.op .deviceId kont) Q
  simp only [wp_deviceId]; exact h

theorem ret_wp {A : sProp 𝕄} {b : α} {Q : α → sProp 𝕄} (h : A ⊢ Q b) : A ⊢ wpC c (.ret b) Q := by
  show A ⊢ wp frame (wpE defs₀ 𝒱₀ (c : Thread nD τ) none) Set.univ (.ret b) Q
  rw [wp_ret]
  iintro H
  imodintro
  iapply h
  iexact H
end

theorem one_toInt : (1#32 : BitVec 32).toInt = ((1 : ℕ) : ℤ) := by decide
theorem two_toInt : (2#32 : BitVec 32).toInt = ((2 : ℕ) : ℤ) := by decide
theorem bact0 : ∀ c : Dev nD, bact (ord 0) c = true := by decide +kernel
theorem bact1 : ∀ c : Dev nD, bact (ord 1) c = true := by decide +kernel
theorem bact2 : ∀ c : Dev nD, k0_cond1 c = 1#1 → bact (ord 2) c = true := by decide +kernel
theorem bact2' : ∀ c : Dev nD, ¬ k0_cond1 c = 1#1 → ¬ bact (ord 2) c = true := by decide +kernel
theorem bact3 : ∀ c : Dev nD, k0_cond2 c = 1#1 → bact (ord 3) c = true := by decide +kernel
theorem bact3' : ∀ c : Dev nD, ¬ k0_cond2 c = 1#1 → ¬ bact (ord 3) c = true := by decide +kernel
theorem dev1_nb (c : Dev nD) {h} : (⟨k0_dev1 c, h⟩ : Dev nD) = nb (ord 0) c := by
  apply Fin.ext; show k0_dev1 c = _; clear h; revert c; decide +kernel
theorem dev2_nb (c : Dev nD) {h} : (⟨k0_dev2 c, h⟩ : Dev nD) = nb (ord 1) c := by
  apply Fin.ext; show k0_dev2 c = _; clear h; revert c; decide +kernel
theorem dev3_nb (c : Dev nD) (h1 : k0_cond1 c = 1#1) {h} : (⟨k0_dev3 c, h⟩ : Dev nD) = nb (ord 2) c := by
  apply Fin.ext; show k0_dev3 c = _; clear h; revert c; decide +kernel
theorem dev4_nb (c : Dev nD) (h1 : k0_cond2 c = 1#1) {h} : (⟨k0_dev4 c, h⟩ : Dev nD) = nb (ord 3) c := by
  apply Fin.ext; show k0_dev4 c = _; clear h; revert c; decide +kernel

/-- The staged block of `x`. -/
abbrev xPts (c : Dev nD) : sProp 𝕄 := xM.view.loc (c : Thread nD τ) ↦[Finset.univ]{fullShare} xs c

/-- The signals, and the first half of the rows. -/
theorem part29 {xv : Dev nD → S2x128x4096.Idx → Elt F .fp8e5m2} (c : Dev nD) {R : sProp 𝕄} {Q : (Σ' (d0 : Dev nD) (v3 : BitVec 32) (v4 : BitVec 32) (v8 : BitVec 32) (v12 : BitVec 32) (v14 : BitVec 32) (v16 : BitVec 32) (v17 : Sems sig S_), FVec F S128x4096 .fp8e5m2) → sProp 𝕄}
    (h : ∀ v3 v8 v12 v14 v16, iprop(xPts xs c ∗ Sig xv c 4 ∗ R) ⊢ Q ⟨c, v3, zw c, v8, v12, v14, v16, SemArray.scalar (sig.barrier 0 rfl), k0_pay39 (rows 0 (xs c))⟩) :
    iprop(Sig xv c 0 ∗ xPts xs c ∗ R) ⊢ wpC c (k0_part29 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19) Q := by
  simp only [k0_part29_eq_skeleton, k0_part29_skel, semSignalWord, dite_bind', Prog.lift, Prog.bind_op, Prog.bind_ret, Prog.pure_eq_ret, one_toInt]
  refine deviceId_wp ?_
  refine signal xv 0 0 rfl (bact0 c) (dev1_nb c) ?_
  refine signal xv 1 1 rfl (bact1 c) (dev2_nb c) ?_
  refine branch_wp (iprop(Sig xv c 3 ∗ xPts xs c ∗ R)) ?_ ?_ ?_
  rotate_left
  · intro hk h1
    refine signal xv 2 2 rfl (bact2 c h1) (dev3_nb c h1) ?_
    with_reducible exact hk
  · intro h1
    exact Entails.of_eq (congrArg (fun X => iprop(X ∗ xPts xs c ∗ R)) (Sig_skip xv 2 c (bact2' c h1)))
  refine branch_wp (iprop(Sig xv c 4 ∗ xPts xs c ∗ R)) ?_ ?_ ?_
  rotate_left
  · intro hk h1
    refine signal xv 3 3 rfl (bact3 c h1) (dev4_nb c h1) ?_
    with_reducible exact hk
  · intro h1
    exact Entails.of_eq (congrArg (fun X => iprop(X ∗ xPts xs c ∗ R)) (Sig_skip xv 3 c (bact3' c h1)))
  refine BIBase.Entails.trans (Q := iprop(xPts xs c ∗ Sig xv c 4 ∗ R)) ?_ ?_
  · iintro ⟨H1, H2, H3⟩
    isplitl [H2]; · iexact H2
    isplitl [H1]; · iexact H1
    iexact H3
  refine load_pts ?_
  refine ret_wp ?_
  exact h _ _ _ _ _

/-! ## The handshake -/

/-- The credit a device holds towards the neighbour in direction `d`, if there is one. -/
def crd (d : Fin 4) (c : Dev nD) : sProp 𝕄 := if bact d c = true then cred (tallyAt (barCell c) () 1) else iprop(emp)

theorem await {xv : Dev nD → S2x128x4096.Idx → Elt F .fp8e5m2} {c : Dev nD} {α : Type} (d : Fin 4) (m m' : ℕ) (hm' : m + (bact d c).toNat = m')
    {P : Prop} {dec : Decidable P} (hP : P ↔ bact d c = true)
    {kont : Prog (TpuEff nD τ sig (Elt F) Λ₀ .tc) α} {R : sProp 𝕄} {Q : α → sProp 𝕄}
    (h : iprop(records xv ∗ levAts L lv ∗ Owe c (O 0 c) ∗ barAt c m' ∗ R) ⊢ wpC c kont Q) :
    iprop(records xv ∗ levAts L lv ∗ Owe c (O 0 c) ∗ barAt c m ∗ crd d c ∗ R)
      ⊢ wpC c (dite P (fun _ => .op (.semWait barS ((1 : ℕ) : ℤ)) fun _ => kont) fun _ => kont) Q := by
  subst hm'
  refine branch_wp _ h ?_ ?_
  · intro hk hp
    have e : (crd d c : sProp 𝕄) = cred (tallyAt (barCell c) () 1) := if_pos (hP.mp hp)
    rw [hP.mp hp] at hk
    rw [e]
    refine step_barwait xv m 1 ?_
    exact hk
  · intro hp
    have hb : ¬ bact d c = true := fun h => hp (hP.mpr h)
    have e : (crd d c : sProp 𝕄) = iprop(emp) := if_neg hb
    rw [e, Bool.eq_false_iff.mpr hb]
    iintro ⟨H1, H2, H3, H4, -, H5⟩
    isplitl [H1]; · iexact H1
    isplitl [H2]; · iexact H2
    isplitl [H3]; · iexact H3
    isplitl [H4]; · iexact H4
    iexact H5

/-- The barrier's cell, all of its units taken. -/
def barDone (c : Dev nD) : sProp 𝕄 := atPos ER (barCell c) 0 (bduties c) (bduties c).card

theorem card_duties : ∀ c : Dev nD, 2 + (bact 2 c).toNat + (bact 3 c).toNat = (bduties c).card := by decide +kernel
theorem up_iff : ∀ c : Dev nD, Scalar.cmpi .ne (Scalar.extui (Scalar.cmpi .sle (zw c) 2#32) : BitVec 32) 0#32 = 1#1 ↔ bact 2 c = true := by decide +kernel
theorem down_iff : ∀ c : Dev nD, Scalar.cmpi .ne (Scalar.extui (Scalar.cmpi .sge (zw c) 1#32) : BitVec 32) 0#32 = 1#1 ↔ bact 3 c = true := by decide +kernel
theorem cond5_act : ∀ c : Dev nD, k0_cond5 c = 1#1 → sact (.z 0) c = true := by decide +kernel
theorem cond5_still : ∀ c : Dev nD, ¬ k0_cond5 c = 1#1 → still 0 c = true := by decide +kernel
theorem cond6_act : ∀ c : Dev nD, k0_cond6 c = 1#1 → sact (.z 3) c = true := by decide +kernel
theorem cond6_still : ∀ c : Dev nD, ¬ k0_cond6 c = 1#1 → still 1 c = true := by decide +kernel
theorem dev5_tgt (c : Dev nD) (h1 : k0_cond5 c = 1#1) {h} : (⟨k0_dev5 c, h⟩ : Dev nD) = tgt (.z 0) c := by
  apply Fin.ext; show k0_dev5 c = _; clear h; revert c; decide +kernel
theorem dev6_tgt (c : Dev nD) (h1 : k0_cond6 c = 1#1) {h} : (⟨k0_dev6 c, h⟩ : Dev nD) = tgt (.z 3) c := by
  apply Fin.ext; show k0_dev6 c = _; clear h; revert c; decide +kernel

theorem owns_x8 {xv : Dev nD → S2x128x4096.Idx → Elt F .fp8e5m2} (c : Dev nD) :
    (x8.view.loc (c : Thread nD τ) ↦[Finset.univ]{fullShare} xv c : sProp 𝕄) ⊢ owns (c : Thread nD τ) x8 fullShare (xv c) := by
  unfold owns
  iintro H
  iexists (xv c)
  isplitr
  · ipureintro; rfl
  rw [show x8.view.set = Finset.univ from View.set_whole _]
  iexact H

/-- The barrier passed, the transfers' state begins. -/
theorem begin_St {xv : Dev nD → S2x128x4096.Idx → Elt F .fp8e5m2} (c : Dev nD) {R : sProp 𝕄} :
    iprop(records xv ∗ levAts L lv ∗ Owe c (O 0 c) ∗ barAt c (bduties c).card ∗ Ent (F := F) c ∗ (x8.view.loc (c : Thread nD τ) ↦[Finset.univ]{fullShare} xv c) ∗ R)
      ⊢ iprop(St xv c 0 ∗ owns (c : Thread nD τ) x8 fullShare.left (xv c) ∗ barDone c ∗ R) := by
  iintro ⟨H1, H2, H3, H4, H5, H6, H7⟩
  ihave H4 := (barAt_all c _ rfl) $$ H4
  icases H4 with ⟨Hat, Hg⟩
  ihave H6 := (owns_x8 c) $$ H6
  ihave H6 := (Entails.of_eq (roots_eq xv c)) $$ H6
  icases H6 with ⟨Hx, Hr⟩
  isplitl [H1 H2 H3 H5 Hg Hr]
  · iapply (St_zero xv c)
    isplitl [H1]; · iexact H1
    isplitl [H2]; · iexact H2
    isplitl [H3]; · iexact H3
    isplitl [H5]; · iexact H5
    isplitl [Hg]; · iexact Hg
    iexact Hr
  isplitl [Hx]; · iexact Hx
  isplitl [Hat]; · unfold barDone; iexact Hat
  iexact H7

set_option maxHeartbeats 2000000 in
/-- The block staged, the handshake, and the first sends between planes. -/
theorem part30 (c : Dev nD) (v8 v14 v16 : BitVec 32) {f : S2x128x4096.Idx → Elt F .fp8e5m2} {R : sProp 𝕄} {Q : PUnit → sProp 𝕄}
    (h : iprop(St (xvOf xs) c 2 ∗ owns (c : Thread nD τ) x8 fullShare.left (xvOf xs c) ∗ barDone c ∗ xPts xs c ∗ R) ⊢ Q ⟨⟩) :
    iprop((x8.view.loc (c : Thread nD τ) ↦[Finset.univ]{fullShare} f) ∗ xPts xs c ∗ records (xvOf xs) ∗ levAts L lv ∗ Owe c (O 0 c) ∗ barAt c 0
        ∗ cred (tallyAt (barCell c) () 2) ∗ crd 2 c ∗ crd 3 c ∗ Ent c ∗ R)
      ⊢ wpC c (k0_part30 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c (zw c) v8 v14 v16 (SemArray.scalar (sig.barrier 0 rfl)) (k0_pay39 (rows 0 (xs c)))) Q := by
  simp only [k0_part30_eq_skeleton, k0_part30_skel, semWaitWord, dite_bind', Prog.lift, Prog.bind_op, Prog.bind_ret, Prog.pure_eq_ret, one_toInt, two_toInt]
  refine load_pts (m := x8) ?_
  refine store_pts (m := x8) ?_
  refine BIBase.Entails.trans (sep_left_comm).mp ?_
  refine load_pts (m := xM) ?_
  refine BIBase.Entails.trans (sep_left_comm).mp ?_
  refine load_pts (m := x8) ?_
  refine store_pts (m := x8) ?_
  refine BIBase.Entails.trans (Q := iprop(records (xvOf xs) ∗ levAts L lv ∗ Owe c (O 0 c) ∗ barAt c 0 ∗ cred (tallyAt (barCell c) () 2) ∗ crd 2 c ∗ crd 3 c ∗ Ent c
    ∗ (x8.view.loc (c : Thread nD τ) ↦[Finset.univ]{fullShare} xvOf xs c) ∗ xPts xs c ∗ R)) ?_ ?_
  · iintro ⟨Hx, H0, H1, H2, H3, H4, H5, H6, H7, H8, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hx]
    · iapply (stored_pts xs c f _ _)
      iexact Hx
    isplitl [H0]; · iexact H0
    iexact H9
  refine step_barwait (xvOf xs) 0 2 ?_
  refine await 2 _ (2 + (bact 2 c).toNat) rfl (up_iff c) ?_
  refine await 3 _ (bduties c).card (card_duties c) (down_iff c) ?_
  refine BIBase.Entails.trans (begin_St c) ?_
  refine branch_wp (iprop(St (xvOf xs) c 1 ∗ owns (c : Thread nD τ) x8 fullShare.left (xvOf xs c) ∗ barDone c ∗ xPts xs c ∗ R)) ?_ ?_ ?_
  rotate_left
  · intro hk h1
    refine step_send0 (xvOf xs) (.z 0) (by decide) (cond5_act c h1) rfl (dev5_tgt c h1) ?_
    with_reducible exact hk
  · intro h1
    exact Entails.of_eq (congrArg (fun X => iprop(X ∗ owns (c : Thread nD τ) x8 fullShare.left (xvOf xs c) ∗ barDone c ∗ xPts xs c ∗ R)) (St_still (xvOf xs) c 0 (cond5_still c h1)))
  refine branch_wp (iprop(St (xvOf xs) c 2 ∗ owns (c : Thread nD τ) x8 fullShare.left (xvOf xs c) ∗ barDone c ∗ xPts xs c ∗ R)) ?_ ?_ ?_
  rotate_left
  · intro hk h1
    refine step_send0 (xvOf xs) (.z 3) (by decide) (cond6_act c h1) rfl (dev6_tgt c h1) ?_
    with_reducible exact hk
  · intro h1
    exact Entails.of_eq (congrArg (fun X => iprop(X ∗ owns (c : Thread nD τ) x8 fullShare.left (xvOf xs c) ∗ barDone c ∗ xPts xs c ∗ R)) (St_still (xvOf xs) c 1 (cond6_still c h1)))
  refine ret_wp ?_
  exact h

theorem act_r1 : ∀ c : Dev nD, sact (.r1 0) c = true := by decide +kernel
theorem act_l1 : ∀ c : Dev nD, sact (.l1 0) c = true := by decide +kernel
theorem dev7_tgt (c : Dev nD) {h} : (⟨k0_dev7 c, h⟩ : Dev nD) = tgt (.r1 0) c := by
  apply Fin.ext; show k0_dev7 c = _; clear h; revert c; decide +kernel
theorem dev8_tgt (c : Dev nD) {h} : (⟨k0_dev8 c, h⟩ : Dev nD) = tgt (.l1 0) c := by
  apply Fin.ext; show k0_dev8 c = _; clear h; revert c; decide +kernel

/-- The staged weights and scales. -/
abbrev wPts (c : Dev nD) : sProp 𝕄 := wM.view.loc (c : Thread nD τ) ↦[Finset.univ]{fullShare} ws c
abbrev s1Pts (c : Dev nD) : sProp 𝕄 := sxM.view.loc (c : Thread nD τ) ↦[Finset.univ]{fullShare} s1 c
abbrev s2Pts (c : Dev nD) : sProp 𝕄 := swM.view.loc (c : Thread nD τ) ↦[Finset.univ]{fullShare} s2 c

theorem z1_only (x : S1.Idx) : x = z1 := by
  funext a
  apply Fin.ext
  have h := (x a).isLt
  fin_cases a
  have h : (x 0).val < 1 := h
  show (x 0).val = 0
  omega

theorem read_s1 (c : Dev nD) (inb) (x) : sxM.view.readAt (Elt F) (Rect.unit (s := S1) ![0] S1.size inb).toLoadRect (s1 c) x = s1 c z1 := by
  rw [View.readAt_apply]
  exact congrArg (s1 c) (z1_only _)
theorem read_s2 (c : Dev nD) (inb) (x) : swM.view.readAt (Elt F) (Rect.unit (s := S1) ![0] S1.size inb).toLoadRect (s2 c) x = s2 c z1 := by
  rw [View.readAt_apply]
  exact congrArg (s2 c) (z1_only _)
theorem read_w (c : Dev nD) (inb) : wM.view.readAt (Elt F) (Rect.unit (s := S4096x512) ![0, 0] S4096x512.size inb).toLoadRect (ws c) = ws c :=
  Memref.readAt_unit_zero (Elt F) _ (by funext a; fin_cases a <;> rfl) _ _
theorem tG_ge : ∀ g : G, 4 ≤ tG g := by decide +kernel

/-- The staged buffers the body only reads, beside the barrier's position. -/
def Stg (c : Dev nD) : sProp 𝕄 := iprop(barDone c ∗ xPts xs c ∗ wPts ws c ∗ s1Pts s1 c ∗ s2Pts s2 c)

/-- The sends within the plane, the weights and scales staged, the first product. -/
theorem part31 (c : Dev nD) (v3 v4 v12 : BitVec 32) {f : S4096x512.Idx → Elt F .fp8e5m2} {R : sProp 𝕄}
    {Q : (Σ' (v73 : F .f32) (v75 : BitVec 32), FVec F S128x512 .f32) → sProp 𝕄}
    (h : ∀ v75, Sd (xvOf xs) ws (scOf s1 s2) (iprop(s2Pts s2 c ∗ s1Pts s1 c ∗ wPts ws c ∗ barDone c ∗ xPts xs c ∗ R)) c 4
      ⊢ Q ⟨scOf s1 s2 c, v75, gtile (scOf s1 s2 c) (chunk (xvOf xs) (gdev ((0 : Fin 7), (0 : Fin 4), (0 : Fin 2)) c) 0) (ws c)⟩) :
    iprop(St (xvOf xs) c 2 ∗ owns (c : Thread nD τ) x8 fullShare.left (xvOf xs c) ∗ barDone c ∗ xPts xs c
        ∗ wPts ws c ∗ (w8.view.loc (c : Thread nD τ) ↦[Finset.univ]{fullShare} f) ∗ s1Pts s1 c ∗ s2Pts s2 c
        ∗ (∃ g, oM.view.loc (c : Thread nD τ) ↦[Finset.univ]{fullShare} g) ∗ R)
      ⊢ wpC c (k0_part31 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v3 v4 v12) Q := by
  simp only [k0_part31_eq_skeleton, k0_part31_skel, smemLoad, smemLoadElt, dite_bind', Prog.lift, Prog.bind_op, Prog.bind_ret, Prog.pure_eq_ret]
  refine step_send0 (xvOf xs) (.r1 0) (by decide) (act_r1 c) rfl (dev7_tgt c) ?_
  refine step_send0 (xvOf xs) (.l1 0) (by decide) (act_l1 c) rfl (dev8_tgt c) ?_
  refine BIBase.Entails.trans (Q := iprop(wPts ws c ∗ (w8.view.loc (c : Thread nD τ) ↦[Finset.univ]{fullShare} f) ∗ s1Pts s1 c ∗ s2Pts s2 c
    ∗ St (xvOf xs) c 4 ∗ owns (c : Thread nD τ) x8 fullShare.left (xvOf xs c) ∗ barDone c ∗ xPts xs c
    ∗ (∃ g, oM.view.loc (c : Thread nD τ) ↦[Finset.univ]{fullShare} g) ∗ R)) ?_ ?_
  · iintro ⟨H1, H2, H3, H4, H5, H6, H7, H8, H9⟩
    isplitl [H5]; · iexact H5
    isplitl [H6]; · iexact H6
    isplitl [H7]; · iexact H7
    isplitl [H8]; · iexact H8
    isplitl [H1]; · iexact H1
    isplitl [H2]; · iexact H2
    isplitl [H3]; · iexact H3
    isplitl [H4]; · iexact H4
    iexact H9
  refine load_pts (m := wM) ?_
  rw [read_w]
  refine BIBase.Entails.trans (sep_left_comm).mp ?_
  refine load_pts (m := w8) ?_
  refine store_pts (m := w8) ?_
  refine BIBase.Entails.trans (Q := iprop(s1Pts s1 c ∗ s2Pts s2 c ∗ (w8.view.loc (c : Thread nD τ) ↦[Finset.univ]{fullShare} ws c) ∗ wPts ws c
    ∗ St (xvOf xs) c 4 ∗ owns (c : Thread nD τ) x8 fullShare.left (xvOf xs c) ∗ barDone c ∗ xPts xs c
    ∗ (∃ g, oM.view.loc (c : Thread nD τ) ↦[Finset.univ]{fullShare} g) ∗ R)) ?_ ?_
  · iintro ⟨H1, H2, H3, H4, H5⟩
    isplitl [H3]; · iexact H3
    isplitl [H4]; · iexact H4
    isplitl [H1]
    · iapply (written_pts ws c f _)
      iexact H1
    isplitl [H2]; · iexact H2
    iexact H5
  refine load_pts (m := sxM) ?_
  rw [read_s1]
  refine BIBase.Entails.trans (sep_left_comm).mp ?_
  refine load_pts (m := swM) ?_
  rw [read_s2]
  refine BIBase.Entails.trans (Q := Sd (xvOf xs) ws (scOf s1 s2) (iprop(s2Pts s2 c ∗ s1Pts s1 c ∗ wPts ws c ∗ barDone c ∗ xPts xs c ∗ R)) c 4) ?_ ?_
  · unfold Sd D
    iintro ⟨H1, H2, H3, H4, H5, H6, H7, H8, ⟨%g, H9⟩, H10⟩
    isplitl [H5]; · iexact H5
    isplitl [H6 H3 H9]
    · isplitl [H6]; · iexact H6
      isplitl [H3]; · iexact H3
      iexists g
      isplitr
      · ipureintro; exact filled_le _ _ _ c 0 4 (fun g' _ hg => by have := tG_ge g'; omega) g (filled_zero _ _ _ c g)
      iexact H9
    isplitl [H1]; · iexact H1
    isplitl [H2]; · iexact H2
    isplitl [H4]; · iexact H4
    isplitl [H7]; · iexact H7
    isplitl [H8]; · iexact H8
    iexact H10
  refine step_load (W.reads_own (0 : Fin 2) rfl) ?_
  refine step_load (reads_w8 (xvOf xs) ws (scOf s1 s2)) ?_
  refine ret_wp ?_
  exact h _

end Cert.KernelIdeal.Exchange
end
-- ==== Proof.KernelIdeal.PartsA.lean ====
/-
# The program's pieces: the sends, receives and products of the walk's first part
-/
module

public import proofs.«01_k».proof.Proof.KernelIdeal.Walk

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (xv : Dev nD → S2x128x4096.Idx → Elt F .fp8e5m2) (wv : Dev nD → S4096x512.Idx → Elt F .fp8e5m2) (sc : Dev nD → F .f32)

/-- The own block's products, and the plane below's first block. -/
theorem part32 (c : Dev nD) (v3 v4 v8 v12 v14 v75 : BitVec 32) :
    W xv wv sc c 4 12 (k0_part32 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v3 v4 v8 v12 v14 (sc c) v75 (gtile (sc c) (chunk xv (gdev ((0 : Fin 7), (0 : Fin 4), (0 : Fin 2)) c) 0) (wv c))) (fun _ => True) := by
  simp only [k0_part32_eq_skeleton, k0_part32_skel, k0_part2_eq_skeleton, k0_part2_skel, k0_part1_eq_skeleton, k0_part1_skel,
    dite_bind', Prog.lift, Prog.bind_op, Prog.bind_ret, Prog.pure_eq_ret]
  refine .store (0, 0, 0) ?_
  refine .gemm_own 1 ?_
  refine .branch 12 ?_ ?_
  rotate_left
  · intro hk h7
    refine .recv (.z 0) ?_
    refine .branch 8 ?_ ?_
    rotate_left
    · intro hk' h8
      refine .send (.z 1) ?_
      exact hk'
    refine .send (.r1 1) ?_
    refine .send (.l1 1) ?_
    refine .gemm_z 0 0 ?_
    refine .gemm_z 0 1 ?_
    exact hk
  refine .ret ?_; trivial

/-- The plane above's first block, and the left neighbour's block on its way. -/
theorem part33 (c : Dev nD) (v3 v4 v8 v12 v16 v100 c2 : BitVec 32) :
    W xv wv sc c 12 20 (k0_part33 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v3 v4 v8 v12 v16 (sc c) v100 c2) (fun _ => True) := by
  simp only [k0_part33_eq_skeleton, k0_part33_skel, k0_part4_eq_skeleton, k0_part4_skel, k0_part3_eq_skeleton, k0_part3_skel,
    dite_bind', Prog.lift, Prog.bind_op, Prog.bind_ret, Prog.pure_eq_ret]
  refine .branch 18 ?_ ?_
  rotate_left
  · intro hk h9
    refine .recv (.z 3) ?_
    refine .branch 14 ?_ ?_
    rotate_left
    · intro hk' h10
      refine .send (.z 4) ?_
      exact hk'
    refine .send (.r1 4) ?_
    refine .send (.l1 4) ?_
    refine .gemm_z 3 0 ?_
    refine .gemm_z 3 1 ?_
    exact hk
  refine .recv (.r1 0) ?_
  refine .send (.r2 0) ?_
  refine .ret ?_; trivial

/-- The left neighbour's products. -/
theorem part34 (c : Dev nD) (v128 : BitVec 32) :
    W xv wv sc c 20 22 (k0_part34 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c (sc c) v128) (fun _ => True) := by
  simp only [k0_part34_eq_skeleton, k0_part34_skel,
    dite_bind', Prog.lift, Prog.bind_op, Prog.bind_ret, Prog.pure_eq_ret]
  refine .gemm_r1 0 0 ?_
  refine .gemm_r1 0 1 ?_
  refine .ret ?_; trivial

/-- The right neighbour's block, its half passed on, and its first product. -/
theorem part35 (c : Dev nD) (v4 v12 v102 c1 : BitVec 32) :
    W xv wv sc c 22 24 (k0_part35 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v4 v12 (sc c) v102 c1) (fun r => r.2 = gtile (sc c) (chunk xv (gdev ((0 : Fin 7), (2 : Fin 4), (0 : Fin 2)) c) 0) (wv c)) := by
  simp only [k0_part35_eq_skeleton, k0_part35_skel,
    dite_bind', Prog.lift, Prog.bind_op, Prog.bind_ret, Prog.pure_eq_ret]
  refine .recv (.l1 0) ?_
  refine .send (.l2 0) ?_
  refine .load_l1 0 0 ?_
  refine .load_w8 ?_
  refine .ret ?_; rfl

/-- The right neighbour's products, and the plane two below's block. -/
theorem part36 (c : Dev nD) (v3 v4 v8 v12 v14 v173 : BitVec 32) :
    W xv wv sc c 24 32 (k0_part36 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v3 v4 v8 v12 v14 (sc c) v173 (gtile (sc c) (chunk xv (gdev ((0 : Fin 7), (2 : Fin 4), (0 : Fin 2)) c) 0) (wv c))) (fun _ => True) := by
  simp only [k0_part36_eq_skeleton, k0_part36_skel, k0_part5_eq_skeleton, k0_part5_skel, k0_part6_eq_skeleton, k0_part6_skel,
    dite_bind', Prog.lift, Prog.bind_op, Prog.bind_ret, Prog.pure_eq_ret]
  refine .store (0, 2, 0) ?_
  refine .gemm_l1 0 1 ?_
  refine .branch 32 ?_ ?_
  rotate_left
  · intro hk h11
    refine .recv (.z 1) ?_
    refine .branch 28 ?_ ?_
    rotate_left
    · intro hk' h12
      refine .send (.z 2) ?_
      exact hk'
    refine .send (.r1 2) ?_
    refine .send (.l1 2) ?_
    refine .gemm_z 1 0 ?_
    refine .gemm_z 1 1 ?_
    exact hk
  refine .ret ?_; trivial

end Cert.KernelIdeal.Exchange
end
-- ==== Proof.KernelIdeal.PartsB.lean ====
/-
# The program's pieces: the blocks of the farther planes
-/
module

public import proofs.«01_k».proof.Proof.KernelIdeal.Walk

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (xv : Dev nD → S2x128x4096.Idx → Elt F .fp8e5m2) (wv : Dev nD → S4096x512.Idx → Elt F .fp8e5m2) (sc : Dev nD → F .f32)

set_option maxHeartbeats 1000000

/-- The plane two above's block, and the neighbours' blocks of the plane below. -/
theorem part37 (c : Dev nD) (v3 v4 v8 v12 v16 v100 v102 v205 : BitVec 32) :
    W xv wv sc c 32 46 (k0_part37 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v3 v4 v8 v12 v16 (sc c) v100 v102 v205) (fun _ => True) := by
  simp only [k0_part37_eq_skeleton, k0_part37_skel, k0_part7_eq_skeleton, k0_part7_skel, k0_part8_eq_skeleton, k0_part8_skel, k0_part9_eq_skeleton, k0_part9_skel, k0_part10_eq_skeleton, k0_part10_skel,
    dite_bind', Prog.lift, Prog.bind_op, Prog.bind_ret, Prog.pure_eq_ret]
  refine .branch 38 ?_ ?_
  rotate_left
  · intro hk h13
    refine .recv (.z 4) ?_
    refine .branch 34 ?_ ?_
    rotate_left
    · intro hk' h14
      refine .send (.z 5) ?_
      with_reducible exact hk'
    refine .send (.r1 5) ?_
    refine .send (.l1 5) ?_
    refine .gemm_z 4 0 ?_
    refine .gemm_z 4 1 ?_
    with_reducible exact hk
  refine .branch 42 ?_ ?_
  rotate_left
  · intro hk h15
    refine .recv (.r1 1) ?_
    refine .send (.r2 1) ?_
    refine .gemm_r1 1 0 ?_
    refine .gemm_r1 1 1 ?_
    with_reducible exact hk
  refine .branch 46 ?_ ?_
  rotate_left
  · intro hk h16
    refine .recv (.l1 1) ?_
    refine .send (.l2 1) ?_
    refine .gemm_l1 1 0 ?_
    refine .gemm_l1 1 1 ?_
    with_reducible exact hk
  refine .ret ?_; trivial

/-- The neighbours' blocks of the plane above, and the planes three away. -/
theorem part38 (c : Dev nD) (v3 v4 v8 v12 v14 v16 v100 v102 : BitVec 32) :
    W xv wv sc c 46 64 (k0_part38 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v3 v4 v8 v12 v14 v16 (sc c) v100 v102) (fun _ => True) := by
  simp only [k0_part38_eq_skeleton, k0_part38_skel, k0_part11_eq_skeleton, k0_part11_skel, k0_part12_eq_skeleton, k0_part12_skel, k0_part13_eq_skeleton, k0_part13_skel, k0_part14_eq_skeleton, k0_part14_skel,
    dite_bind', Prog.lift, Prog.bind_op, Prog.bind_ret, Prog.pure_eq_ret]
  refine .branch 50 ?_ ?_
  rotate_left
  · intro hk h17
    refine .recv (.r1 4) ?_
    refine .send (.r2 4) ?_
    refine .gemm_r1 4 0 ?_
    refine .gemm_r1 4 1 ?_
    with_reducible exact hk
  refine .branch 54 ?_ ?_
  rotate_left
  · intro hk h18
    refine .recv (.l1 4) ?_
    refine .send (.l2 4) ?_
    refine .gemm_l1 4 0 ?_
    refine .gemm_l1 4 1 ?_
    with_reducible exact hk
  refine .branch 59 ?_ ?_
  rotate_left
  · intro hk h19
    refine .recv (.z 2) ?_
    refine .send (.r1 3) ?_
    refine .send (.l1 3) ?_
    refine .gemm_z 2 0 ?_
    refine .gemm_z 2 1 ?_
    with_reducible exact hk
  refine .branch 64 ?_ ?_
  rotate_left
  · intro hk h20
    refine .recv (.z 5) ?_
    refine .send (.r1 6) ?_
    refine .send (.l1 6) ?_
    refine .gemm_z 5 0 ?_
    refine .gemm_z 5 1 ?_
    with_reducible exact hk
  refine .ret ?_; trivial

end Cert.KernelIdeal.Exchange
end
-- ==== Proof.KernelIdeal.PartsC.lean ====
/-
# The program's pieces: the blocks of the farther planes
-/
module

public import proofs.«01_k».proof.Proof.KernelIdeal.Walk

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (xv : Dev nD → S2x128x4096.Idx → Elt F .fp8e5m2) (wv : Dev nD → S4096x512.Idx → Elt F .fp8e5m2) (sc : Dev nD → F .f32)

set_option maxHeartbeats 1000000

/-- The neighbours' blocks of the planes two away. -/
theorem part39 (c : Dev nD) (v4 v8 v12 v100 v102 v226 : BitVec 32) :
    W xv wv sc c 64 80 (k0_part39 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v4 v8 v12 (sc c) v100 v102 v226) (fun _ => True) := by
  simp only [k0_part39_eq_skeleton, k0_part39_skel, k0_part15_eq_skeleton, k0_part15_skel, k0_part16_eq_skeleton, k0_part16_skel, k0_part17_eq_skeleton, k0_part17_skel, k0_part18_eq_skeleton, k0_part18_skel,
    dite_bind', Prog.lift, Prog.bind_op, Prog.bind_ret, Prog.pure_eq_ret]
  refine .branch 68 ?_ ?_
  rotate_left
  · intro hk h21
    refine .recv (.r1 2) ?_
    refine .send (.r2 2) ?_
    refine .gemm_r1 2 0 ?_
    refine .gemm_r1 2 1 ?_
    with_reducible exact hk
  refine .branch 72 ?_ ?_
  rotate_left
  · intro hk h22
    refine .recv (.l1 2) ?_
    refine .send (.l2 2) ?_
    refine .gemm_l1 2 0 ?_
    refine .gemm_l1 2 1 ?_
    with_reducible exact hk
  refine .branch 76 ?_ ?_
  rotate_left
  · intro hk h23
    refine .recv (.r1 5) ?_
    refine .send (.r2 5) ?_
    refine .gemm_r1 5 0 ?_
    refine .gemm_r1 5 1 ?_
    with_reducible exact hk
  refine .branch 80 ?_ ?_
  rotate_left
  · intro hk h24
    refine .recv (.l1 5) ?_
    refine .send (.l2 5) ?_
    refine .gemm_l1 5 0 ?_
    refine .gemm_l1 5 1 ?_
    with_reducible exact hk
  refine .ret ?_; trivial

end Cert.KernelIdeal.Exchange
end
-- ==== Proof.KernelIdeal.PartsD.lean ====
/-
# The program's pieces: the blocks of the farther planes
-/
module

public import proofs.«01_k».proof.Proof.KernelIdeal.Walk

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (xv : Dev nD → S2x128x4096.Idx → Elt F .fp8e5m2) (wv : Dev nD → S4096x512.Idx → Elt F .fp8e5m2) (sc : Dev nD → F .f32)

set_option maxHeartbeats 1000000

/-- The neighbours' blocks of the planes three away. -/
theorem part40 (c : Dev nD) (v4 v8 v12 v100 v102 v238 : BitVec 32) :
    W xv wv sc c 80 96 (k0_part40 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v4 v8 v12 (sc c) v100 v102 v238) (fun _ => True) := by
  simp only [k0_part40_eq_skeleton, k0_part40_skel, k0_part19_eq_skeleton, k0_part19_skel, k0_part20_eq_skeleton, k0_part20_skel, k0_part21_eq_skeleton, k0_part21_skel, k0_part22_eq_skeleton, k0_part22_skel,
    dite_bind', Prog.lift, Prog.bind_op, Prog.bind_ret, Prog.pure_eq_ret]
  refine .branch 84 ?_ ?_
  rotate_left
  · intro hk h25
    refine .recv (.r1 3) ?_
    refine .send (.r2 3) ?_
    refine .gemm_r1 3 0 ?_
    refine .gemm_r1 3 1 ?_
    with_reducible exact hk
  refine .branch 88 ?_ ?_
  rotate_left
  · intro hk h26
    refine .recv (.l1 3) ?_
    refine .send (.l2 3) ?_
    refine .gemm_l1 3 0 ?_
    refine .gemm_l1 3 1 ?_
    with_reducible exact hk
  refine .branch 92 ?_ ?_
  rotate_left
  · intro hk h27
    refine .recv (.r1 6) ?_
    refine .send (.r2 6) ?_
    refine .gemm_r1 6 0 ?_
    refine .gemm_r1 6 1 ?_
    with_reducible exact hk
  refine .branch 96 ?_ ?_
  rotate_left
  · intro hk h28
    refine .recv (.l1 6) ?_
    refine .send (.l2 6) ?_
    refine .gemm_l1 6 0 ?_
    refine .gemm_l1 6 1 ?_
    with_reducible exact hk
  refine .ret ?_; trivial

/-- The opposite device's block. -/
theorem part41 (c : Dev nD) (v4 v12 v104 v249 c0 : BitVec 32) :
    W xv wv sc c 96 99 (k0_part41 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v4 v12 (sc c) v104 v249 c0) (fun r => r = chunk xv (gdev ((0 : Fin 7), (3 : Fin 4), (1 : Fin 2)) c) 1) := by
  simp only [k0_part41_eq_skeleton, k0_part41_skel,
    dite_bind', Prog.lift, Prog.bind_op, Prog.bind_ret, Prog.pure_eq_ret]
  refine .recv (.r2 0) ?_
  refine .gemm_r2 0 ?_
  refine .recv (.l2 0) ?_
  refine .load_l2 0 ?_
  refine .ret ?_; rfl

end Cert.KernelIdeal.Exchange
end
-- ==== Proof.KernelIdeal.PartsE.lean ====
/-
# The program's pieces: the blocks of the farther planes
-/
module

public import proofs.«01_k».proof.Proof.KernelIdeal.Walk

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (xv : Dev nD → S2x128x4096.Idx → Elt F .fp8e5m2) (wv : Dev nD → S4096x512.Idx → Elt F .fp8e5m2) (sc : Dev nD → F .f32)

set_option maxHeartbeats 1000000

/-- The opposite device's second product, and the opposite blocks of the planes one and two below. -/
theorem part42 (c : Dev nD) (v4 v8 v12 v104 : BitVec 32) :
    W xv wv sc c 99 108 (k0_part42 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v4 v8 v12 (sc c) v104 (chunk xv (gdev ((0 : Fin 7), (3 : Fin 4), (1 : Fin 2)) c) 1)) (fun _ => True) := by
  simp only [k0_part42_eq_skeleton, k0_part42_skel, k0_part23_eq_skeleton, k0_part23_skel, k0_part24_eq_skeleton, k0_part24_skel,
    dite_bind', Prog.lift, Prog.bind_op, Prog.bind_ret, Prog.pure_eq_ret]
  refine .tail (0, 3, 1) ?_
  refine .branch 104 ?_ ?_
  rotate_left
  · intro hk h29
    refine .recv (.r2 1) ?_
    refine .gemm_r2 1 ?_
    refine .recv (.l2 1) ?_
    refine .gemm_l2 1 ?_
    with_reducible exact hk
  refine .branch 108 ?_ ?_
  rotate_left
  · intro hk h30
    refine .recv (.r2 2) ?_
    refine .gemm_r2 2 ?_
    refine .recv (.l2 2) ?_
    refine .gemm_l2 2 ?_
    with_reducible exact hk
  refine .ret ?_; trivial

/-- The opposite blocks of the remaining planes. -/
theorem part43 (c : Dev nD) (v4 v8 v12 v104 v299 : BitVec 32) :
    W xv wv sc c 108 124 (k0_part43 xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19
      c v4 v8 v12 (sc c) v104 v299) (fun r => r = Scalar.cmpi .sle v4 2#32) := by
  simp only [k0_part43_eq_skeleton, k0_part43_skel, k0_part25_eq_skeleton, k0_part25_skel, k0_part26_eq_skeleton, k0_part26_skel, k0_part27_eq_skeleton, k0_part27_skel, k0_part28_eq_skeleton, k0_part28_skel,
    dite_bind', Prog.lift, Prog.bind_op, Prog.bind_ret, Prog.pure_eq_ret]
  refine .branch 112 ?_ ?_
  rotate_left
  · intro hk h31
    refine .recv (.r2 3) ?_
    refine .gemm_r2 3 ?_
    refine .recv (.l2 3) ?_
    refine .gemm_l2 3 ?_
    with_reducible exact hk
  refine .branch 116 ?_ ?_
  rotate_left
  · intro hk h32
    refine .recv (.r2 4) ?_
    refine .gemm_r2 4 ?_
    refine .recv (.l2 4) ?_
    refine .gemm_l2 4 ?_
    with_reducible exact hk
  refine .branch 120 ?_ ?_
  rotate_left
  · intro hk h33
    refine .recv (.r2 5) ?_
    refine .gemm_r2 5 ?_
    refine .recv (.l2 5) ?_
    refine .gemm_l2 5 ?_
    with_reducible exact hk
  refine .branch 124 ?_ ?_
  rotate_left
  · intro hk h34
    refine .recv (.r2 6) ?_
    refine .gemm_r2 6 ?_
    refine .recv (.l2 6) ?_
    refine .gemm_l2 6 ?_
    with_reducible exact hk
  refine .ret ?_; rfl

end Cert.KernelIdeal.Exchange
end
-- ==== Proof.KernelIdeal.Body.lean ====
/-
# The program's body: the opening, the exchange, the end
-/
module

public import proofs.«01_k».proof.Proof.KernelIdeal.Opening
public import proofs.«01_k».proof.Proof.KernelIdeal.PartsA
public import proofs.«01_k».proof.Proof.KernelIdeal.PartsB
public import proofs.«01_k».proof.Proof.KernelIdeal.PartsC
public import proofs.«01_k».proof.Proof.KernelIdeal.PartsD
public import proofs.«01_k».proof.Proof.KernelIdeal.PartsE
public import proofs.«01_k».proof.Proof.KernelIdeal.PartsF

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (xs : Dev nD → S256x4096.Idx → Elt F .fp8e5m2) (ws : Dev nD → S4096x512.Idx → Elt F .fp8e5m2) (s1 s2 : Dev nD → S1.Idx → F .f32)

section
variable {xv : Dev nD → S2x128x4096.Idx → Elt F .fp8e5m2} {wv : Dev nD → S4096x512.Idx → Elt F .fp8e5m2} {sc : Dev nD → F .f32}
variable {c : Dev nD} {α β : Type}

theorem bind_wp {A : sProp 𝕄} {p : Prog (TpuEff nD τ sig (Elt F) Λ₀ .tc) β} {kont : β → Prog (TpuEff nD τ sig (Elt F) Λ₀ .tc) α} {Q : α → sProp 𝕄}
    (h : A ⊢ wpC c p (fun b => wpC c (kont b) Q)) : A ⊢ wpC c (p >>= kont) Q := by
  show A ⊢ wp frame (wpE defs₀ 𝒱₀ (c : Thread nD τ) none) Set.univ (p >>= kont) Q
  rw [wp_bind]
  exact h

theorem run_W {k k' : ℕ} {p : Prog (TpuEff nD τ sig (Elt F) Λ₀ .tc) α} {post : α → Prop} {R : sProp 𝕄} {Q : α → sProp 𝕄}
    (hW : W xv wv sc c k k' p post) (h : ∀ b, post b → Sd xv wv sc R c k' ⊢ Q b) : Sd xv wv sc R c k ⊢ wpC c p Q := hW R Q h

end

set_option maxHeartbeats 16000000 in
/-- The whole body: from the start of the handshake to the end of the exchange. -/
theorem body_walk (c : Dev nD) {f : S2x128x4096.Idx → Elt F .fp8e5m2} {f' : S4096x512.Idx → Elt F .fp8e5m2} {Q : PUnit → sProp 𝕄}
    (h : Sd (xvOf xs) ws (scOf s1 s2) (iprop(s2Pts s2 c ∗ s1Pts s1 c ∗ wPts ws c ∗ barDone c ∗ xPts xs c)) c 158 ⊢ Q ⟨⟩) :
    iprop(Sig (xvOf xs) c 0 ∗ xPts xs c
        ∗ (x8.view.loc (c : Thread nD τ) ↦[Finset.univ]{fullShare} f) ∗ levAts L lv ∗ barAt c 0
        ∗ cred (tallyAt (barCell c) () 2) ∗ crd 2 c ∗ crd 3 c ∗ Ent c
        ∗ wPts ws c ∗ (w8.view.loc (c : Thread nD τ) ↦[Finset.univ]{fullShare} f') ∗ s1Pts s1 c ∗ s2Pts s2 c
        ∗ (∃ g, oM.view.loc (c : Thread nD τ) ↦[Finset.univ]{fullShare} g))
      ⊢ wpC c (cc0_body xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19) Q := by
  simp only [cc0_body_eq_skeleton]
  unfold cc0_body_skel
  refine bind_wp ?_
  refine part29 xs c (fun v3 v8 v12 v14 v16 => ?_)
  refine bind_wp ?_
  refine BIBase.Entails.trans (Q := iprop((x8.view.loc (c : Thread nD τ) ↦[Finset.univ]{fullShare} f) ∗ xPts xs c ∗ records (xvOf xs) ∗ levAts L lv ∗ Owe c (O 0 c) ∗ barAt c 0
        ∗ cred (tallyAt (barCell c) () 2) ∗ crd 2 c ∗ crd 3 c ∗ Ent c ∗ (wPts ws c ∗ (w8.view.loc (c : Thread nD τ) ↦[Finset.univ]{fullShare} f') ∗ s1Pts s1 c ∗ s2Pts s2 c
        ∗ (∃ g, oM.view.loc (c : Thread nD τ) ↦[Finset.univ]{fullShare} g)))) ?_ ?_
  · unfold Sig
    iintro ⟨H1, ⟨H2, H3, -⟩, H4, H5, H6, H7, H8, H9, H10, H11⟩
    ihave H3 := (Entails.of_eq (congrArg (fun X => Owe (F := F) c X) (OB_four c))) $$ H3
    isplitl [H4]; · iexact H4
    isplitl [H1]; · iexact H1
    isplitl [H2]; · iexact H2
    isplitl [H5]; · iexact H5
    isplitl [H3]; · iexact H3
    isplitl [H6]; · iexact H6
    isplitl [H7]; · iexact H7
    isplitl [H8]; · iexact H8
    isplitl [H9]; · iexact H9
    isplitl [H10]; · iexact H10
    iexact H11
  refine part30 xs c v8 v14 v16 ?_
  refine bind_wp ?_
  refine BIBase.Entails.trans (Q := iprop(St (xvOf xs) c 2 ∗ owns (c : Thread nD τ) x8 fullShare.left (xvOf xs c) ∗ barDone c ∗ xPts xs c
        ∗ wPts ws c ∗ (w8.view.loc (c : Thread nD τ) ↦[Finset.univ]{fullShare} f') ∗ s1Pts s1 c ∗ s2Pts s2 c
        ∗ (∃ g, oM.view.loc (c : Thread nD τ) ↦[Finset.univ]{fullShare} g) ∗ emp)) ?_ ?_
  · iintro ⟨H1, H2, H3, H4, H5, H6, H7, H8, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iempintro
  refine part31 xs ws s1 s2 c v3 (zw c) v12 (fun v75 => ?_)
  refine run_W (k' := 158) (post := fun _ => True) ?_ (fun _ _ => ?_)
  rotate_left
  · refine BIBase.Entails.trans ?_ h
    unfold Sd
    iintro ⟨H1, H2, H3, H4, H5, H6, H7, -⟩
    isplitl [H1]; · iexact H1
    isplitl [H2]; · iexact H2
    isplitl [H3]; · iexact H3
    isplitl [H4]; · iexact H4
    isplitl [H5]; · iexact H5
    isplitl [H6]; · iexact H6
    iexact H7
  refine .bind 12 (part32 (xvOf xs) ws (scOf s1 s2) c v3 (zw c) v8 v12 v14 v75) (fun r _ => ?_)
  obtain ⟨v100, v102, v104, c2⟩ := r
  refine .bind 20 (part33 (xvOf xs) ws (scOf s1 s2) c v3 (zw c) v8 v12 v16 v100 c2) (fun v128 _ => ?_)
  refine .bind 22 (part34 (xvOf xs) ws (scOf s1 s2) c v128) (fun c1 _ => ?_)
  refine .bind 24 (part35 (xvOf xs) ws (scOf s1 s2) c (zw c) v12 v102 c1) (fun r hr => ?_)
  obtain ⟨v173, v184⟩ := r
  obtain rfl : v184 = _ := hr
  refine .bind 32 (part36 (xvOf xs) ws (scOf s1 s2) c v3 (zw c) v8 v12 v14 v173) (fun v205 _ => ?_)
  refine .bind 46 (part37 (xvOf xs) ws (scOf s1 s2) c v3 (zw c) v8 v12 v16 v100 v102 v205) (fun _ _ => ?_)
  refine .bind 64 (part38 (xvOf xs) ws (scOf s1 s2) c v3 (zw c) v8 v12 v14 v16 v100 v102) (fun v226 _ => ?_)
  refine .bind 80 (part39 (xvOf xs) ws (scOf s1 s2) c (zw c) v8 v12 v100 v102 v226) (fun v238 _ => ?_)
  refine .bind 96 (part40 (xvOf xs) ws (scOf s1 s2) c (zw c) v8 v12 v100 v102 v238) (fun r _ => ?_)
  obtain ⟨v249, c0⟩ := r
  refine .bind 99 (part41 (xvOf xs) ws (scOf s1 s2) c (zw c) v12 v104 v249 c0) (fun v278 hr => ?_)
  obtain rfl : v278 = _ := hr
  refine .bind 108 (part42 (xvOf xs) ws (scOf s1 s2) c (zw c) v8 v12 v104) (fun v299 _ => ?_)
  refine .bind 124 (part43 (xvOf xs) ws (scOf s1 s2) c (zw c) v8 v12 v104 v299) (fun v310 hr => ?_)
  obtain rfl : v310 = _ := hr
  refine .bind 129 (part44 (xvOf xs) ws (scOf s1 s2) c) (fun v333 hr => ?_)
  obtain rfl : v333 = _ := hr
  refine .bind 133 (part45 (xvOf xs) ws (scOf s1 s2) c) (fun _ _ => ?_)
  refine .bind 139 (part46 (xvOf xs) ws (scOf s1 s2) c) (fun v371 hr => ?_)
  obtain rfl : v371 = _ := hr
  refine .bind 144 (part47 (xvOf xs) ws (scOf s1 s2) c) (fun v388 hr => ?_)
  obtain rfl : v388 = _ := hr
  refine .bind 150 (part48 (xvOf xs) ws (scOf s1 s2) c) (fun v405 hr => ?_)
  obtain rfl : v405 = _ := hr
  refine .bind 156 (part49 (xvOf xs) ws (scOf s1 s2) c) (fun v423 hr => ?_)
  obtain rfl : v423 = _ := hr
  clear h
  simp only [dite_bind', Prog.lift, Prog.bind_op, Prog.bind_ret, Prog.pure_eq_ret]
  refine .branch 157 ?_ ?_
  rotate_left
  · intro hk h1
    refine .swait (.r2 6) ?_
    with_reducible exact hk
  refine .branch 158 ?_ ?_
  rotate_left
  · intro hk h1
    refine .swait (.l2 6) ?_
    with_reducible exact hk
  refine .ret ?_; trivial

end Cert.KernelIdeal.Exchange
end
-- ==== Proof.KernelIdeal.Exit.lean ====
/-
# The end of the exchange

After the last position every block is back: the shares of each arrived block rejoin, the device's own block is whole
again, and every cell is over, so its counter is zero and the device's own.
-/
module

public import proofs.«01_k».proof.Proof.KernelIdeal.Entry

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (xv : Dev nD → S2x128x4096.Idx → Elt F .fp8e5m2)

/-- The sources on a device: those of its own block, and those that came with each arrival. -/
theorem SS_end (c : Dev nD) : (bigSep Finset.univ fun j : J => SS xv j c 158)
    = iprop(roots xv c ∗ bigSep Finset.univ fun p : J => if ract p c = true then kids xv p c else iprop(emp)) := by
  have e : ∀ p : J, (if ract p c = true then kids xv p c else iprop(emp) : sProp 𝕄)
      = bigSep Finset.univ fun j : J => if par j = some p then (if ract p c = true then sp xv j c else iprop(emp)) else iprop(emp) := by
    intro p
    by_cases hr : ract p c = true
    · rw [if_pos hr]; unfold kids
      exact bigSep_congr fun j _ => by rw [if_pos hr]
    · rw [if_neg hr]
      refine Eq.trans (bigSep_emp_const (Finset.univ : Finset J)).symm (bigSep_congr fun j _ => ?_)
      rw [if_neg hr, ite_self]; rfl
  rw [bigSep_congr fun p _ => e p, bigSep_exch]
  unfold roots
  rw [← bigSep_sep']
  refine bigSep_congr fun j _ => ?_
  have ha : (here j c && avail j 158 && !away j c 158) = here j c := by
    have h1 : avail j 158 = true := by
      unfold avail; rcases hp : par j with _ | p
      · rfl
      · have := tR_lt p; exact decide_eq_true (by omega)
    have h2 : away j c 158 = false := by
      have := tW_lt j
      unfold away; rw [decide_eq_false (show ¬ 158 ≤ tW j by omega), Bool.and_false]
    rw [h1, h2]; simp
  unfold SS; rw [ha]
  unfold here
  cases hp : par j with
  | none =>
    have : (bigSep Finset.univ fun i : J => if (none : Option J) = some i then (if ract i c = true then sp xv j c else iprop(emp)) else iprop(emp) : sProp 𝕄) = iprop(emp) :=
      (bigSep_congr fun i _ => if_neg (by simp)).trans (bigSep_emp_const _)
    rw [this, if_pos rfl, if_pos rfl]
    exact (equiv_iff.mp sep_emp).symm
  | some p =>
    have : (bigSep Finset.univ fun i : J => if some p = some i then (if ract i c = true then sp xv j c else iprop(emp)) else iprop(emp) : sProp 𝕄)
        = if ract p c = true then sp xv j c else iprop(emp) := by
      refine Eq.trans (bigSep_congr fun i _ => ?_) (bigSep_one p (if ract p c = true then sp xv j c else iprop(emp)))
      by_cases h : p = i
      · subst h; rw [if_pos rfl, if_pos rfl]
      · rw [if_neg (fun h' => h (Option.some.inj h')), if_neg h]
    rw [this, if_neg (show ¬ (some p : Option J) = none by simp)]
    exact (equiv_iff.mp emp_sep).symm

/-- An arrived block whole again, at any contents. -/
theorem landed_back (j : J) (c : Dev nD) : iprop((rd xv j c ∗ rest xv j c) ∗ kids xv j c) ⊢ raw (F := F) j c := by
  refine BIBase.Entails.trans (Q := landed xv j c) ?_ ?_
  · refine BIBase.Entails.trans ?_ (Entails.of_eq (landed_eq xv j c).symm)
    iintro ⟨⟨H1, H2⟩, H3⟩
    isplitl [H1]; · iexact H1
    isplitl [H2]; · iexact H2
    iexact H3
  · unfold landed raw
    iintro H
    iexists _
    iexact H

/-- The round a cell of copy `j` is at when all is over. -/
def endR (b : Bool) : ℕ := if b = true then 1 else 0

theorem RS_end1 (j : J) (c : Dev nD) : iprop(RS xv j c 158 ∗ (if ract j c = true then kids xv j c else iprop(emp)))
    ⊢ iprop(raw (F := F) j c ∗ atPos ER (rCell j c) (endR (ract j c)) ∅ 0) := by
  have := tR_lt j
  unfold RS endR
  by_cases hr : ract j c = true
  · rw [if_pos hr, if_pos hr, if_pos hr, if_neg (by omega)]
    iintro ⟨⟨H1, H2⟩, H3⟩
    isplitl [H1 H3]
    · iapply (landed_back xv j c)
      isplitl [H1]; · iexact H1
      iexact H3
    iexact H2
  · rw [if_neg hr, if_neg hr, if_neg hr]
    iintro ⟨⟨H1, H2⟩, -⟩
    isplitl [H1]; · iexact H1
    iexact H2

theorem RS_end (c : Dev nD) :
    iprop((bigSep Finset.univ fun j : J => RS xv j c 158) ∗ bigSep Finset.univ fun p : J => if ract p c = true then kids xv p c else iprop(emp))
      ⊢ iprop((bigSep Finset.univ fun j : J => raw (F := F) j c) ∗ bigSep Finset.univ fun j : J => atPos ER (rCell j c) (endR (ract j c)) ∅ 0) :=
  BIBase.Entails.trans (Entails.of_eq (bigSep_sep' _ _ _).symm) (BIBase.Entails.trans (bigSep_mono fun j _ => RS_end1 xv j c) (Entails.of_eq (bigSep_sep' _ _ _)))

theorem SG_end (c : Dev nD) : (bigSep Finset.univ fun j : J => SG (F := F) j c 158) = bigSep Finset.univ fun j : J => atPos ER (sCell j c) (endR (sact j c)) ∅ 0 := by
  refine bigSep_congr fun j _ => ?_
  have h1 := tS_lt j
  have h2 := tW_lt j
  unfold SG endR
  by_cases hs : sact j c = true
  · rw [if_pos hs, if_pos hs, if_neg (by omega), if_neg (by omega)]
  · rw [if_neg hs, if_neg hs]

theorem duties_s_end (j : J) (c : Dev nD) (r : ℕ) (hr : endR (sact j c) ≤ r) : (Rd xv).duties (sCell j c) r = ∅ := by
  unfold endR at hr
  by_cases hs : sact j c = true
  · rw [if_pos hs] at hr; exact duties_later xv _ _ hr
  · rcases Nat.eq_zero_or_pos r with h0 | h0
    · rw [h0, duties_s, if_neg hs]
    · exact duties_later xv _ _ h0
theorem duties_r_end (j : J) (c : Dev nD) (r : ℕ) (hr : endR (ract j c) ≤ r) : (Rd xv).duties (rCell j c) r = ∅ := by
  unfold endR at hr
  by_cases hs : ract j c = true
  · rw [if_pos hs] at hr; exact duties_later xv _ _ hr
  · rcases Nat.eq_zero_or_pos r with h0 | h0
    · rw [h0, duties_r, if_neg hs]
    · exact duties_later xv _ _ h0

/-- A cell with no duties left closes. -/
theorem close (g : GSem nD τ sig) (n : ℕ) (h : ∀ r, n ≤ r → (Rd xv).duties g r = ∅) :
    iprop(Rec xv g ∗ atPos ER g n ∅ 0) ⊢ (|={Set.univ}=> semVal g 0 : sProp 𝕄) := by
  iintro ⟨R1, Hat⟩
  ihave R1 := Rec_elim xv g $$ R1
  icases R1 with ⟨⟨%κ, #I1⟩, #r1⟩
  iapply (Rounds.cell_close ER (Rd xv) (Set.mem_univ κ) (fun h => h) (R := n) h)
  isplitr; · iexact I1
  iexact Hat

theorem closes (g : J → GSem nD τ sig) (n : J → ℕ) (hrec : ∀ j, records xv ⊢ Rec xv (g j)) (h : ∀ j r, n j ≤ r → (Rd xv).duties (g j) r = ∅) :
    iprop(records xv ∗ bigSep Finset.univ fun j : J => atPos ER (g j) (n j) ∅ 0) ⊢ (|={Set.univ}=> bigSep Finset.univ fun j : J => semVal (g j) 0 : sProp 𝕄) := by
  refine BIBase.Entails.trans (BIBase.Entails.trans (sep_mono_left (BI.bigSep_of_persistent (Finset.univ : Finset J) (records xv)))
    (BIBase.Entails.trans (Entails.of_eq (bigSep_sep' _ _ _).symm) (bigSep_mono fun j _ => ?_))) (bigSep_fupd _ _)
  refine BIBase.Entails.trans (sep_mono_left (hrec j)) (close xv (g j) (n j) (h j))

/-- The barrier's round is over once every unit has been taken, and its cell closes. -/
theorem close_bar (c : Dev nD) (m : ℕ) (hm : m = (bduties c).card) :
    iprop(Rec xv (barCell c) ∗ atPos ER (barCell c) 0 (bduties c) m) ⊢ (|={Set.univ}=> semVal (barCell c) 0 : sProp 𝕄) := by
  have hskip : ∀ κ : ℕ, iprop(cellInv ER (Rd xv) κ (barCell c) ∗ atPos ER (barCell c) 0 (bduties c) m)
      ⊢ (|={Set.univ}=> (atPos ER (barCell c) 1 ∅ 0 ∗ reached ER (barCell c) 1) : sProp 𝕄) := fun κ =>
    Rounds.fupd_skip ER (Rd xv) (by rw [duties_bar]; exact Finset.Subset.refl _) (by rw [hm, expect_bar]) (Set.mem_univ κ)
  iintro ⟨#R1, Hb⟩
  ihave R2 := Rec_elim xv (barCell c) $$ R1
  icases R2 with ⟨⟨%κ, #I1⟩, #r1⟩
  imod (hskip κ) $$ [Hb] with ⟨Hb, -⟩
  · isplitr; · iexact I1
    iexact Hb
  iapply (close xv (barCell c) 1 (fun r hr => duties_later xv _ r hr))
  isplitr; · iexact R1
  iexact Hb

/-- Everything the exchange gives back. -/
theorem finish (c : Dev nD) (m : ℕ) (hm : m = (bduties c).card) :
    iprop(St xv c 158 ∗ owns (c : Thread nD τ) x8 fullShare.left (xv c) ∗ atPos ER (barCell c) 0 (bduties c) m)
      ⊢ (|={Set.univ}=> (Owe c 0 ∗ (bigSep Finset.univ fun j : J => raw (F := F) j c) ∗ owns (c : Thread nD τ) x8 fullShare (xv c)
          ∗ semVal (barCell c) 0 ∗ (bigSep Finset.univ fun j : J => semVal (sCell j c) 0) ∗ bigSep Finset.univ fun j : J => semVal (rCell j c) 0) : sProp 𝕄) := by
  unfold St
  rw [O_done c 158 (by omega), SG_end, SS_end]
  iintro ⟨⟨#Hrec, #Hlev, HO, HaS, ⟨Hroots, Hkids⟩, HRS⟩, Hx, Hb⟩
  ihave H := (RS_end xv c) $$ [HRS Hkids]
  · isplitl [HRS]; · iexact HRS
    iexact Hkids
  icases H with ⟨Hraw, HaR⟩
  ihave #R1 := rec_bar xv c $$ Hrec
  imod (close_bar xv c m hm) $$ [Hb] with Hb
  · isplitr; · iexact R1
    iexact Hb
  imod (closes xv (fun j => sCell j c) (fun j => endR (sact j c)) (fun j => rec_s xv j c) (fun j => duties_s_end xv j c)) $$ [HaS] with HaS
  · isplitr; · iexact Hrec
    iexact HaS
  imod (closes xv (fun j => rCell j c) (fun j => endR (ract j c)) (fun j => rec_r xv j c) (fun j => duties_r_end xv j c)) $$ [HaR] with HaR
  · isplitr; · iexact Hrec
    iexact HaR
  imodintro
  isplitl [HO]; · iexact HO
  isplitl [Hraw]; · iexact Hraw
  isplitl [Hx Hroots]
  · iapply (Entails.of_eq (roots_eq xv c).symm)
    isplitl [Hx]; · iexact Hx
    iexact Hroots
  isplitl [Hb]; · iexact Hb
  isplitl [HaS]; · iexact HaS
  iexact HaR

end Cert.KernelIdeal.Exchange
end
-- ==== Proof.KernelIdeal.Deal.lean ====
/-
# The exchange's ghost state at launch

Every cell starts with its round's record, its owner's place and the rights to pay it.  The rights are dealt to those who
pay: a barrier cell's to the neighbours, an arrival's to the device that sends the copy.
-/
module

public import proofs.«01_k».proof.Proof.KernelIdeal.Entry

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (xv : Dev nD → S2x128x4096.Idx → Elt F .fp8e5m2)

/-! ## The cells and the rights -/

/-- The kernel's own scoped semaphores: each copy's departure and arrival. -/
def osem : J × Bool → SemLoc sig
  | (j, false) => .dma (X j).ssem
  | (j, true) => .dma (X j).rsem
theorem osem_own (k : J × Bool) : ∃ q, osem k = .dma q ∧ own q = some k := by
  rcases k with ⟨j, _ | _⟩
  · exact ⟨_, rfl, own_ssem j⟩
  · exact ⟨_, rfl, own_rsem j⟩
theorem osem_injective : Function.Injective osem := by
  intro k k' h
  obtain ⟨q, h1, h2⟩ := osem_own k
  obtain ⟨q', h1', h2'⟩ := osem_own k'
  have e : SemLoc.dma q = (SemLoc.dma q' : SemLoc sig) := h1.symm.trans (h.trans h1')
  obtain rfl : q = q' := by injection e
  exact Option.some.inj (h2.symm.trans h2')
theorem osem_ne_bar (k : J × Bool) : osem k ≠ .reg barS := by
  obtain ⟨q, h, -⟩ := osem_own k
  rw [h]; intro h'; cases h'

theorem kc_some (c : Dev nD) (k : J × Bool) : kc (c, some k) = ((c : Thread nD τ), osem k) := by
  rcases k with ⟨j, _ | _⟩ <;> rfl
theorem kc_dev (p : KC) : (kc p).1.1 = p.1 := by
  rcases p with ⟨c, _ | ⟨j, _ | _⟩⟩ <;> rfl
theorem kc_injective : Function.Injective kc := by
  rintro ⟨c, k⟩ ⟨c', k'⟩ h
  have h1 : c = c' := by
    have : (kc (c, k)).1.1 = (kc (c', k')).1.1 := congrArg (fun g : GSem nD τ sig => g.1.1) h
    rwa [kc_dev, kc_dev] at this
  subst h1
  rcases k with _ | k <;> rcases k' with _ | k'
  · rfl
  · rw [kc_some] at h; exact absurd (congrArg Prod.snd h).symm (osem_ne_bar k')
  · rw [kc_some] at h; exact absurd (congrArg Prod.snd h) (osem_ne_bar k)
  · rw [kc_some, kc_some] at h; rw [osem_injective (congrArg Prod.snd h)]
def cells : Finset (GSem nD τ sig) := Finset.univ.map ⟨kc, kc_injective⟩

/-- The rights to pay a device's cells: its barrier cell for each direction, every other cell once. -/
abbrev TI : Type := Dev nD × (Fin 4 ⊕ (J × Bool))
def tokOf : TI → GSem nD τ sig × ℕ × Fin 4
  | (c, .inl d) => (kc (c, none), 0, d)
  | (c, .inr k) => (kc (c, some k), 0, 0)
theorem tokOf_injective : Function.Injective tokOf := by
  rintro ⟨c, k⟩ ⟨c', k'⟩ h
  rcases k with d | k <;> rcases k' with d' | k'
  · have h1 := kc_injective (show kc (c, none) = kc (c', none) from congrArg Prod.fst h)
    have h2 : d = d' := congrArg (fun x : GSem nD τ sig × ℕ × Fin 4 => x.2.2) h
    rw [h2, (Prod.mk.inj h1).1]
  · exact absurd (Prod.mk.inj (kc_injective (show kc (c, none) = kc (c', some k') from congrArg Prod.fst h))).2 (by simp)
  · exact absurd (Prod.mk.inj (kc_injective (show kc (c, some k) = kc (c', none) from congrArg Prod.fst h))).2 (by simp)
  · have h1 := Prod.mk.inj (kc_injective (show kc (c, some k) = kc (c', some k') from congrArg Prod.fst h))
    rw [h1.1, Option.some.inj h1.2]
def tokens : Finset (GSem nD τ sig × ℕ × Fin 4) := Finset.univ.map ⟨tokOf, tokOf_injective⟩

/-- The rights at device `c`'s own cells. -/
def toks (c : Dev nD) : sProp 𝕄 :=
  iprop((bigSep Finset.univ fun d : Fin 4 => dutyTok ER (barCell c) 0 d)
    ∗ bigSep Finset.univ fun k : J × Bool => dutyTok ER (kc (c, some k)) 0 (0 : Fin 4))
/-- The rights device `c` uses: at the neighbours' barrier cells, at its own departures, at the arrivals it causes. -/
def pays (c : Dev nD) : sProp 𝕄 :=
  iprop((bigSep Finset.univ fun d : Fin 4 => dutyTok ER (barCell (nb d c)) 0 (opp d))
    ∗ (bigSep Finset.univ fun j : J => dutyTok ER (sCell j c) 0 (0 : Fin 4))
    ∗ bigSep Finset.univ fun j : J => dutyTok ER (rCell j (tgt j c)) 0 (0 : Fin 4))
/-- Its places at its own cells. -/
def ats (c : Dev nD) : sProp 𝕄 := bigSep Finset.univ fun k : Option (J × Bool) => atPos ER (kc (c, k)) 0 (∅ : Finset (Fin 4)) 0

/-- What the launch deals device `c`. -/
def G (c : Dev nD) : sProp 𝕄 :=
  iprop((bigSep Finset.univ fun k : Option (J × Bool) => roundState ER (Rd xv) (kc (c, k)) 0)
    ∗ (ats c ∗ bigSep Finset.univ fun k : Option (J × Bool) => reached ER (kc (c, k)) 0) ∗ toks c)
/-- What it has once the cells' invariants stand. -/
def G' (c : Dev nD) : sProp 𝕄 := iprop(records xv ∗ ats c ∗ pays c)

/-! ## Families -/

theorem bigSep_bool (Φ : Bool → sProp 𝕄) : bigSep Finset.univ Φ = iprop(Φ false ∗ Φ true) :=
  bigSep_univ_eq_bigSepL [false, true] (by decide) (by decide) Φ
theorem bigSep_copies (Φ : J × Bool → sProp 𝕄) : bigSep Finset.univ Φ
    = iprop((bigSep Finset.univ fun j => Φ (j, false)) ∗ bigSep Finset.univ fun j => Φ (j, true)) := by
  rw [bigSep_univ_prod, bigSep_congr fun j _ => bigSep_bool _, bigSep_sep']
theorem bigSep_opt {K : Type} [Fintype K] [DecidableEq K] (Φ : Option K → sProp 𝕄) :
    bigSep Finset.univ Φ = iprop((bigSep Finset.univ fun k => Φ (some k)) ∗ Φ none) := by
  rw [bigSep_univ_equiv (Equiv.optionEquivSumPUnit.{0, 0} K).symm, bigSep_univ_sum]
  exact congrArg (fun A => iprop(_ ∗ A)) (bigSep_univ_eq_bigSepL [PUnit.unit] (by decide) (by decide) _)

theorem pays_all : (bigSep Finset.univ fun c : Dev nD => (toks c : sProp 𝕄)) = bigSep Finset.univ fun c : Dev nD => pays c := by
  unfold toks pays
  have hoo : ∀ d, opp (opp d) = d := by decide
  let e1 : (Dev nD × Fin 4) ≃ (Dev nD × Fin 4) := ⟨fun p => (nb p.2 p.1, opp p.2), fun p => (nb p.2 p.1, opp p.2),
    fun p => Prod.ext (nb_opp _ _) (hoo _), fun p => Prod.ext (nb_opp _ _) (hoo _)⟩
  have h1 : (bigSep Finset.univ fun c : Dev nD => bigSep Finset.univ fun d : Fin 4 => (dutyTok ER (barCell c) 0 d : sProp 𝕄))
      = bigSep Finset.univ fun c : Dev nD => bigSep Finset.univ fun d : Fin 4 => dutyTok ER (barCell (nb d c)) 0 (opp d) :=
    (bigSep_univ_prod (fun p : Dev nD × Fin 4 => (dutyTok ER (barCell p.1) 0 p.2 : sProp 𝕄))).symm.trans
      ((bigSep_univ_equiv e1 _).trans (bigSep_univ_prod (fun p : Dev nD × Fin 4 => (dutyTok ER (barCell (nb p.2 p.1)) 0 (opp p.2) : sProp 𝕄))))
  have h2 : (bigSep Finset.univ fun c : Dev nD => bigSep Finset.univ fun j : J => (dutyTok ER (rCell j c) 0 (0 : Fin 4) : sProp 𝕄))
      = bigSep Finset.univ fun c : Dev nD => bigSep Finset.univ fun j : J => dutyTok ER (rCell j (tgt j c)) 0 (0 : Fin 4) := by
    rw [bigSep_exch, bigSep_exch (fun (c : Dev nD) (j : J) => (dutyTok ER (rCell j (tgt j c)) 0 (0 : Fin 4) : sProp 𝕄))]
    exact bigSep_congr fun j _ => bigSep_univ_equiv (⟨tgt j, frm j, fun c => frm_tgt j c, fun c => tgt_frm j c⟩ : Dev nD ≃ Dev nD) _
  rw [bigSep_sep', bigSep_sep', bigSep_sep', h1, bigSep_congr fun (c : Dev nD) _ => bigSep_copies _, bigSep_sep']
  exact congrArg (fun A => iprop(_ ∗ _ ∗ A)) h2

/-! ## The launch's two steps -/

theorem fund_cells : BI.own (ER (initOf cells tokens)) ⊢ (|==> bigSep Finset.univ (G xv) : sProp 𝕄) := by
  have hX (Φ : GSem nD τ sig → sProp 𝕄) : bigSep cells Φ = bigSep Finset.univ fun c : Dev nD => bigSep Finset.univ fun k : Option (J × Bool) => Φ (kc (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_sum]; rfl
  have hG : bigSep Finset.univ (G xv) = iprop((bigSep Finset.univ fun c : Dev nD => bigSep Finset.univ fun k : Option (J × Bool) => roundState ER (Rd xv) (kc (c, k)) 0)
      ∗ ((bigSep Finset.univ fun c : Dev nD => ats c) ∗ bigSep Finset.univ fun c : Dev nD => bigSep Finset.univ fun k : Option (J × Bool) => reached ER (kc (c, k)) 0)
      ∗ bigSep Finset.univ fun c : Dev nD => toks c) := by
    unfold G; rw [bigSep_sep', bigSep_sep', bigSep_sep']
  iintro HX
  imod (Rounds.fund ER (Rd xv) cells tokens) $$ HX with ⟨Hst, Hr, Hat, Htok⟩
  imodintro
  ihave Hst := (Entails.of_eq (hX fun g => roundState ER (Rd xv) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  iapply (Entails.of_eq hG.symm)
  isplitl [Hst]; · iexact Hst
  isplitl [Hat Hr]
  · isplitl [Hat]; · unfold ats; iexact Hat
    iexact Hr
  iexact Htok

theorem ownSems0_eq (c : Dev nD) : (Pipeline.ownSems0 (Ix := Unit) (Name := ℕ) (U := UU) (Lvl := ℕ) (Val := Elt F) (τ := τ) osem c : sProp 𝕄)
    = iprop((bigSep Finset.univ fun j : J => semVal (sCell j c) 0) ∗ bigSep Finset.univ fun j : J => semVal (rCell j c) 0) := by
  unfold Pipeline.ownSems0; rw [bigSep_copies]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Option (J × Bool) => semVal (kc (c, k)) 0 : sProp 𝕄) := by
  rw [ownSems0_eq, unscopedSems0_eq, bigSep_opt, bigSep_copies]
  exact Entails.of_eq rfl

theorem invs_alloc (c : Dev nD) :
    iprop((bigSep Finset.univ fun k : Option (J × Bool) => semVal (kc (c, k)) 0) ∗ bigSep Finset.univ fun k : Option (J × Bool) => roundState ER (Rd xv) (kc (c, k)) 0)
      ⊢ (|={Set.univ}=> (bigSep Finset.univ fun k : Option (J × Bool) => iprop(∃ κ : ℕ, cellInv ER (Rd xv) κ (kc (c, k)))) : sProp 𝕄) := by
  rw [← bigSep_sep']
  exact (bigSep_mono fun k _ => (Rounds.body_intro ER (Rd xv) (kc (c, k))).trans inv_alloc).trans (bigSep_fupd _ _)

/-- One device's cells get their invariants. -/
def Mid (c : Dev nD) : sProp 𝕄 :=
  iprop((bigSep Finset.univ fun k : Option (J × Bool) => iprop(∃ κ : ℕ, cellInv ER (Rd xv) κ (kc (c, k))))
    ∗ (ats c ∗ bigSep Finset.univ fun k : Option (J × Bool) => reached ER (kc (c, k)) 0) ∗ toks c)

theorem core_alloc (c : Dev nD) :
    iprop(Pipeline.ownSems0 (Ix := Unit) (Name := ℕ) (U := UU) (Lvl := ℕ) (Val := Elt F) (τ := τ) osem c ∗ unscopedSems0 c ∗ G xv c)
      ⊢ |={Set.univ}=> Mid xv c := by
  unfold G Mid
  iintro ⟨Hos, Hus, Hst, Hat, Htok⟩
  ihave Hv := (sems0 (F := F) c) $$ [Hos Hus]
  · isplitl [Hos] <;> iassumption
  imod (invs_alloc xv c) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (by rw [← bigSep_sep'])

theorem regroup : (bigSep Finset.univ (Mid xv) : sProp 𝕄) ⊢ bigSep Finset.univ (G' xv) := by
  have hM : bigSep Finset.univ (Mid xv) = iprop((bigSep Finset.univ fun c : Dev nD => bigSep Finset.univ fun k : Option (J × Bool) => iprop(∃ κ : ℕ, cellInv ER (Rd xv) κ (kc (c, k))))
      ∗ ((bigSep Finset.univ fun c : Dev nD => ats c) ∗ bigSep Finset.univ fun c : Dev nD => bigSep Finset.univ fun k : Option (J × Bool) => reached ER (kc (c, k)) 0)
      ∗ bigSep Finset.univ fun c : Dev nD => toks c) := by
    unfold Mid; rw [bigSep_sep', bigSep_sep', bigSep_sep']
  have hR : records xv = iprop((bigSep Finset.univ fun c : Dev nD => bigSep Finset.univ fun k : Option (J × Bool) => iprop(∃ κ : ℕ, cellInv ER (Rd xv) κ (kc (c, k))))
      ∗ bigSep Finset.univ fun c : Dev nD => bigSep Finset.univ fun k : Option (J × Bool) => reached ER (kc (c, k)) 0) := by
    unfold records Rec
    rw [bigSep_sep', bigSep_univ_prod, bigSep_univ_prod]
  iintro H
  ihave H := (Entails.of_eq hM) $$ H
  icases H with ⟨HI, ⟨Hat, HR⟩, Htok⟩
  ihave Hrec := (Entails.of_eq hR.symm) $$ [HI HR]
  · isplitl [HI]; · iexact HI
    iexact HR
  ihave Htok := (Entails.of_eq (pays_all (F := F))) $$ Htok
  unfold G'
  iapply (with_persistent (R := records xv))
  isplitl [Hrec]; · iexact Hrec
  iapply (Entails.of_eq (bigSep_sep' Finset.univ (fun c : Dev nD => (ats c : sProp 𝕄)) pays).symm)
  isplitl [Hat]; · iexact Hat
  iexact Htok

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G xv c) : sProp 𝕄)
    ⊢ |={Set.univ}=> bigSep Finset.univ (G' xv) :=
  ((bigSep_mono fun c _ => core_alloc xv c).trans (bigSep_fupd _ _)).trans (BI.fupd_mono (regroup xv))

/-- What device `c` brings to the handshake and to the exchange from what it was dealt: the signals' rights with the
    destinations that go out, the copies' rights, the places. -/
theorem deal (c : Dev nD) :
    iprop(G' xv c ∗ (bigSep Finset.univ fun j : J => raw (F := F) j c)
        ∗ bigSep Finset.univ fun j : J => if ract j c = true then cred (tallyAt (rCell j c) () (amt j)) else iprop(emp))
      ⊢ iprop(records xv ∗ SB c 0 ∗ barAt c 0 ∗ Ent c) := by
  have hord : ∀ i, ord (ord i) = i := by decide
  have hA : (ats c : sProp 𝕄) = iprop(((bigSep Finset.univ fun j : J => atPos ER (sCell j c) 0 ∅ 0) ∗ bigSep Finset.univ fun j : J => atPos ER (rCell j c) 0 ∅ 0)
      ∗ atPos ER (barCell c) 0 ∅ 0) := by
    unfold ats; rw [bigSep_opt, bigSep_copies]; rfl
  have hP : (pays c : sProp 𝕄) ⊢ iprop((bigSep Finset.univ fun i : Fin 4 => if bact (ord i) c = true then dutyTok ER (barCell (nb (ord i) c)) 0 (opp (ord i)) else iprop(emp))
      ∗ bigSep Finset.univ fun j : J => if sact j c = true then iprop(dutyTok ER (sCell j c) 0 (0 : Fin 4) ∗ dutyTok ER (rCell j (tgt j c)) 0 (0 : Fin 4)) else iprop(emp)) := by
    unfold pays
    rw [bigSep_univ_equiv (⟨ord, ord, hord, hord⟩ : Fin 4 ≃ Fin 4) (fun d : Fin 4 => (dutyTok ER (barCell (nb d c)) 0 (opp d) : sProp 𝕄)), ← bigSep_sep']
    refine BI.sep_mono (bigSep_mono fun i _ => ?_) (bigSep_mono fun j _ => ?_)
    · by_cases h : bact (ord i) c = true
      · rw [if_pos h]; exact BI.Entails.refl _
      · rw [if_neg h]; exact BI.affine
    · by_cases h : sact j c = true
      · rw [if_pos h]; exact BI.Entails.refl _
      · rw [if_neg h]; exact BI.affine
  have hS : (SB c 0 : sProp 𝕄) = iprop((bigSep Finset.univ fun i : Fin 4 => if bact (ord i) c = true then dutyTok ER (barCell (nb (ord i) c)) 0 (opp (ord i)) else iprop(emp))
      ∗ bigSep Finset.univ fun i : Fin 4 => if bact (ord i) c = true then grant (F := F) (opp (ord i)) (nb (ord i) c) else iprop(emp)) := by
    unfold SB
    rw [← bigSep_sep']
    refine bigSep_congr fun i _ => ?_
    by_cases h : bact (ord i) c = true
    · rw [if_pos h, if_pos h, if_pos ⟨Nat.zero_le _, h⟩]; rfl
    · rw [if_neg h, if_neg h, if_neg fun h' => h h'.2]; exact (equiv_iff.mp emp_sep).symm
  unfold G' Ent
  iintro ⟨⟨Hrec, Hat, Hpay⟩, Hraw, Hcr⟩
  ihave Hat := (Entails.of_eq hA) $$ Hat
  icases Hat with ⟨⟨HaS, HaR⟩, HaB⟩
  ihave Hpay := hP $$ Hpay
  icases Hpay with ⟨HtB, HtJ⟩
  ihave Hraw := (Entails.of_eq (raws_split (F := F) c)) $$ Hraw
  icases Hraw with ⟨Hg, Hk⟩
  isplitl [Hrec]; · iexact Hrec
  isplitl [HtB Hg]
  · iapply (Entails.of_eq hS.symm)
    isplitl [HtB]; · iexact HtB
    iexact Hg
  isplitl [HaB]
  · iapply (barAt_zero (F := F) c); iexact HaB
  isplitl [HtJ]; · iexact HtJ
  isplitl [HaS]; · iexact HaS
  isplitl [HaR]; · iexact HaR
  isplitl [Hcr]; · iexact Hcr
  iexact Hk

end Cert.KernelIdeal.Exchange
end
-- ==== Proof.KernelIdeal.Credit.lean ====
/-
# What is owed at launch, and the credits it gives

Before anything a device owes a unit to each neighbour's barrier cell and the credit of every copy it sends.  So every
barrier cell's owner holds one unit per neighbour, and every receiver the credit of each copy that comes to it.
-/
module

public import proofs.«01_k».proof.Proof.KernelIdeal.Opening
public import proofs.«01_k».proof.Proof.KernelIdeal.Deal

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem rCell_ne_bar (j : J) (c d : Dev nD) : rCell j c ≠ barCell d := fun h => by
  have := congrArg Prod.snd h; cases this
theorem bar_eq_iff {a b : Dev nD} : barCell a = barCell b ↔ a = b :=
  ⟨fun h => congrArg (fun g : GSem nD τ sig => g.1.1) h, fun h => h ▸ rfl⟩
theorem rCell_eq_iff {j j' : J} {c c' : Dev nD} : rCell j c = rCell j' c' ↔ j = j' ∧ c = c' := by
  constructor
  · intro h
    have h := kc_injective (show kc (c, some (j, true)) = kc (c', some (j', true)) from h)
    exact ⟨(Prod.mk.inj (Option.some.inj (Prod.mk.inj h).2)).1, (Prod.mk.inj h).1⟩
  · rintro ⟨rfl, rfl⟩; rfl

theorem O_apply (k : ℕ) (d : Dev nD) (g : GSem nD τ sig) :
    O k d g () = ∑ j : J, if k ≤ tS j ∧ sact j d = true then (if g = rCell j (tgt j d) then amt j else 0) else 0 := by
  unfold O
  rw [Finset.sum_apply, Finsupp.finset_sum_apply]
  refine Finset.sum_congr rfl fun j _ => ?_
  by_cases h : k ≤ tS j ∧ sact j d = true
  · rw [if_pos h, if_pos h, tallyAt_apply]
    exact if_congr ⟨fun h => h.1, fun h => ⟨h, rfl⟩⟩ rfl rfl
  · rw [if_neg h, if_neg h]; rfl

theorem OB_apply (n : ℕ) (d : Dev nD) (g : GSem nD τ sig) :
    OB n d g () = O 0 d g () + ∑ i : Fin 4, if n ≤ i.val ∧ bact (ord i) d = true then (if g = barCell (nb (ord i) d) then 1 else 0) else 0 := by
  unfold OB
  rw [Pi.add_apply, Finsupp.add_apply, Finset.sum_apply, Finsupp.finset_sum_apply]
  congr 1
  refine Finset.sum_congr rfl fun i _ => ?_
  by_cases h : n ≤ i.val ∧ bact (ord i) d = true
  · rw [if_pos h, if_pos h, tallyAt_apply]
    exact if_congr ⟨fun h => h.1, fun h => ⟨h, rfl⟩⟩ rfl rfl
  · rw [if_neg h, if_neg h]; rfl

theorem OB_pos {n : ℕ} {c : Dev nD} {g : GSem nD τ sig} {u : Unit} (h : 0 < OB n c g u) :
    (∃ j, g = rCell j (tgt j c)) ∨ ∃ d, g = barCell d := by
  cases u
  rw [OB_apply] at h
  rcases Nat.eq_zero_or_pos (O 0 c g ()) with h0 | h0
  · rw [h0, Nat.zero_add] at h
    obtain ⟨i, -, hi⟩ := Finset.exists_ne_zero_of_sum_ne_zero h.ne'
    refine Or.inr ⟨nb (ord i) c, ?_⟩
    by_contra hg
    rw [if_neg hg, ite_self] at hi
    exact hi rfl
  · obtain ⟨j, -, hj⟩ := O_pos h0
    exact Or.inl ⟨j, hj⟩

/-! ## What each cell is owed -/

theorem owed_r (j : J) (c : Dev nD) : (∑ d : Dev nD, OB 0 d (rCell j c) ()) = if ract j c = true then amt j else 0 := by
  have h1 : ∀ d : Dev nD, OB 0 d (rCell j c) () = if d = frm j c then (if ract j c = true then amt j else 0) else 0 := by
    intro d
    rw [OB_apply, O_apply, Finset.sum_eq_zero (s := (Finset.univ : Finset (Fin 4))) fun i _ => by rw [if_neg (rCell_ne_bar _ _ _), ite_self], Nat.add_zero,
      Finset.sum_eq_single j]
    · by_cases hd : d = frm j c
      · subst hd
        have hs : sact j (frm j c) = ract j c := by unfold sact; rw [tgt_frm]
        rw [if_pos rfl, hs, tgt_frm, if_pos rfl]
        exact if_congr ⟨fun h => h.2, fun h => ⟨Nat.zero_le _, h⟩⟩ rfl rfl
      · have hz : (if rCell j c = rCell j (tgt j d) then amt j else 0) = 0 := if_neg fun h => hd (by rw [(rCell_eq_iff.mp h).2, frm_tgt])
        rw [if_neg hd, hz, ite_self]
    · intro j' _ hne
      have hz : (if rCell j c = rCell j' (tgt j' d) then amt j' else 0) = 0 := if_neg fun h => hne (rCell_eq_iff.mp h).1.symm
      rw [hz, ite_self]
    · intro h; exact absurd (Finset.mem_univ _) h
  rw [Finset.sum_congr rfl fun d _ => h1 d, Finset.sum_ite_eq' Finset.univ (frm j c), if_pos (Finset.mem_univ _)]

theorem signals_to : ∀ c : Fin 16, (∑ d : Fin 16, ∑ i : Fin 4, if 0 ≤ i.val ∧ bact (ord i) d = true then (if c = nb (ord i) d then 1 else 0) else 0)
    = 2 + (bact 2 c).toNat + (bact 3 c).toNat := by decide +kernel

theorem owed_bar (c : Dev nD) : (∑ d : Dev nD, OB 0 d (barCell c) ()) = 2 + (bact 2 c).toNat + (bact 3 c).toNat := by
  refine Eq.trans (Finset.sum_congr rfl fun d _ => ?_) (signals_to c)
  rw [OB_apply, O_apply, Finset.sum_eq_zero (s := (Finset.univ : Finset J)) fun j _ => by
    have hz : (if barCell c = rCell j (tgt j d) then amt j else 0) = 0 := if_neg fun h => rCell_ne_bar _ _ _ h.symm
    rw [hz, ite_self], Nat.zero_add]
  refine Finset.sum_congr rfl fun i _ => ?_
  exact if_congr Iff.rfl (if_congr bar_eq_iff rfl rfl) rfl

theorem launch_at (g : GSem nD τ sig) (n : ℕ) (h : (∑ d : Dev nD, OB 0 d g ()) = n) :
    tallyOn g (launchCredit (Pipeline.owing (OB 0)) 0 g) = (tallyAt g () n : CellTallies nD τ sig Unit) := by
  unfold tallyAt; refine congrArg _ (Finsupp.ext fun u => ?_); cases u
  rw [Pipeline.launchCredit_owing, Finsupp.single_eq_same]
  exact h

/-! ## The credits -/

/-- The units a device's barrier cell will get. -/
theorem crd_bar (c : Dev nD) : (cred (tallyAt (barCell c) () (2 + (bact 2 c).toNat + (bact 3 c).toNat)) : sProp 𝕄)
    ⊢ iprop(cred (tallyAt (barCell c) () 2) ∗ crd 2 c ∗ crd 3 c) := by
  have hc : ∀ d : Fin 4, (cred (tallyAt (barCell c) () (bact d c).toNat) : sProp 𝕄) = crd d c := by
    intro d
    unfold crd
    cases bact d c
    · rw [if_neg (by simp)]
      show (cred (tallyAt (barCell c) () 0) : sProp 𝕄) = _
      rw [tallyAt_zero, cred_zero]
    · rw [if_pos rfl]; rfl
  have e : (cred (tallyAt (barCell c) () (2 + (bact 2 c).toNat + (bact 3 c).toNat)) : sProp 𝕄)
      ⊢ iprop((cred (tallyAt (barCell c) () 2) ∗ cred (tallyAt (barCell c) () (bact 2 c).toNat)) ∗ cred (tallyAt (barCell c) () (bact 3 c).toNat)) := by
    rw [← tallyAt_add, ← tallyAt_add]
    exact BIBase.Entails.trans (cred_add _ _).1 (BI.sep_mono_l (cred_add _ _).1)
  rw [hc, hc] at e
  iintro H
  ihave H := e $$ H
  icases H with ⟨⟨H1, H2⟩, H3⟩
  isplitl [H1]; · iexact H1
  isplitl [H2]; · iexact H2
  iexact H3

/-- The cells a device holds credit for: its barrier cell and its arrivals. -/
def csem : Option J → SemLoc sig
  | none => .reg barS
  | some j => .dma (X j).rsem
theorem csem_injective : Function.Injective csem := by
  rintro (_ | j) (_ | j') h
  · rfl
  · exact absurd h.symm (osem_ne_bar (j', true))
  · exact absurd h (osem_ne_bar (j, true))
  · have h := osem_injective (show osem (j, true) = osem (j', true) from h)
    rw [(Prod.mk.inj h).1]

theorem creds (c : Dev nD) : (Pipeline.launchCred (OB 0) c : sProp 𝕄)
    ⊢ iprop((cred (tallyAt (barCell c) () 2) ∗ crd 2 c ∗ crd 3 c)
        ∗ bigSep Finset.univ fun j : J => if ract j c = true then cred (tallyAt (rCell j c) () (amt j)) else iprop(emp)) := by
  have h1 : (Pipeline.launchCred (OB 0) c : sProp 𝕄)
      = iprop((bigSep (Finset.univ.map ⟨csem, csem_injective⟩) fun sm : SemLoc sig => cred (tallyOn ((c : Thread nD τ), sm) (launchCredit (Pipeline.owing (OB 0)) 0 ((c : Thread nD τ), sm))))
        ∗ bigSep (Finset.univ \ Finset.univ.map ⟨csem, csem_injective⟩) fun sm : SemLoc sig => cred (tallyOn ((c : Thread nD τ), sm) (launchCredit (Pipeline.owing (OB 0)) 0 ((c : Thread nD τ), sm)))) := by
    unfold Pipeline.launchCred
    exact bigSep_sdiff_split (Finset.subset_univ _)
  have h2 : (bigSep (Finset.univ.map ⟨csem, csem_injective⟩) fun sm : SemLoc sig => (cred (tallyOn ((c : Thread nD τ), sm) (launchCredit (Pipeline.owing (OB 0)) 0 ((c : Thread nD τ), sm))) : sProp 𝕄))
      = iprop((bigSep Finset.univ fun j : J => if ract j c = true then cred (tallyAt (rCell j c) () (amt j)) else iprop(emp))
        ∗ cred (tallyAt (barCell c) () (2 + (bact 2 c).toNat + (bact 3 c).toNat))) := by
    rw [bigSep_map, bigSep_opt]
    have e1 : (bigSep Finset.univ fun j : J => (cred (tallyOn (rCell j c) (launchCredit (Pipeline.owing (OB 0)) 0 (rCell j c))) : sProp 𝕄))
        = bigSep Finset.univ fun j : J => if ract j c = true then cred (tallyAt (rCell j c) () (amt j)) else iprop(emp) := by
      refine bigSep_congr fun j _ => ?_
      rw [launch_at _ _ (owed_r j c)]
      by_cases h : ract j c = true
      · rw [if_pos h, if_pos h]
      · rw [if_neg h, if_neg h, tallyAt_zero, cred_zero]
    have e2 : (cred (tallyOn (barCell c) (launchCredit (Pipeline.owing (OB 0)) 0 (barCell c))) : sProp 𝕄)
        = cred (tallyAt (barCell c) () (2 + (bact 2 c).toNat + (bact 3 c).toNat)) := by
      rw [launch_at _ _ (owed_bar c)]
    exact congrArg₂ (fun A B => iprop(A ∗ B)) e1 e2
  iintro H
  ihave H := (Entails.of_eq h1) $$ H
  icases H with ⟨H, -⟩
  ihave H := (Entails.of_eq h2) $$ H
  icases H with ⟨Hr, Hb⟩
  isplitl [Hb]
  · iapply (crd_bar (F := F) c); iexact Hb
  iexact Hr

/-! ## Waiting for the staging copies -/

theorem mayWait_stage (c : Dev nD) (q : DmaSem sig) (hq : own q = none) (O : CellTallies nD τ sig Unit) (hO : O = OB 0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos hg with ⟨j, rfl⟩ | ⟨d, rfl⟩ <;> exact Finset.mem_singleton_self _)
      (fun p hp => by
        rw [Finset.mem_singleton.mp hp]
        show (match own q with | some (j, true) => lvJ j | _ => 0) ≤ 0
        rw [hq])
      (fun g u hg => by
        rcases OB_pos hg with ⟨j, rfl⟩ | ⟨d, rfl⟩
        · have := two_le_lv j
          exact lt_of_lt_of_eq (by omega) (lv_r j _).symm
        · exact Nat.one_pos)
  · rw [MayWait_zero]; iintro -; iempintro

end Cert.KernelIdeal.Exchange
end
-- ==== Proof.KernelIdeal.Launch.lean ====
/-
# The launch

The whole of one device's body between the pipeline's fetches and its write-back, and the run of all devices.
-/
module

public import proofs.«01_k».proof.Proof.KernelIdeal.Body
public import proofs.«01_k».proof.Proof.KernelIdeal.Exit
public import proofs.«01_k».proof.Proof.KernelIdeal.Credit
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.KernelIdeal.Exchange

open Cert.KernelIdeal Cert.KernelIdeal.Gen Cert.Plan
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## One device's body -/

section Run
variable (xs : Dev nD → S256x4096.Idx → Elt F .fp8e5m2) (ws : Dev nD → S4096x512.Idx → Elt F .fp8e5m2) (s1 s2 : Dev nD → S1.Idx → F .f32)

/-- What device `c` starts from, beside its staged operands. -/
def start (c : Dev nD) : sProp 𝕄 :=
  iprop(G' (xvOf xs) c ∗ ((cred (tallyAt (barCell c) () 2) ∗ crd 2 c ∗ crd 3 c)
      ∗ bigSep Finset.univ fun j : J => if ract j c = true then cred (tallyAt (rCell j c) () (amt j)) else iprop(emp)) ∗ levAts L lv)
/-- Its scratch buffers, at any contents. -/
def scr (c : Dev nD) : sProp 𝕄 := Pipeline.scopedRest cfg0.spec c
def Φ₀ (c : Dev nD) : sProp 𝕄 := iprop(start xs c ∗ scr c)
/-- What it ends with: every counter of its own at zero, the scratch buffers. -/
def Φ₁ (c : Dev nD) : sProp 𝕄 := iprop(unscopedSems0 c ∗ Pipeline.ownSems0 osem c ∗ scr c)

abbrev oPts (c : Dev nD) (f : S4096x512.Idx → F .f32) : sProp 𝕄 := oM.view.loc (c : Thread nD τ) ↦[Finset.univ]{fullShare} f

theorem grouped_mp (A B C D E H K M : sProp 𝕄) :
    iprop(A ∗ B ∗ C ∗ D ∗ E ∗ H ∗ K ∗ M) ⊢ iprop(A ∗ B ∗ ((C ∗ D) ∗ E) ∗ ((H ∗ K) ∗ M)) := by
  iintro ⟨H0, H1, H2, H3, H4, H5, H6, H7⟩
  isplitl [H0]; · iexact H0
  isplitl [H1]; · iexact H1
  isplitl [H2 H3 H4]
  · isplitl [H2 H3]
    · isplitl [H2]; · iexact H2
      iexact H3
    iexact H4
  isplitl [H5 H6]
  · isplitl [H5]; · iexact H5
    iexact H6
  iexact H7
theorem grouped_mpr (A B C D E H K M : sProp 𝕄) :
    iprop(A ∗ B ∗ ((C ∗ D) ∗ E) ∗ ((H ∗ K) ∗ M)) ⊢ iprop(A ∗ B ∗ C ∗ D ∗ E ∗ H ∗ K ∗ M) := by
  iintro ⟨H0, H1, ⟨⟨H2, H3⟩, H4⟩, ⟨H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7
theorem grouped (A B C D E H K M : sProp 𝕄) :
    iprop(A ∗ B ∗ C ∗ D ∗ E ∗ H ∗ K ∗ M) = iprop(A ∗ B ∗ ((C ∗ D) ∗ E) ∗ ((H ∗ K) ∗ M)) :=
  BI.Entails.antisymm (grouped_mp A B C D E H K M) (grouped_mpr A B C D E H K M)

/-- The scratch buffers: the device's block, its weights' copy, the destinations of the copies. -/
theorem scr_eq (c : Dev nD) : (scr c : sProp 𝕄)
    = iprop((∃ f, x8.view.loc (c : Thread nD τ) ↦[Finset.univ]{fullShare} f) ∗ (∃ f, w8.view.loc (c : Thread nD τ) ↦[Finset.univ]{fullShare} f)
        ∗ bigSep Finset.univ fun j : J => raw (F := F) j c) := by
  unfold scr
  rw [scopedRest0_eq, raws_eq]
  exact grouped _ _ _ _ _ _ _ _

theorem any_x8 (c : Dev nD) (V : S2x128x4096.Idx → Elt F .fp8e5m2) :
    (owns (c : Thread nD τ) x8 fullShare V : sProp 𝕄) ⊢ iprop(∃ f, x8.view.loc (c : Thread nD τ) ↦[Finset.univ]{fullShare} f) := by
  unfold owns
  iintro ⟨%f, -, H⟩
  iexists f
  rw [show x8.view.set = Finset.univ from View.set_whole _]
  iexact H

/-- What a device ends with, its result and its operands. -/
def done (c : Dev nD) : sProp 𝕄 :=
  iprop(Φ₁ c ∗ Owe c 0 ∗ xPts xs c ∗ wPts ws c ∗ s1Pts s1 c ∗ s2Pts s2 c ∗ oPts c (outAt (xvOf xs) ws (scOf s1 s2) c))

theorem end_done (c : Dev nD) :
    Sd (xvOf xs) ws (scOf s1 s2) (iprop(s2Pts s2 c ∗ s1Pts s1 c ∗ wPts ws c ∗ barDone c ∗ xPts xs c)) c 158 ⊢ |={Set.univ}=> done xs ws s1 s2 c := by
  unfold Sd D barDone done Φ₁
  iintro ⟨HSt, ⟨Hx8, Hw8, ⟨%f, %hf, Ho⟩⟩, Hs2, Hs1, Hw, Hb, Hx⟩
  imod (finish (xvOf xs) c _ rfl) $$ [HSt Hx8 Hb] with ⟨HO, Hraw, Hx8, HzB, HzS, HzR⟩
  · isplitl [HSt]; · iexact HSt
    isplitl [Hx8]; · iexact Hx8
    iexact Hb
  imodintro
  obtain rfl := filled_all (xvOf xs) ws (scOf s1 s2) c 158 le_rfl f hf
  isplitl [Hraw Hx8 Hw8 HzB HzS HzR]
  · isplitl [HzB]
    · iapply (Entails.of_eq (unscopedSems0_eq (F := F) c).symm); iexact HzB
    isplitl [HzS HzR]
    · iapply (Entails.of_eq (ownSems0_eq (F := F) c).symm)
      isplitl [HzS]; · iexact HzS
      iexact HzR
    iapply (Entails.of_eq (scr_eq (F := F) c).symm)
    isplitl [Hx8]
    · ihave Hx8 := (any_x8 (F := F) c _) $$ Hx8
      iexact Hx8
    isplitl [Hw8]
    · iexists _; iexact Hw8
    iexact Hraw
  isplitl [HO]; · iexact HO
  isplitl [Hx]; · iexact Hx
  isplitl [Hw]; · iexact Hw
  isplitl [Hs1]; · iexact Hs1
  isplitl [Hs2]; · iexact Hs2
  iexact Ho

/-- One device's body, whole. -/
theorem body_run (c : Dev nD) :
    iprop(Φ₀ xs c ∗ Owe c (OB 0 c) ∗ xPts xs c ∗ wPts ws c ∗ s1Pts s1 c ∗ s2Pts s2 c ∗ (∃ g, oPts c g))
      ⊢ wpC c (cc0_body xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19)
        (fun _ => done xs ws s1 s2 c) := by
  refine BIBase.Entails.trans ?_ (wp_fupd frame (wpE defs₀ 𝒱₀ (c : Thread nD τ) none) Set.univ _ _)
  unfold Φ₀ start
  iintro ⟨⟨⟨HG, ⟨⟨Hb, H2, H3⟩, Hcr⟩, Hlev⟩, Hscr⟩, HO, Hx, Hw, Hs1, Hs2, Ho⟩
  ihave Hscr := (Entails.of_eq (scr_eq (F := F) c)) $$ Hscr
  icases Hscr with ⟨⟨%f, Hx8⟩, ⟨%f', Hw8⟩, Hraw⟩
  ihave H := (deal (xvOf xs) c) $$ [HG Hraw Hcr]
  · isplitl [HG]; · iexact HG
    isplitl [Hraw]; · iexact Hraw
    iexact Hcr
  icases H with ⟨Hrec, HSB, Hbar, HEnt⟩
  iapply (body_walk xs ws s1 s2 c (f := f) (f' := f') (end_done xs ws s1 s2 c))
  unfold Sig
  isplitl [Hrec HO HSB]
  · isplitl [Hrec]; · iexact Hrec
    isplitl [HO]; · iexact HO
    iexact HSB
  isplitl [Hx]; · iexact Hx
  isplitl [Hx8]; · iexact Hx8
  isplitl [Hlev]; · iexact Hlev
  isplitl [Hbar]; · iexact Hbar
  isplitl [Hb]; · iexact Hb
  isplitl [H2]; · iexact H2
  isplitl [H3]; · iexact H3
  isplitl [HEnt]; · iexact HEnt
  isplitl [Hw]; · iexact Hw
  isplitl [Hw8]; · iexact Hw8
  isplitl [Hs1]; · iexact Hs1
  isplitl [Hs2]; · iexact Hs2
  iexact Ho

end Run

/-! ## The pipeline's data -/

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- The operands as the pipeline stages them. -/
def xstg (c : Dev nD) : S256x4096.Idx → Elt F .fp8e5m2 := (win0_0.blk (0 : Fin 1)).view.read (Elt F) ((s₀ m ρ).mem ((c : Thread nD τ).loc main_arg0))
def wstg (c : Dev nD) : S4096x512.Idx → Elt F .fp8e5m2 := (win0_1.blk (0 : Fin 1)).view.read (Elt F) ((s₀ m ρ).mem ((c : Thread nD τ).loc main_arg1))
def s1stg (c : Dev nD) : S1.Idx → F .f32 := (win0_2.blk (0 : Fin 1)).view.read (Elt F) ((s₀ m ρ).mem ((c : Thread nD τ).loc main_arg2))
def s2stg (c : Dev nD) : S1.Idx → F .f32 := (win0_3.blk (0 : Fin 1)).view.read (Elt F) ((s₀ m ρ).mem ((c : Thread nD τ).loc main_arg3))
/-- A device's result. -/
def outv (c : Dev nD) : S4096x512.Idx → F .f32 := outAt (xvOf (xstg m ρ)) (wstg m ρ) (scOf (s1stg m ρ) (s2stg m ρ)) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => s1stg m ρ c
    | ⟨3, _⟩ => s2stg m ρ c
    | ⟨4, _⟩ => outv m ρ c
  Φ t := match t with
    | ⟨0, _⟩ => Φ₀ (xstg m ρ) c
    | ⟨_ + 1, _⟩ => Φ₁ c
  q _ := fullShare
  owed t := match t with
    | ⟨0, _⟩ => OB 0 c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ (xstg m ρ) c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ c ∗ (dats m ρ 0 c).owesAt () t0_0.succ ∗ stg c cc0_stg0_0 (xstg m ρ c) ∗ stg c cc0_stg1_0 (wstg m ρ c)
    ∗ stg c cc0_stg2_0 (s1stg m ρ c) ∗ stg c cc0_stg3_0 (s2stg m ρ c) ∗ stg c cc0_stg4_0 (outv m ρ c))

theorem before_0 (c : Dev nD) (d) : (dats m ρ 0 c).before (0 : Fin 5) t0_0 d = xstg m ρ c := by unfold Dat.before; rw [if_pos (fetch0_0 t0_0)]; rfl
theorem before_1 (c : Dev nD) (d) : (dats m ρ 0 c).before (1 : Fin 5) t0_0 d = wstg m ρ c := by unfold Dat.before; rw [if_pos (fetch0_1 t0_0)]; rfl
theorem before_2 (c : Dev nD) (d) : (dats m ρ 0 c).before (2 : Fin 5) t0_0 d = s1stg m ρ c := by unfold Dat.before; rw [if_pos (fetch0_2 t0_0)]; rfl
theorem before_3 (c : Dev nD) (d) : (dats m ρ 0 c).before (3 : Fin 5) t0_0 d = s2stg m ρ c := by unfold Dat.before; rw [if_pos (fetch0_3 t0_0)]; rfl

theorem pre_of (c : Dev nD) : bodyPre m ρ c ⊢ iprop(Φ₀ (xstg m ρ) c ∗ Owe c (OB 0 c) ∗ xPts (xstg m ρ) c ∗ wPts (wstg m ρ) c
    ∗ s1Pts (s1stg m ρ) c ∗ s2Pts (s2stg m ρ) c ∗ (∃ g, oPts c g)) := by
  unfold bodyPre
  iintro ⟨HΦ, HO, ⟨%d0, %f0, %h0, H0⟩, ⟨%d1, %f1, %h1, H1⟩, ⟨%d2, %f2, %h2, H2⟩, ⟨%d3, %f3, %h3, H3⟩, ⟨%d4, %f4, %h4, H4⟩⟩
  obtain rfl := h0.trans (before_0 m ρ c d0)
  obtain rfl := h1.trans (before_1 m ρ c d1)
  obtain rfl := h2.trans (before_2 m ρ c d2)
  obtain rfl := h3.trans (before_3 m ρ c d3)
  isplitl [HΦ]; · iexact HΦ
  isplitl [HO]
  · unfold Dat.owesAt Pipeline.owesWithin Owe
    icases HO with ⟨%W, -, HO⟩
    iexists W; iexact HO
  isplitl [H0]; · iexact H0
  isplitl [H1]; · iexact H1
  isplitl [H2]; · iexact H2
  isplitl [H3]; · iexact H3
  iexists f4; iexact H4

theorem post_of (c : Dev nD) : done (xstg m ρ) (wstg m ρ) (s1stg m ρ) (s2stg m ρ) c ⊢ bodyPost m ρ c := by
  unfold bodyPost done
  iintro ⟨HΦ, HO, H0, H1, H2, H3, H4⟩
  isplitl [HΦ]; · iexact HΦ
  isplitl [HO]
  · unfold Dat.owesAt Pipeline.owesWithin Owe
    icases HO with ⟨%W, HO⟩
    iexists W
    isplitr
    · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem body_sound (c : Dev nD) : bodyPre m ρ c ⊢ wpC c (cc0_body xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19)
        (fun _ => bodyPost m ρ c) :=
  BIBase.Entails.trans (pre_of m ρ c) (BIBase.Entails.trans (body_run (xstg m ρ) (wstg m ρ) (s1stg m ρ) (s2stg m ρ) c)
    (wp_mono frame (wpE defs₀ 𝒱₀ (c : Thread nD τ) none) Set.univ fun _ => post_of m ρ c))

/-- The body table's row. -/
theorem row_at (t : Fin cfg0.N) : defs₀ (F := F) .tc cfg0.body (cfg0.bodyArgs t (cfg0.slots t)) = bodyAt0 t := by
  unfold defs₀; rw [Defs.onTc_tc]
theorem row : defs₀ (F := F) .tc cfg0.body (cfg0.bodyArgs t0_0 (cfg0.slots t0_0))
    = (cc0_body xM (Memref.isWhole_whole _) wM (Memref.isWhole_whole _) sxM (Memref.isWhole_whole _) swM (Memref.isWhole_whole _) oM (Memref.isWhole_whole _) x8 (Memref.isWhole_whole _) w8 (Memref.isWhole_whole _)
      zb (Memref.isWhole_whole _) za (Memref.isWhole_whole _) bl1 (Memref.isWhole_whole _) br1 (Memref.isWhole_whole _) bl2 (Memref.isWhole_whole _) br2 (Memref.isWhole_whole _)
      cc0_scratch8 cc0_scratch9 cc0_scratch10 cc0_scratch11 cc0_scratch12 cc0_scratch13 cc0_scratch14 cc0_scratch15 cc0_scratch16 cc0_scratch17 cc0_scratch18 cc0_scratch19) := by
  rw [row_at]

set_option maxHeartbeats 2000000 in
/-- The pipeline's obligation on device `c`. -/
theorem body_obligation (c : Dev nD) : BodyObligation (dats (F := F) m ρ 0 c) (defs₀ (F := F)) 𝒱₀ () Set.univ := fun t => by
  rw [fin_N0 t, row, bigSep_W0, bigSep_W0]
  simp only [owns_whole_eq]
  exact body_sound m ρ c

/-! ## The run -/

theorem ownSemFacts : Pipeline.OwnSemFacts cfg0.spec osem where
  isScoped := by decide +kernel
  inj := osem_injective
  disj k w s h := by
    obtain ⟨q, h1, h2⟩ := osem_own k
    rw [h1] at h
    have hn : ∀ (w : Fin 5) (s : Fin (cfg0.spec w).nbuf), own ((cfg0.spec w).sem s) = none := by decide
    have e : q = (cfg0.spec w).sem s := by injection h
    rw [e, hn] at h2
    cases h2

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf cells tokens)

theorem start_intro (c : Dev nD) :
    iprop(Pipeline.unscopedRestP Pipeline.Prefetch.none cfg0.spec c (fun b => m ((c : Thread nD τ).loc b)) ∗ levAts L lv
        ∗ Pipeline.launchCred (OB 0) c ∗ prngReg c (ρ c) ∗ G' (xvOf (xstg m ρ)) c)
      ⊢ |={Set.univ}=> iprop(start (xstg m ρ) c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start (xstg m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (xstg m ρ) c from rfl]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) :=
  BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-- What the run leaves in a window's array. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxHeartbeats 2000000 in
set_option maxRecDepth 8000 in
/-- From any memory with zero counters every weakly fair execution of the program ends, with each device's arrays at the
    computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := OB 0) (howed₀ := fun _ => rfl) (howedN := fun _ => rfl)
    (L := L) (lv := lv) (hL := L_of_ne) (hwaits := waits m ρ)
    (G := G (xvOf (xstg m ρ))) (G' := G' (xvOf (xstg m ρ))) (u₀ := u₀)
    (hu₀ := by
      unfold u₀
      iintro Hu
      ihave H := (ownU_pair _ _) $$ Hu
      icases H with ⟨HP, HX⟩
      imod (fund_cells (xvOf (xstg m ρ))) $$ HX with HG
      imodintro
      isplitl [HP] <;> iassumption)
    (hglob := glob (xvOf (xstg m ρ)))
    (hA := fun _ _ => rfl) (hpf := fun _ k => k.elim0)
    (X := start (xstg m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange
end
-- ==== Proof.KernelIdeal.Ends.lean ====
/-
# What a run ends with

Each device's arguments are what they were, and its result is the tiles' scaled products cut off below at zero.
-/
module

public import proofs.«01_k».proof.Proof.KernelIdeal.Launch

@[expose] public section

noncomputable section

namespace Cert.KernelIdeal.Exchange

open Cert.KernelIdeal Cert.KernelIdeal.Gen Cert.Plan
open Idealize.ShloMosaic Idealize.ShloMosaic.TcCoe Idealize.SL.Sem

variable {F : FTy → Type} [FloatOps F]
variable (m : (ℓ : Loc nD τ sig) → Buf (Elt F) ℓ) (ρ : Dev nD → PrngReg)

theorem kept_0 (c : Dev nD) : finalA m ρ c (0 : Fin 5) = m ((c : Thread nD τ).loc main_arg0) := (dats (F := F) m ρ 0 c).arrAt_in (0 : Fin 5) rfl _
theorem kept_1 (c : Dev nD) : finalA m ρ c (1 : Fin 5) = m ((c : Thread nD τ).loc main_arg1) := (dats (F := F) m ρ 0 c).arrAt_in (1 : Fin 5) rfl _
theorem kept_2 (c : Dev nD) : finalA m ρ c (2 : Fin 5) = m ((c : Thread nD τ).loc main_arg2) := (dats (F := F) m ρ 0 c).arrAt_in (2 : Fin 5) rfl _
theorem kept_3 (c : Dev nD) : finalA m ρ c (3 : Fin 5) = m ((c : Thread nD τ).loc main_arg3) := (dats (F := F) m ρ 0 c).arrAt_in (3 : Fin 5) rfl _

/-- The program ends, its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (0 : Fin 5)).trans (kept_0 m ρ c), (h.1 c (1 : Fin 5)).trans (kept_1 m ρ c),
    (h.1 c (2 : Fin 5)).trans (kept_2 m ρ c), (h.1 c (3 : Fin 5)).trans (kept_3 m ρ c)⟩, h.2⟩) (run_main m ρ)

end Cert.KernelIdeal.Exchange
end
-- ==== Proof.KernelIdeal.Value.lean ====
/-
# The result of a run

Every window is its whole array, so what a device stages is its argument and what it writes back is its result.
-/
module

public import proofs.«01_k».proof.Proof.KernelIdeal.Ends
public import Idealize.ShloMosaic.Lib.Pipeline.Value

@[expose] public section

noncomputable section

namespace Cert.KernelIdeal.Exchange

open Cert.KernelIdeal Cert.KernelIdeal.Gen Cert.Plan
open Idealize.ShloMosaic Idealize.ShloMosaic.TcCoe Idealize.SL.Sem

variable {F : FTy → Type} [FloatOps F]
variable (m : (ℓ : Loc nD τ sig) → Buf (Elt F) ℓ) (ρ : Dev nD → PrngReg)

/-! ## Every window's one block starts at the origin -/

theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)

/-- An index of the rows' block is that index of the array. -/
theorem same0 (t : Fin cfg0.N) (j : S256x4096.Idx) : (win0_0.blk t).view.emb j = j := by
  have e := at0 t
  refine funext fun a => Fin.ext ?_
  match a with
  | ⟨0, _⟩ => show win0_0.index t (0 : Fin 2) * 256 + 1 * (j 0).val = (j 0).val; rw [e.1]; omega
  | ⟨1, _⟩ => show win0_0.index t (1 : Fin 2) * 4096 + 1 * (j 1).val = (j 1).val; rw [e.2]; omega
/-- An index of the weights' block is that index of the array. -/
theorem same1 (t : Fin cfg0.N) (j : S4096x512.Idx) : (win0_1.blk t).view.emb j = j := by
  have e := at1 t
  refine funext fun a => Fin.ext ?_
  match a with
  | ⟨0, _⟩ => show win0_1.index t (0 : Fin 2) * 4096 + 1 * (j 0).val = (j 0).val; rw [e.1]; omega
  | ⟨1, _⟩ => show win0_1.index t (1 : Fin 2) * 512 + 1 * (j 1).val = (j 1).val; rw [e.2]; omega
/-- An index of the result's block is that index of the array. -/
theorem same4 (t : Fin cfg0.N) (j : S4096x512.Idx) : (win0_4.blk t).view.emb j = j := by
  have e := at4 t
  refine funext fun a => Fin.ext ?_
  match a with
  | ⟨0, _⟩ => show win0_4.index t (0 : Fin 2) * 4096 + 1 * (j 0).val = (j 0).val; rw [e.1]; omega
  | ⟨1, _⟩ => show win0_4.index t (1 : Fin 2) * 512 + 1 * (j 1).val = (j 1).val; rw [e.2]; omega

/-! ## What is staged -/

theorem xstg_eq (c : Dev nD) : xstg m ρ c = m ((c : Thread nD τ).loc main_arg0) :=
  funext fun j => congrArg (m ((c : Thread nD τ).loc main_arg0)) (same0 (0 : Fin 1) j)
theorem wstg_eq (c : Dev nD) : wstg m ρ c = m ((c : Thread nD τ).loc main_arg1) :=
  funext fun j => congrArg (m ((c : Thread nD τ).loc main_arg1)) (same1 (0 : Fin 1) j)
theorem s1stg_eq (c : Dev nD) : s1stg m ρ c = m ((c : Thread nD τ).loc main_arg2) :=
  funext fun j => congrArg (m ((c : Thread nD τ).loc main_arg2)) ((z1_only _).trans (z1_only j).symm)
theorem s2stg_eq (c : Dev nD) : s2stg m ρ c = m ((c : Thread nD τ).loc main_arg3) :=
  funext fun j => congrArg (m ((c : Thread nD τ).loc main_arg3)) ((z1_only _).trans (z1_only j).symm)

/-! ## What is written back -/

/-- The one point writes back the device's result. -/
theorem wrote (c : Dev nD) (t : Fin cfg0.N) :
    (dats m ρ 0 c).flushed (4 : Fin 5) t = ((cfg0.win (4 : Fin 5)).blk t).view.read (Elt F) (outv m ρ c) :=
  funext fun j => (congrArg (outv m ρ c) (same4 t j)).symm

/-- Every index of the result is in the one block. -/
theorem reached (i : S4096x512.Idx) : ∃ t : Fin cfg0.N, (cfg0.win (4 : Fin 5)).flush t = true ∧ i ∈ ((cfg0.win (4 : Fin 5)).blk t).view.set := by
  refine ⟨t0_0, flush0_4 _, ?_⟩
  have h := (win0_4.blk t0_0).view.emb_mem_set i
  rw [same4] at h
  exact h

/-- The result array at the end. -/
theorem final_out (c : Dev nD) : finalA m ρ c (4 : Fin 5) = outv m ρ c :=
  (dats m ρ 0 c).arrAt_eq_of_cover (4 : Fin 5) (outv m ρ c) (fun t _ => wrote m ρ c t) reached

/-- A device's result as a function of the devices' arguments. -/
def result (c : Dev nD) : S4096x512.Idx → F .f32 :=
  outAt (xvOf fun d : Dev nD => m ((d : Thread nD τ).loc main_arg0)) (fun d : Dev nD => m ((d : Thread nD τ).loc main_arg1))
    (scOf (fun d : Dev nD => m ((d : Thread nD τ).loc main_arg2)) fun d : Dev nD => m ((d : Thread nD τ).loc main_arg3)) c

theorem outv_eq (c : Dev nD) : outv m ρ c = result m c := by
  have h0 : xstg m ρ = fun d : Dev nD => m ((d : Thread nD τ).loc main_arg0) := funext (xstg_eq m ρ)
  have h1 : wstg m ρ = fun d : Dev nD => m ((d : Thread nD τ).loc main_arg1) := funext (wstg_eq m ρ)
  have h2 : s1stg m ρ = fun d : Dev nD => m ((d : Thread nD τ).loc main_arg2) := funext (s1stg_eq m ρ)
  have h3 : s2stg m ρ = fun d : Dev nD => m ((d : Thread nD τ).loc main_arg3) := funext (s2stg_eq m ρ)
  unfold outv result
  rw [h0, h1, h2, h3]

/-- The program ends with each device's result at its computed contents, its arguments as they were. -/
theorem run_result : θ_run defs (onTc (τ := τ) (main (F := F))) ⟨m, fun _ => 0, ρ⟩ (fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h.1 c (4 : Fin 5)).trans ((final_out m ρ c).trans (outv_eq m ρ c)),
    (h.1 c (0 : Fin 5)).trans (kept_0 m ρ c), (h.1 c (1 : Fin 5)).trans (kept_1 m ρ c),
    (h.1 c (2 : Fin 5)).trans (kept_2 m ρ c), (h.1 c (3 : Fin 5)).trans (kept_3 m ρ c)⟩) (run_main m ρ)

end Cert.KernelIdeal.Exchange
end
-- ==== Proof.Blocks.lean ====
/-
# The values, exactly

On exact values each entry of the kernel's result and of the reference's is the sum of products along the contracted
axis, times the two scales' product, cut off below at zero. Device `c`'s entry `(r, l)` takes row `r` of the whole first
operand, which is row `r % 256` of device `r / 256`'s block, and column `512 c + l` of the second.
-/
module

public import proofs.«01_k».proof.Proof.KernelIdeal.Steps
public import proofs.«01_k».proof.Proof.KernelIdeal.Opening
public import proofs.«01_k».proof.Proof.Gen.ReferenceIdeal.Skeleton
public import Idealize.ShloMosaic.Lib.MatmulPlain
public import Idealize.ShloMosaic.Lib.ValueIdx
public import Idealize.ShloMosaic.Lib.Layout
public import Idealize.ShloMosaic.Lib.Pipeline.Value

@[expose] public section

noncomputable section

namespace Cert.Blocks

open Idealize.ShloMosaic Idealize.ShloMosaic.ValueIdx
open scoped BigOperators

/-- One entry: the row against the column, scaled, cut off below at zero. -/
def entry (a b : Fin 4096 → EReal) (s : EReal) : EReal :=
  max ((Ideal.ofBits .f32 0x00000000#32 + ∑ k : Fin 4096, a k * b k) * s) (Ideal.ofBits .f32 0x00000000#32)

section Tile
open Cert.KernelIdeal Cert.KernelIdeal.Gen Cert.KernelIdeal.Exchange

/-- A block of 128 rows under a leading unit axis, read without it. -/
theorem rows_apply (a : Vec Ideal S1x128x4096 .fp8e5m2) (r : Fin 128) (k : Fin 4096) :
    shapeCast S128x4096 a shapeCasts_S1x128x4096_S128x4096 (ix2 r k) = a (ix3 (⟨0, Nat.one_pos⟩ : Fin 1) r k) :=
  (shapeCast_dropUnit_apply ![128, 4096] a _ (ix2 r k)).trans
    (congrArg a (funext fun x => match x with | ⟨0, _⟩ => rfl | ⟨1, _⟩ => rfl | ⟨2, _⟩ => rfl))

/-- A tile's entry. -/
theorem gtile_apply (s : EReal) (a : Vec Ideal S1x128x4096 .fp8e5m2) (b : Vec Ideal S4096x512 .fp8e5m2) (r : Fin 128) (l : Fin 512) :
    gtile (F := Ideal) s a b (ix2 r l) = entry (fun k => a (ix3 (⟨0, Nat.one_pos⟩ : Fin 1) r k)) (fun k => b (ix2 k l)) s := by
  have h := Ideal.matmul_plain_apply (M := 128) (K := 4096) (N := 512) (φ₂ := .fp8e5m2) none
    (shapeCast S128x4096 a shapeCasts_S1x128x4096_S128x4096 : FVec Ideal S128x4096 .fp8e5m2) b (constant S128x512 .f32 0x00000000#32) r l
  refine (congrArg (fun z : EReal => max (z * s) (Ideal.ofBits .f32 0x00000000#32)) h).trans ?_
  have e : ∀ k : Fin 4096, (shapeCast S128x4096 a shapeCasts_S1x128x4096_S128x4096 (ix2 r k) : EReal) * b (ix2 k l)
      = a (ix3 (⟨0, Nat.one_pos⟩ : Fin 1) r k) * b (ix2 k l) := fun k => congrArg (fun z : EReal => z * b (ix2 k l)) (rows_apply a r k)
  exact congrArg (fun z : EReal => max ((Ideal.ofBits .f32 0x00000000#32 + z) * s) (Ideal.ofBits .f32 0x00000000#32))
    (Finset.sum_congr rfl fun k _ => e k)

/-- Half `h` of a block, row `r`. -/
theorem chunk_apply (xs : Dev nD → S256x4096.Idx → Elt Ideal .fp8e5m2) (d : Dev nD) (h : Fin 2) (r : Fin 128) (k : Fin 4096) :
    chunk (F := Ideal) (xvOf xs) d h (ix3 (⟨0, Nat.one_pos⟩ : Fin 1) r k)
      = xs d (ix2 ⟨128 * h.val + r.val, by have := h.isLt; have := r.isLt; omega⟩ k) := by
  unfold chunk xvOf
  refine congrArg (xs d) (funext fun x => Fin.ext ?_)
  match x with
  | ⟨0, _⟩ =>
    show 128 * (h.val + 1 * 0) + (0 + 1 * r.val) = 128 * h.val + r.val
    omega
  | ⟨1, _⟩ => show 0 + 1 * k.val = k.val; omega

/-- A device's entry. -/
theorem outAt_apply (xs : Dev nD → S256x4096.Idx → Elt Ideal .fp8e5m2) (ws : Dev nD → S4096x512.Idx → Elt Ideal .fp8e5m2)
    (sc : Dev nD → EReal) (c : Dev nD) (i : S4096x512.Idx) :
    outAt (F := Ideal) (xvOf xs) ws sc c i
      = entry (fun k => xs ⟨(i 0).val / 256, by have : (i 0).val < 4096 := (i 0).isLt; show _ < 16; omega⟩ (ix2 ⟨(i 0).val % 256, by omega⟩ k))
          (fun k => ws c (ix2 k ⟨(i 1).val, (i 1).isLt⟩)) (sc c) := by
  refine (gtile_apply _ _ _ _ _).trans ?_
  refine congrArg (fun a => entry a _ _) (funext fun k => ?_)
  refine (chunk_apply xs _ _ _ k).trans (congrArg (xs _) ?_)
  refine congrArg (fun q : Fin 256 => ix2 q k) (Fin.ext ?_)
  show 128 * ((i 0).val % 256 / 128) + (i 0).val % 128 = (i 0).val % 256
  omega

end Tile

section Whole
open Cert.ReferenceIdeal Cert.ReferenceIdeal.Gen

/-- The reference's entry. -/
theorem whole_apply (x : Vec Ideal S4096x4096 .fp8e5m2) (w : Vec Ideal S4096x8192 .fp8e5m2) (s t : Vec Ideal S1 .f32) (z : S1.Idx)
    (r : Fin 4096) (l : Fin 8192) :
    k0_pay1 (F := Ideal) x w s t (ix2 r l) = entry (fun k => x (ix2 r k)) (fun k => w (ix2 k l)) (s z * t z) := by
  have h := Ideal.matmul_plain_apply (M := 4096) (K := 4096) (N := 8192) none
    (extf .f32 x bitsLt_fp8e5m2_f32 : FVec Ideal S4096x4096 .f32) (extf .f32 w bitsLt_fp8e5m2_f32 : FVec Ideal S4096x8192 .f32)
    (constant S4096x8192 .f32 0x00000000#32) r l
  have hz : ∀ y : S1.Idx, y = z := fun y => funext fun a => Fin.ext (by
    have h3 : ∀ a, S1.size a = 1 := by decide
    have h1 := (y a).isLt
    have h2 := (z a).isLt
    have h4 := h3 a
    omega)
  have hs : ∀ y : S1.Idx, (mulf s t : FVec Ideal S1 .f32) y = s z * t z := fun y => by rw [hz y]; rfl
  refine (congrArg (fun q : EReal => max (q * (broadcastTo S4096x8192 (shapeCast S1x1 (mulf s t : FVec Ideal S1 .f32) shapeCasts_S1_S1x1)
    broadcasts_S1x1_S4096x8192 (ix2 r l))) (Ideal.ofBits .f32 0x00000000#32)) h).trans ?_
  have hb : broadcastTo S4096x8192 (shapeCast S1x1 (mulf s t : FVec Ideal S1 .f32) shapeCasts_S1_S1x1) broadcasts_S1x1_S4096x8192 (ix2 r l)
      = s z * t z := hs _
  rw [hb]
  rfl

end Whole

/-- Device `c`'s result, from the blocks of the whole operands, is block `c` of the reference's result. -/
theorem block_eq (X : Vec Ideal Cert.ReferenceIdeal.S4096x4096 .fp8e5m2) (W : Vec Ideal Cert.ReferenceIdeal.S4096x8192 .fp8e5m2)
    (s t : Vec Ideal Cert.ReferenceIdeal.S1 .f32) (c : Dev Cert.KernelIdeal.nD) :
    Cert.KernelIdeal.Exchange.outAt (F := Ideal)
        (Cert.KernelIdeal.Exchange.xvOf fun d => Layout.block ⟨2, ![256, 4096]⟩ ⟨2, ![4096, 4096]⟩ 0 16 d X)
        (fun d => Layout.block ⟨2, ![4096, 512]⟩ ⟨2, ![4096, 8192]⟩ 1 16 d W)
        (Cert.KernelIdeal.Exchange.scOf (fun _ => s) fun _ => t) c
      = Layout.block ⟨2, ![4096, 512]⟩ ⟨2, ![4096, 8192]⟩ 1 16 c (Cert.ReferenceIdeal.Gen.k0_pay1 (F := Ideal) X W s t) := by
  funext i
  refine (outAt_apply _ _ _ c i).trans ?_
  have hi : (i 0).val < 4096 := (i 0).isLt
  have hl : (i 1).val < 512 := (i 1).isLt
  have hc : c.val < 16 := c.isLt
  refine Eq.trans ?_ (congrArg (Cert.ReferenceIdeal.Gen.k0_pay1 (F := Ideal) X W s t)
    (show ix2 (⟨(i 0).val, hi⟩ : Fin 4096) (⟨c.val * 512 + (i 1).val, by omega⟩ : Fin 8192) = _ from
      funext fun a => match a with | ⟨0, _⟩ => rfl | ⟨1, _⟩ => rfl))
  refine Eq.trans ?_ (whole_apply X W s t Cert.KernelIdeal.Exchange.z1 _ _).symm
  have hx : ∀ k : Fin 4096, Layout.block ⟨2, ![256, 4096]⟩ ⟨2, ![4096, 4096]⟩ 0 16 (⟨(i 0).val / 256, by omega⟩ : Fin 16) X
      (by decide) (ix2 ⟨(i 0).val % 256, by omega⟩ k) = X (ix2 ⟨(i 0).val, hi⟩ k) := fun k =>
    congrArg X (funext fun a => match a with
      | ⟨0, _⟩ => Fin.ext (show (i 0).val / 256 * 256 + (i 0).val % 256 = (i 0).val by omega)
      | ⟨1, _⟩ => rfl)
  have hw : ∀ k : Fin 4096, Layout.block ⟨2, ![4096, 512]⟩ ⟨2, ![4096, 8192]⟩ 1 16 c W (by decide) (ix2 k ⟨(i 1).val, hl⟩)
      = W (ix2 k ⟨c.val * 512 + (i 1).val, by omega⟩) := fun k =>
    congrArg W (funext fun a => match a with | ⟨0, _⟩ => rfl | ⟨1, _⟩ => rfl)
  exact congrArg₂ (fun a b => entry a b _) (funext hx) (funext hw)

end Cert.Blocks
end
-- ==== Proof.lean ====
/-
# The claims

Both programs' runs and what they keep, the reference's run, and the values of the two against each other.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Ends
public import proofs.«01_k».proof.Proof.KernelIdeal.Value
public import proofs.«01_k».proof.Proof.Blocks
public import Idealize.ShloMosaic.Adequacy
public import Idealize.ShloMosaic.Init

@[expose] public section

noncomputable section

namespace Cert.Proof

open Idealize.ShloMosaic Idealize.SL.Sem

/-- Where each device holds its blocks of the reference's operands and the same scales, each device's result is its
    block of the reference's. -/
theorem result_block (m : (ℓ : Loc Cert.KernelIdeal.nD Cert.KernelIdeal.τ Cert.KernelIdeal.sig) → Buf (Elt Ideal) ℓ)
    (X : Vec Ideal Cert.ReferenceIdeal.S4096x4096 .fp8e5m2) (W : Vec Ideal Cert.ReferenceIdeal.S4096x8192 .fp8e5m2)
    (s t : Vec Ideal Cert.ReferenceIdeal.S1 .f32)
    (h : ∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c X
      ∧ m ((c.tc : Thread Cert.KernelIdeal.nD Cert.KernelIdeal.τ).loc Cert.KernelIdeal.main_arg1) = Layout.block ⟨2, ![4096, 512]⟩ ⟨2, ![4096, 8192]⟩ 1 16 c W
      ∧ m ((c.tc : Thread Cert.KernelIdeal.nD Cert.KernelIdeal.τ).loc Cert.KernelIdeal.main_arg2) = s
      ∧ m ((c.tc : Thread Cert.KernelIdeal.nD Cert.KernelIdeal.τ).loc Cert.KernelIdeal.main_arg3) = t)
    (c : Dev Cert.KernelIdeal.nD) :
    Cert.KernelIdeal.Exchange.result m c
      = Layout.block ⟨2, ![4096, 512]⟩ ⟨2, ![4096, 8192]⟩ 1 16 c (Cert.ReferenceIdeal.Value.G4 (F := Ideal) X W s t) := by
  refine Eq.trans ?_ (Cert.Blocks.block_eq X W s t c)
  unfold Cert.KernelIdeal.Exchange.result
  rw [funext fun d => (h d).1, funext fun d => (h d).2.1, funext fun d => (h d).2.2.1, funext fun d => (h d).2.2.2]

/-- The claims of the certificate, together. -/
theorem claim : Cert.Claim :=
  ⟨Cert.Kernel.Gen.facts, Cert.KernelIdeal.Gen.facts, Cert.ReferenceIdeal.Gen.facts,
    fun m ρ _ => Cert.Kernel.Exchange.frame m ρ,
    fun m ρ _ => Cert.KernelIdeal.Exchange.frame m ρ,
    fun m ρ _ => Cert.ReferenceIdeal.Gen.frame m ρ,
    trivial,
    fun m ρ _ _ _ h => ⟨_,
      (θ_run _ _ _).mono (fun _ H c => ⟨(H c).1.trans (result_block m _ _ _ _ h c), (H c).2⟩) (Cert.KernelIdeal.Exchange.run_result m ρ),
      (θ_run _ _ _).mono (fun _ H => H 0) (Cert.ReferenceIdeal.Value.run _ _)⟩⟩

end Cert.Proof

end
